-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v33_0)) (v1 : (c : Dev Cert.Kernel4Ideal.nD) → Buf (Elt Ideal) ((c.tc : Thread Cert.Kernel4Ideal.nD Cert.Kernel4Ideal.τ).loc Cert.Kernel4Ideal.main_v33_1)) (v2 : (c : Dev Cert.Kernel4Ideal.nD) → Buf (Elt Ideal) ((c.tc : Thread Cert.Kernel4Ideal.nD Cert.Kernel4Ideal.τ).loc Cert.Kernel4Ideal.main_v33_2)) (v3 : (c : Dev Cert.Kernel4Ideal.nD) → Buf (Elt Ideal) ((c.tc : Thread Cert.Kernel4Ideal.nD Cert.Kernel4Ideal.τ).loc Cert.Kernel4Ideal.main_v33_4)) (v4 : (c : Dev Cert.Kernel4Ideal.nD) → Buf (Elt Ideal) ((c.tc : Thread Cert.Kernel4Ideal.nD Cert.Kernel4Ideal.τ).loc Cert.Kernel4Ideal.main_v33_5)) (v5 : (c : Dev Cert.Kernel4Ideal.nD) → Buf (Elt Ideal) ((c.tc : Thread Cert.Kernel4Ideal.nD Cert.Kernel4Ideal.τ).loc Cert.Kernel4Ideal.main_v33_6)) (v6 : (c : Dev Cert.Kernel4Ideal.nD) → Buf (Elt Ideal) ((c.tc : Thread Cert.Kernel4Ideal.nD Cert.Kernel4Ideal.τ).loc Cert.Kernel4Ideal.main_v33_7)) (v7 : (c : Dev Cert.Kernel4Ideal.nD) → Buf (Elt Ideal) ((c.tc : Thread Cert.Kernel4Ideal.nD Cert.Kernel4Ideal.τ).loc Cert.Kernel4Ideal.main_v33_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33_0) = v0 c
          ∧ r.2.mem ((c.tc : Thread Cert.Kernel4Ideal.nD Cert.Kernel4Ideal.τ).loc Cert.Kernel4Ideal.main_v33_1) = v1 c
          ∧ r.2.mem ((c.tc : Thread Cert.Kernel4Ideal.nD Cert.Kernel4Ideal.τ).loc Cert.Kernel4Ideal.main_v33_2) = v2 c
          ∧ r.2.mem ((c.tc : Thread Cert.Kernel4Ideal.nD Cert.Kernel4Ideal.τ).loc Cert.Kernel4Ideal.main_v33_4) = v3 c
          ∧ r.2.mem ((c.tc : Thread Cert.Kernel4Ideal.nD Cert.Kernel4Ideal.τ).loc Cert.Kernel4Ideal.main_v33_5) = v4 c
          ∧ r.2.mem ((c.tc : Thread Cert.Kernel4Ideal.nD Cert.Kernel4Ideal.τ).loc Cert.Kernel4Ideal.main_v33_6) = v5 c
          ∧ r.2.mem ((c.tc : Thread Cert.Kernel4Ideal.nD Cert.Kernel4Ideal.τ).loc Cert.Kernel4Ideal.main_v33_7) = v6 c
          ∧ r.2.mem ((c.tc : Thread Cert.Kernel4Ideal.nD Cert.Kernel4Ideal.τ).loc Cert.Kernel4Ideal.main_v33_8) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_v62) = v4 c
          ∧ r.2.mem ((c.tc : Thread Cert.Reference4Ideal.nD Cert.Reference4Ideal.τ).loc Cert.Reference4Ideal.main_v64) = v5 c
          ∧ r.2.mem ((c.tc : Thread Cert.Reference4Ideal.nD Cert.Reference4Ideal.τ).loc Cert.Reference4Ideal.main_v65) = v6 c
          ∧ r.2.mem ((c.tc : Thread Cert.Reference4Ideal.nD Cert.Reference4Ideal.τ).loc Cert.Reference4Ideal.main_v66) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S2x8x8192x128 : Shape := ⟨4, ![2, 8, 8192, 128]⟩
abbrev S2x512x8192 : Shape := ⟨3, ![2, 512, 8192]⟩
abbrev S_ : Shape := ⟨0, ![]⟩

class Facts : Prop where
  bitsLt_bf16_f32 : FTy.bits .bf16 < FTy.bits .f32
  bcast_S_S2x8x8192x128 : S_.BroadcastsInDim S2x8x8192x128 (![] : Fin 0 → Fin S2x8x8192x128.rank)

variable [Facts]

def fn {F : FTy → Type} [FloatOps F] (main_arg0 : FVec F S2x8x8192x128 .bf16) (main_arg1 : FVec F S2x8x8192x128 .bf16) (main_arg2 : FVec F S2x512x8192 .bf16) : IVec S2x8x8192x128 1 × IVec S2x8x8192x128 1 :=
  let main_v0 : FVec F S2x8x8192x128 .f32 := (extf .f32 · bitsLt_bf16_f32) main_arg0
  let main_v1 : FVec F S2x8x8192x128 .f32 := Host.absf main_v0
  let main_cst : FVec F S_ .f32 := constant S_ .f32 0x7F800000#32
  let main_v2 : FVec F S2x8x8192x128 .f32 := broadcastInDim S2x8x8192x128 ![] bcast_S_S2x8x8192x128 main_cst
  let main_v3 : IVec S2x8x8192x128 1 := cmpf .olt main_v1 main_v2
  let main_v4 : FVec F S2x8x8192x128 .f32 := (extf .f32 · bitsLt_bf16_f32) main_arg1
  let main_v5 : FVec F S2x8x8192x128 .f32 := Host.absf main_v4
  let main_cst_0 : FVec F S_ .f32 := constant S_ .f32 0x7F800000#32
  let main_v6 : FVec F S2x8x8192x128 .f32 := broadcastInDim S2x8x8192x128 ![] bcast_S_S2x8x8192x128 main_cst_0
  let main_v7 : IVec S2x8x8192x128 1 := cmpf .olt main_v5 main_v6
  (main_v3, main_v7)
-- ==== Pre_finite2.lean ====
abbrev S2x8192x1024 : Shape := ⟨3, ![2, 8192, 1024]⟩
abbrev S2x1x3072 : Shape := ⟨3, ![2, 1, 3072]⟩
abbrev S16384x512 : Shape := ⟨2, ![16384, 512]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)

variable [Facts]

def fn {F : FTy → Type} [FloatOps F] (main_arg0 : FVec F S2x8192x1024 .f32) (main_arg1 : FVec F S2x1x3072 .f32) (main_arg2 : FVec F S16384x512 .bf16) (main_arg3 : FVec F S16384x512 .bf16) (main_arg4 : FVec F S16384x512 .bf16) (main_arg5 : FVec F S16384x512 .bf16) (main_arg6 : FVec F S16384x512 .bf16) (main_arg7 : FVec F S256x512 .f32) (main_arg8 : FVec F S512 .f32) (main_arg9 : FVec F S1024x1024 .f32) (main_arg10 : FVec F S1024 .f32) (main_arg11 : FVec F S1024 .f32) : IVec S16384x512 1 × IVec S16384x512 1 :=
  let main_v0 : FVec F S16384x512 .f32 := (extf .f32 · bitsLt_bf16_f32) main_arg4
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg6
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  (main_v3, main_v7)
-- ==== Pre_finite3.lean ====
abbrev S128x8x1024 : Shape := ⟨3, ![128, 8, 1024]⟩
abbrev S128x1x3072 : Shape := ⟨3, ![128, 1, 3072]⟩
abbrev S1024x512 : Shape := ⟨2, ![1024, 512]⟩
abbrev S1024x2048 : Shape := ⟨2, ![1024, 2048]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)

variable [Facts]

def fn {F : FTy → Type} [FloatOps F] (main_arg0 : FVec F S128x8x1024 .f32) (main_arg1 : FVec F S128x1x3072 .f32) (main_arg2 : FVec F S1024x512 .bf16) (main_arg3 : FVec F S1024x512 .bf16) (main_arg4 : FVec F S1024x512 .bf16) (main_arg5 : FVec F S1024x2048 .f32) (main_arg6 : FVec F S1024x512 .bf16) (main_arg7 : FVec F S256x512 .f32) (main_arg8 : FVec F S512 .f32) (main_arg9 : FVec F S1024x1024 .f32) (main_arg10 : FVec F S1024 .f32) (main_arg11 : FVec F S1024 .f32) : IVec S1024x512 1 × IVec S1024x512 1 :=
  let main_v0 : FVec F S1024x512 .f32 := (extf .f32 · bitsLt_bf16_f32) main_arg4
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_v4 : FVec F S1024x512 .f32 := (extf .f32 · bitsLt_bf16_f32) main_arg6
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  (main_v3, main_v7)
-- ==== Kernel.lean ====
abbrev S2x8x8192x128 : Shape := ⟨4, ![2, 8, 8192, 128]⟩
abbrev S2x512x8192 : Shape := ⟨3, ![2, 512, 8192]⟩
abbrev S20 : Shape := ⟨1, ![20]⟩
abbrev S2x8192x512 : Shape := ⟨3, ![2, 8192, 512]⟩
abbrev S1x2x1024x128 : Shape := ⟨4, ![1, 2, 1024, 128]⟩
abbrev S1 : Shape := ⟨1, ![1]⟩
abbrev S1x2x2048x128 : Shape := ⟨4, ![1, 2, 2048, 128]⟩
abbrev S1x128x2048 : Shape := ⟨3, ![1, 128, 2048]⟩
abbrev S1x1024x128 : Shape := ⟨3, ![1, 1024, 128]⟩
abbrev S2x1x1024 : Shape := ⟨3, ![2, 1, 1024]⟩
abbrev S128x1024 : Shape := ⟨2, ![128, 1024]⟩
abbrev S1x1x256x128 : Shape := ⟨4, ![1, 1, 256, 128]⟩
abbrev S256x128 : Shape := ⟨2, ![256, 128]⟩
abbrev S1x1x1024x128 : Shape := ⟨4, ![1, 1, 1024, 128]⟩
abbrev S1024x128 : Shape := ⟨2, ![1024, 128]⟩
abbrev S256x1024 : Shape := ⟨2, ![256, 1024]⟩
abbrev S16x256 : Shape := ⟨2, ![16, 256]⟩
abbrev S1024 : Shape := ⟨1, ![1024]⟩
abbrev S1x1024 : Shape := ⟨2, ![1, 1024]⟩
abbrev S1x64x256 : Shape := ⟨3, ![1, 64, 256]⟩
abbrev S64x256 : Shape := ⟨2, ![64, 256]⟩
abbrev S80x256 : Shape := ⟨2, ![80, 256]⟩
abbrev S80x1024 : Shape := ⟨2, ![80, 1024]⟩
abbrev S64x1024 : Shape := ⟨2, ![64, 1024]⟩
abbrev S1x1x1024 : Shape := ⟨3, ![1, 1, 1024]⟩

abbrev nBuf : Space → Nat
  | .hbm => 4
  | .vmem => 11
  | .smem => 3
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x512x8192, .bf16⟩
  | .hbm, ⟨3, _⟩ => ⟨S2x8192x512, .bf16⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x1x1024, .f32⟩
  | .local _ .vmem, ⟨9, _⟩ => ⟨S2x1x1024, .f32⟩
  | .local _ .vmem, ⟨10, _⟩ => ⟨S128x1024, .f32⟩
  | .local _ .smem, ⟨0, _⟩ => ⟨S20, .i32⟩
  | .local _ .smem, ⟨1, _⟩ => ⟨S20, .i32⟩
  | .local _ .smem, ⟨2, _⟩ => ⟨S20, .i32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 20], ![false, false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_off2 (i : grid0.Coords) : Fin 1 → Nat :=
  let arg2 : BitVec 32 := BitVec.ofNat 32 (i 2).val
  let v19 : Index := Scalar.indexCast arg2
  ![v19.toNat]
def k0_cond5 (v20 : BitVec 32) : BitVec 1 :=
  let c1_i32 : BitVec 32 := 1#32
  let v21 : BitVec 1 := Scalar.cmpi .eq v20 c1_i32
  let v22 : BitVec 32 := Scalar.extui v21
  let c0_i32_7 : BitVec 32 := 0#32
  let v23 : BitVec 1 := Scalar.cmpi .ne v22 c0_i32_7
  v23

def cc0_transform_0 (k0_off1_inb : ∀ i : grid0.Coords, ∀ a, (k0_off1 i) a + S1.size a ≤ S20.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S20) ![v0.toNat] S1.size (k0_off1_inb i)) numel1_S1
  let c0_i32 : BitVec 32 := 0#32
  let c0_i32_0 : BitVec 32 := 0#32
  ![arg0.toNat, arg1.toNat, v1.toNat, c0_i32.toNat]

def cc0_transform_1 (k0_off1_inb : ∀ i : grid0.Coords, ∀ a, (k0_off1 i) a + S1.size a ≤ S20.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S20) ![v0.toNat] S1.size (k0_off1_inb i)) numel1_S1
  let c0_i32 : BitVec 32 := 0#32
  let c0_i32_0 : BitVec 32 := 0#32
  ![arg0.toNat, arg1.toNat, v1.toNat, c0_i32.toNat]

def cc0_transform_2 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S20) ![v0.toNat] S1.size (k0_off1_inb i)) numel1_S1
  let c0_i32 : BitVec 32 := 0#32
  ![arg0.toNat, arg1.toNat, v1.toNat]

def cc0_transform_3 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S20) ![v0.toNat] S1.size (k0_off1_inb i)) numel1_S1
  let c0_i32 : BitVec 32 := 0#32
  ![arg0.toNat, v1.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x8192x128 : Shape := ⟨4, ![2, 8, 8192, 128]⟩
abbrev S2x512x8192 : Shape := ⟨3, ![2, 512, 8192]⟩
abbrev S2x8x64x8192 : Shape := ⟨4, ![2, 8, 64, 8192]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8192x8x64 : Shape := ⟨4, ![2, 8192, 8, 64]⟩
abbrev S2x8192x512 : Shape := ⟨3, ![2, 8192, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x512x8192, .bf16⟩
  | .hbm, ⟨3, _⟩ => ⟨S2x8x8192x128, .f32⟩
  | .hbm, ⟨4, _⟩ => ⟨S2x8x8192x128, .f32⟩
  | .hbm, ⟨5, _⟩ => ⟨S2x512x8192, .f32⟩
  | .hbm, ⟨6, _⟩ => ⟨S2x8x64x8192, .f32⟩
  | .hbm, ⟨7, _⟩ => ⟨S2x8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S2x8x8192x8192, .i1⟩
  | .hbm, ⟨17, _⟩ => ⟨S2x8x8192x8192, .f32⟩
  | .hbm, ⟨18, _⟩ => ⟨S2x8x8192x8192, .f32⟩
  | .hbm, ⟨19, _⟩ => ⟨S_, .f32⟩
  | .hbm, ⟨20, _⟩ => ⟨S2x8x8192, .f32⟩
  | .hbm, ⟨21, _⟩ => ⟨S2x8x8192x1, .f32⟩
  | .hbm, ⟨22, _⟩ => ⟨S2x8x8192x8192, .f32⟩
  | .hbm, ⟨23, _⟩ => ⟨S2x8x8192x8192, .f32⟩
  | .hbm, ⟨24, _⟩ => ⟨S_, .f32⟩
  | .hbm, ⟨25, _⟩ => ⟨S2x8x8192x8192, .f32⟩
  | .hbm, ⟨26, _⟩ => ⟨S2x8x8192x8192, .f32⟩
  | .hbm, ⟨27, _⟩ => ⟨S_, .f32⟩
  | .hbm, ⟨28, _⟩ => ⟨S2x8x8192, .f32⟩
  | .hbm, ⟨29, _⟩ => ⟨S2x8x8192x1, .f32⟩
  | .hbm, ⟨30, _⟩ => ⟨S2x8x8192x8192, .f32⟩
  | .hbm, ⟨31, _⟩ => ⟨S2x8x8192x8192, .f32⟩
  | .hbm, ⟨32, _⟩ => ⟨S2x8x64x8192, .f32⟩
  | .hbm, ⟨33, _⟩ => ⟨S2x8192x8x64, .f32⟩
  | .hbm, ⟨34, _⟩ => ⟨S2x8192x512, .f32⟩
  | .hbm, ⟨35, _⟩ => ⟨S2x8192x512, .bf16⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x3072 : Shape := ⟨3, ![2, 1, 3072]⟩
abbrev S16384x512 : Shape := ⟨2, ![16384, 512]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S256x4x2x64 : Shape := ⟨4, ![256, 4, 2, 64]⟩
abbrev S_ : Shape := ⟨0, ![]⟩
abbrev S256x4x64 : Shape := ⟨3, ![256, 4, 64]⟩
abbrev S256x4x1x64 : Shape := ⟨4, ![256, 4, 1, 64]⟩
abbrev S256x4x128 : Shape := ⟨3, ![256, 4, 128]⟩
abbrev S512x4x128 : Shape := ⟨3, ![512, 4, 128]⟩
abbrev S4x512x128 : Shape := ⟨3, ![4, 512, 128]⟩
abbrev S1x512 : Shape := ⟨2, ![1, 512]⟩
abbrev S1x1024 : Shape := ⟨2, ![1, 1024]⟩
abbrev S1x512x1024 : Shape := ⟨3, ![1, 512, 1024]⟩
abbrev S1x1x1024 : Shape := ⟨3, ![1, 1, 1024]⟩
abbrev S512x512 : Shape := ⟨2, ![512, 512]⟩
abbrev S512x128 : Shape := ⟨2, ![512, 128]⟩
abbrev S512x1 : Shape := ⟨2, ![512, 1]⟩
abbrev S512x1024 : Shape := ⟨2, ![512, 1024]⟩
abbrev S1x512x1 : Shape := ⟨3, ![1, 512, 1]⟩

abbrev nBuf : Space → Nat
  | .hbm => 29
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x1x3072, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S256x512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S256x4x2x64, .f32⟩
  | .hbm, ⟨13, _⟩ => ⟨S_, .f32⟩
  | .hbm, ⟨14, _⟩ => ⟨S256x4x64, .f32⟩
  | .hbm, ⟨15, _⟩ => ⟨S256x4x1x64, .f32⟩
  | .hbm, ⟨16, _⟩ => ⟨S256x4x64, .f32⟩
  | .hbm, ⟨17, _⟩ => ⟨S256x4x128, .f32⟩
  | .hbm, ⟨18, _⟩ => ⟨S256x4x1x64, .f32⟩
  | .hbm, ⟨19, _⟩ => ⟨S256x4x64, .f32⟩
  | .hbm, ⟨20, _⟩ => ⟨S256x4x128, .f32⟩
  | .hbm, ⟨21, _⟩ => ⟨S512x4x128, .f32⟩
  | .hbm, ⟨22, _⟩ => ⟨S4x512x128, .f32⟩
  | .hbm, ⟨23, _⟩ => ⟨S4x512x128, .bf16⟩
  | .hbm, ⟨24, _⟩ => ⟨S1x512, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S4x512x128, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S2x1x3072 : Shape := ⟨3, ![2, 1, 3072]⟩
abbrev S16384x512 : Shape := ⟨2, ![16384, 512]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S2x1x1024 : Shape := ⟨3, ![2, 1, 1024]⟩
abbrev S2x8192x4x128 : Shape := ⟨4, ![2, 8192, 4, 128]⟩
abbrev S_ : Shape := ⟨0, ![]⟩
abbrev S2x8192x4 : Shape := ⟨3, ![2, 8192, 4]⟩
abbrev S2x8192x4x1 : Shape := ⟨4, ![2, 8192, 4, 1]⟩
abbrev S2x8192x512 : Shape := ⟨3, ![2, 8192, 512]⟩
abbrev S1x1x512 : Shape := ⟨3, ![1, 1, 512]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x3072, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S256x512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S16384x512, .f32⟩
  | .hbm, ⟨16, _⟩ => ⟨S2x8192x4x128, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S2x8192x4x128, .f32⟩
  | .hbm, ⟨27, _⟩ => ⟨S2x8192x4x128, .f32⟩
  | .hbm, ⟨28, _⟩ => ⟨S_, .f32⟩
  | .hbm, ⟨29, _⟩ => ⟨S2x8192x4, .f32⟩
  | .hbm, ⟨30, _⟩ => ⟨S2x8192x4x1, .f32⟩
  | .hbm, ⟨31, _⟩ => ⟨S_, .f32⟩
  | .hbm, ⟨32, _⟩ => ⟨S2x8192x4x1, .f32⟩
  | .hbm, ⟨33, _⟩ => ⟨S2x8192x4x1, .f32⟩
  | .hbm, ⟨34, _⟩ => ⟨S2x8192x4x128, .f32⟩
  | .hbm, ⟨35, _⟩ => ⟨S2x8192x4x128, .f32⟩
  | .hbm, ⟨36, _⟩ => ⟨S2x8192x4x128, .f32⟩
  | .hbm, ⟨37, _⟩ => ⟨S_, .f32⟩
  | .hbm, ⟨38, _⟩ => ⟨S2x8192x4, .f32⟩
  | .hbm, ⟨39, _⟩ => ⟨S2x8192x4x1, .f32⟩
  | .hbm, ⟨40, _⟩ => ⟨S_, .f32⟩
  | .hbm, ⟨41, _⟩ => ⟨S2x8192x4x1, .f32⟩
  | .hbm, ⟨42, _⟩ => ⟨S2x8192x4x1, .f32⟩
  | .hbm, ⟨43, _⟩ => ⟨S2x8192x4x128, .f32⟩
  | .hbm, ⟨44, _⟩ => ⟨S2x8192x4x128, .f32⟩
  | .hbm, ⟨45, _⟩ => ⟨S_, .f32⟩
  | .hbm, ⟨46, _⟩ => ⟨S2x8192x4x1, .f32⟩
  | .hbm, ⟨47, _⟩ => ⟨S2x8192x4x1, .f32⟩
  | .hbm, ⟨48, _⟩ => ⟨S2x8192x4x1, .f32⟩
  | .hbm, ⟨49, _⟩ => ⟨S2x8192x4x128, .f32⟩
  | .hbm, ⟨50, _⟩ => ⟨S2x8192x4x128, .f32⟩
  | .hbm, ⟨51, _⟩ => ⟨S2x8192x512, .f32⟩
  | .hbm, ⟨52, _⟩ => ⟨S1x1x512, .f32⟩
  | .hbm, ⟨53, _⟩ => ⟨S2x8192x512, .f32⟩
  | .hbm, ⟨54, _⟩ => ⟨S2x8192x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384x512, .f32⟩
  | .hbm, ⟨60, _⟩ => ⟨S16384x512, .f32⟩
  | .hbm, ⟨61, _⟩ => ⟨S_, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S2x8192x512, .f32⟩
  | .hbm, ⟨66, _⟩ => ⟨S2x8192x512, .f32⟩
  | .hbm, ⟨67, _⟩ => ⟨S16384x512, .f32⟩
  | .hbm, ⟨68, _⟩ => ⟨S2x8192x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S_, .f32⟩
  | .hbm, ⟨73, _⟩ => ⟨S16384x512, .f32⟩
  | .hbm, ⟨74, _⟩ => ⟨S16384x512, .f32⟩
  | .hbm, ⟨75, _⟩ => ⟨S_, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S2x8192x512, .f32⟩
  | .hbm, ⟨80, _⟩ => ⟨S2x8192x512, .f32⟩
  | .hbm, ⟨81, _⟩ => ⟨S2x8192x1024, .f32⟩
  | .hbm, ⟨82, _⟩ => ⟨S2x8192x1024, .f32⟩
  | .hbm, ⟨83, _⟩ => ⟨S_, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192, .f32⟩
  | .hbm, ⟨91, _⟩ => ⟨S2x8192x1, .f32⟩
  | .hbm, ⟨92, _⟩ => ⟨S_, .f32⟩
  | .hbm, ⟨93, _⟩ => ⟨S2x8192x1, .f32⟩
  | .hbm, ⟨94, _⟩ => ⟨S2x8192x1, .f32⟩
  | .hbm, ⟨95, _⟩ => ⟨S2x8192x1024, .f32⟩
  | .hbm, ⟨96, _⟩ => ⟨S2x8192x1024, .f32⟩
  | .hbm, ⟨97, _⟩ => ⟨S2x8192x1024, .f32⟩
  | .hbm, ⟨98, _⟩ => ⟨S_, .f32⟩
  | .hbm, ⟨99, _⟩ => ⟨S2x8192, .f32⟩
  | .hbm, ⟨100, _⟩ => ⟨S2x8192x1, .f32⟩
  | .hbm, ⟨101, _⟩ => ⟨S_, .f32⟩
  | .hbm, ⟨102, _⟩ => ⟨S2x8192x1, .f32⟩
  | .hbm, ⟨103, _⟩ => ⟨S2x8192x1, .f32⟩
  | .hbm, ⟨104, _⟩ => ⟨S2x8192x1024, .f32⟩
  | .hbm, ⟨105, _⟩ => ⟨S2x8192x1024, .f32⟩
  | .hbm, ⟨106, _⟩ => ⟨S_, .f32⟩
  | .hbm, ⟨107, _⟩ => ⟨S2x8192x1, .f32⟩
  | .hbm, ⟨108, _⟩ => ⟨S2x8192x1, .f32⟩
  | .hbm, ⟨109, _⟩ => ⟨S2x8192x1, .f32⟩
  | .hbm, ⟨110, _⟩ => ⟨S2x8192x1024, .f32⟩
  | .hbm, ⟨111, _⟩ => ⟨S2x8192x1024, .f32⟩
  | .hbm, ⟨112, _⟩ => ⟨S1x1x1024, .f32⟩
  | .hbm, ⟨113, _⟩ => ⟨S2x8192x1024, .f32⟩
  | .hbm, ⟨114, _⟩ => ⟨S2x8192x1024, .f32⟩
  | .hbm, ⟨115, _⟩ => ⟨S1x1x1024, .f32⟩
  | .hbm, ⟨116, _⟩ => ⟨S2x8192x1024, .f32⟩
  | .hbm, ⟨117, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_9 : Ref sig .tc := ⟨.hbm, 98, rfl⟩
abbrev main_v60 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩

abbrev nD : Nat := 1
abbrev τ : Topo := Topo.v7x

variable {F : FTy → Type} [FloatOps F]
-- ==== Kernel3.lean ====
abbrev S128x8x1024 : Shape := ⟨3, ![128, 8, 1024]⟩
abbrev S128x1x3072 : Shape := ⟨3, ![128, 1, 3072]⟩
abbrev S1024x512 : Shape := ⟨2, ![1024, 512]⟩
abbrev S1024x2048 : Shape := ⟨2, ![1024, 2048]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S256x4x2x64 : Shape := ⟨4, ![256, 4, 2, 64]⟩
abbrev S_ : Shape := ⟨0, ![]⟩
abbrev S256x4x64 : Shape := ⟨3, ![256, 4, 64]⟩
abbrev S256x4x1x64 : Shape := ⟨4, ![256, 4, 1, 64]⟩
abbrev S256x4x128 : Shape := ⟨3, ![256, 4, 128]⟩
abbrev S512x4x128 : Shape := ⟨3, ![512, 4, 128]⟩
abbrev S4x512x128 : Shape := ⟨3, ![4, 512, 128]⟩
abbrev S1x512 : Shape := ⟨2, ![1, 512]⟩
abbrev S1x1024 : Shape := ⟨2, ![1, 1024]⟩
abbrev S64x8x1024 : Shape := ⟨3, ![64, 8, 1024]⟩
abbrev S64x1x1024 : Shape := ⟨3, ![64, 1, 1024]⟩
abbrev S512x512 : Shape := ⟨2, ![512, 512]⟩
abbrev S512x2048 : Shape := ⟨2, ![512, 2048]⟩
abbrev S512x128 : Shape := ⟨2, ![512, 128]⟩
abbrev S512x1 : Shape := ⟨2, ![512, 1]⟩
abbrev S1x512x128 : Shape := ⟨3, ![1, 512, 128]⟩
abbrev S512x1024 : Shape := ⟨2, ![512, 1024]⟩
abbrev S64x8 : Shape := ⟨2, ![64, 8]⟩
abbrev S64x8x1 : Shape := ⟨3, ![64, 8, 1]⟩
abbrev S1x1x1024 : Shape := ⟨3, ![1, 1, 1024]⟩

abbrev nBuf : Space → Nat
  | .hbm => 29
  | .vmem => 21
  | .smem => 0
  | _ => 0

abbrev bufTy : (tb : Table) → Fin (tcTables nBuf tb) → BufTy
  | .hbm, ⟨0, _⟩ => ⟨S128x8x1024, .f32⟩
  | .hbm, ⟨1, _⟩ => ⟨S128x1x3072, .f32⟩
  | .hbm, ⟨2, _⟩ => ⟨S1024x512, .bf16⟩
  | .hbm, ⟨3, _⟩ => ⟨S1024x512, .bf16⟩
  | .hbm, ⟨4, _⟩ => ⟨S1024x512, .bf16⟩
  | .hbm, ⟨5, _⟩ => ⟨S1024x2048, .f32⟩
  | .hbm, ⟨6, _⟩ => ⟨S1024x512, .bf16⟩
  | .hbm, ⟨7, _⟩ => ⟨S256x512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S256x4x2x64, .f32⟩
  | .hbm, ⟨13, _⟩ => ⟨S_, .f32⟩
  | .hbm, ⟨14, _⟩ => ⟨S256x4x64, .f32⟩
  | .hbm, ⟨15, _⟩ => ⟨S256x4x1x64, .f32⟩
  | .hbm, ⟨16, _⟩ => ⟨S256x4x64, .f32⟩
  | .hbm, ⟨17, _⟩ => ⟨S256x4x128, .f32⟩
  | .hbm, ⟨18, _⟩ => ⟨S256x4x1x64, .f32⟩
  | .hbm, ⟨19, _⟩ => ⟨S256x4x64, .f32⟩
  | .hbm, ⟨20, _⟩ => ⟨S256x4x128, .f32⟩
  | .hbm, ⟨21, _⟩ => ⟨S512x4x128, .f32⟩
  | .hbm, ⟨22, _⟩ => ⟨S4x512x128, .f32⟩
  | .hbm, ⟨23, _⟩ => ⟨S4x512x128, .bf16⟩
  | .hbm, ⟨24, _⟩ => ⟨S1x512, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S128x8x1024, .f32⟩
  | .local _ .vmem, ⟨0, _⟩ => ⟨S64x8x1024, .f32⟩
  | .local _ .vmem, ⟨1, _⟩ => ⟨S64x8x1024, .f32⟩
  | .local _ .vmem, ⟨2, _⟩ => ⟨S64x1x1024, .f32⟩
  | .local _ .vmem, ⟨3, _⟩ => ⟨S64x1x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .f32⟩
  | .local _ .vmem, ⟨11, _⟩ => ⟨S512x2048, .f32⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S4x512x128, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S64x8x1024, .f32⟩
  | .local _ .vmem, ⟨20, _⟩ => ⟨S64x8x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S128x8x1024 : Shape := ⟨3, ![128, 8, 1024]⟩
abbrev S128x1x3072 : Shape := ⟨3, ![128, 1, 3072]⟩
abbrev S1024x512 : Shape := ⟨2, ![1024, 512]⟩
abbrev S1024x2048 : Shape := ⟨2, ![1024, 2048]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S128x8x8x256 : Shape := ⟨4, ![128, 8, 8, 256]⟩
abbrev S256x8x64 : Shape := ⟨3, ![256, 8, 64]⟩
abbrev S8x64x128x8 : Shape := ⟨4, ![8, 64, 128, 8]⟩
abbrev S128x8x8x64 : Shape := ⟨4, ![128, 8, 8, 64]⟩
abbrev S128x1x1024 : Shape := ⟨3, ![128, 1, 1024]⟩
abbrev S128x8x4x128 : Shape := ⟨4, ![128, 8, 4, 128]⟩
abbrev S_ : Shape := ⟨0, ![]⟩
abbrev S128x8x4 : Shape := ⟨3, ![128, 8, 4]⟩
abbrev S128x8x4x1 : Shape := ⟨4, ![128, 8, 4, 1]⟩
abbrev S128x8x512 : Shape := ⟨3, ![128, 8, 512]⟩
abbrev S1x1x512 : Shape := ⟨3, ![1, 1, 512]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 122
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1x3072, .f32⟩
  | .hbm, ⟨2, _⟩ => ⟨S1024x512, .bf16⟩
  | .hbm, ⟨3, _⟩ => ⟨S1024x512, .bf16⟩
  | .hbm, ⟨4, _⟩ => ⟨S1024x512, .bf16⟩
  | .hbm, ⟨5, _⟩ => ⟨S1024x2048, .f32⟩
  | .hbm, ⟨6, _⟩ => ⟨S1024x512, .bf16⟩
  | .hbm, ⟨7, _⟩ => ⟨S256x512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S128x8x8x256, .f32⟩
  | .hbm, ⟨13, _⟩ => ⟨S256x8x64, .f32⟩
  | .hbm, ⟨14, _⟩ => ⟨S8x64x128x8, .f32⟩
  | .hbm, ⟨15, _⟩ => ⟨S128x8x8x64, .f32⟩
  | .hbm, ⟨16, _⟩ => ⟨S1024x512, .f32⟩
  | .hbm, ⟨17, _⟩ => ⟨S128x1x1024, .f32⟩
  | .hbm, ⟨18, _⟩ => ⟨S128x1x1024, .f32⟩
  | .hbm, ⟨19, _⟩ => ⟨S128x1x1024, .f32⟩
  | .hbm, ⟨20, _⟩ => ⟨S1024x512, .f32⟩
  | .hbm, ⟨21, _⟩ => ⟨S128x8x4x128, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S128x8x4x128, .f32⟩
  | .hbm, ⟨32, _⟩ => ⟨S128x8x4x128, .f32⟩
  | .hbm, ⟨33, _⟩ => ⟨S_, .f32⟩
  | .hbm, ⟨34, _⟩ => ⟨S128x8x4, .f32⟩
  | .hbm, ⟨35, _⟩ => ⟨S128x8x4x1, .f32⟩
  | .hbm, ⟨36, _⟩ => ⟨S_, .f32⟩
  | .hbm, ⟨37, _⟩ => ⟨S128x8x4x1, .f32⟩
  | .hbm, ⟨38, _⟩ => ⟨S128x8x4x1, .f32⟩
  | .hbm, ⟨39, _⟩ => ⟨S128x8x4x128, .f32⟩
  | .hbm, ⟨40, _⟩ => ⟨S128x8x4x128, .f32⟩
  | .hbm, ⟨41, _⟩ => ⟨S128x8x4x128, .f32⟩
  | .hbm, ⟨42, _⟩ => ⟨S_, .f32⟩
  | .hbm, ⟨43, _⟩ => ⟨S128x8x4, .f32⟩
  | .hbm, ⟨44, _⟩ => ⟨S128x8x4x1, .f32⟩
  | .hbm, ⟨45, _⟩ => ⟨S_, .f32⟩
  | .hbm, ⟨46, _⟩ => ⟨S128x8x4x1, .f32⟩
  | .hbm, ⟨47, _⟩ => ⟨S128x8x4x1, .f32⟩
  | .hbm, ⟨48, _⟩ => ⟨S128x8x4x128, .f32⟩
  | .hbm, ⟨49, _⟩ => ⟨S128x8x4x128, .f32⟩
  | .hbm, ⟨50, _⟩ => ⟨S_, .f32⟩
  | .hbm, ⟨51, _⟩ => ⟨S128x8x4x1, .f32⟩
  | .hbm, ⟨52, _⟩ => ⟨S128x8x4x1, .f32⟩
  | .hbm, ⟨53, _⟩ => ⟨S128x8x4x1, .f32⟩
  | .hbm, ⟨54, _⟩ => ⟨S128x8x4x128, .f32⟩
  | .hbm, ⟨55, _⟩ => ⟨S128x8x4x128, .f32⟩
  | .hbm, ⟨56, _⟩ => ⟨S128x8x512, .f32⟩
  | .hbm, ⟨57, _⟩ => ⟨S1x1x512, .f32⟩
  | .hbm, ⟨58, _⟩ => ⟨S128x8x512, .f32⟩
  | .hbm, ⟨59, _⟩ => ⟨S128x8x512, .f32⟩
  | .hbm, ⟨60, _⟩ => ⟨S1024x512, .f32⟩
  | .hbm, ⟨61, _⟩ => ⟨S1024x512, .f32⟩
  | .hbm, ⟨62, _⟩ => ⟨S1024x512, .f32⟩
  | .hbm, ⟨63, _⟩ => ⟨S_, .f32⟩
  | .hbm, ⟨64, _⟩ => ⟨S1024x512, .f32⟩
  | .hbm, ⟨65, _⟩ => ⟨S1024x512, .f32⟩
  | .hbm, ⟨66, _⟩ => ⟨S_, .f32⟩
  | .hbm, ⟨67, _⟩ => ⟨S1024x512, .f32⟩
  | .hbm, ⟨68, _⟩ => ⟨S1024x512, .f32⟩
  | .hbm, ⟨69, _⟩ => ⟨S1024x512, .f32⟩
  | .hbm, ⟨70, _⟩ => ⟨S128x8x512, .f32⟩
  | .hbm, ⟨71, _⟩ => ⟨S128x8x512, .f32⟩
  | .hbm, ⟨72, _⟩ => ⟨S128x8x512, .f32⟩
  | .hbm, ⟨73, _⟩ => ⟨S1024x512, .f32⟩
  | .hbm, ⟨74, _⟩ => ⟨S1024x512, .f32⟩
  | .hbm, ⟨75, _⟩ => ⟨S1024x512, .f32⟩
  | .hbm, ⟨76, _⟩ => ⟨S_, .f32⟩
  | .hbm, ⟨77, _⟩ => ⟨S1024x512, .f32⟩
  | .hbm, ⟨78, _⟩ => ⟨S1024x512, .f32⟩
  | .hbm, ⟨79, _⟩ => ⟨S_, .f32⟩
  | .hbm, ⟨80, _⟩ => ⟨S1024x512, .f32⟩
  | .hbm, ⟨81, _⟩ => ⟨S1024x512, .f32⟩
  | .hbm, ⟨82, _⟩ => ⟨S1024x512, .f32⟩
  | .hbm, ⟨83, _⟩ => ⟨S128x8x512, .f32⟩
  | .hbm, ⟨84, _⟩ => ⟨S128x8x512, .f32⟩
  | .hbm, ⟨85, _⟩ => ⟨S128x8x1024, .f32⟩
  | .hbm, ⟨86, _⟩ => ⟨S128x8x1024, .f32⟩
  | .hbm, ⟨87, _⟩ => ⟨S_, .f32⟩
  | .hbm, ⟨88, _⟩ => ⟨S128x8x1024, .f32⟩
  | .hbm, ⟨89, _⟩ => ⟨S128x8x1024, .f32⟩
  | .hbm, ⟨90, _⟩ => ⟨S128x8x1024, .f32⟩
  | .hbm, ⟨91, _⟩ => ⟨S128x8x1024, .f32⟩
  | .hbm, ⟨92, _⟩ => ⟨S128x8x1024, .f32⟩
  | .hbm, ⟨93, _⟩ => ⟨S_, .f32⟩
  | .hbm, ⟨94, _⟩ => ⟨S128x8, .f32⟩
  | .hbm, ⟨95, _⟩ => ⟨S128x8x1, .f32⟩
  | .hbm, ⟨96, _⟩ => ⟨S_, .f32⟩
  | .hbm, ⟨97, _⟩ => ⟨S128x8x1, .f32⟩
  | .hbm, ⟨98, _⟩ => ⟨S128x8x1, .f32⟩
  | .hbm, ⟨99, _⟩ => ⟨S128x8x1024, .f32⟩
  | .hbm, ⟨100, _⟩ => ⟨S128x8x1024, .f32⟩
  | .hbm, ⟨101, _⟩ => ⟨S128x8x1024, .f32⟩
  | .hbm, ⟨102, _⟩ => ⟨S_, .f32⟩
  | .hbm, ⟨103, _⟩ => ⟨S128x8, .f32⟩
  | .hbm, ⟨104, _⟩ => ⟨S128x8x1, .f32⟩
  | .hbm, ⟨105, _⟩ => ⟨S_, .f32⟩
  | .hbm, ⟨106, _⟩ => ⟨S128x8x1, .f32⟩
  | .hbm, ⟨107, _⟩ => ⟨S128x8x1, .f32⟩
  | .hbm, ⟨108, _⟩ => ⟨S128x8x1024, .f32⟩
  | .hbm, ⟨109, _⟩ => ⟨S128x8x1024, .f32⟩
  | .hbm, ⟨110, _⟩ => ⟨S_, .f32⟩
  | .hbm, ⟨111, _⟩ => ⟨S128x8x1, .f32⟩
  | .hbm, ⟨112, _⟩ => ⟨S128x8x1, .f32⟩
  | .hbm, ⟨113, _⟩ => ⟨S128x8x1, .f32⟩
  | .hbm, ⟨114, _⟩ => ⟨S128x8x1024, .f32⟩
  | .hbm, ⟨115, _⟩ => ⟨S128x8x1024, .f32⟩
  | .hbm, ⟨116, _⟩ => ⟨S1x1x1024, .f32⟩
  | .hbm, ⟨117, _⟩ => ⟨S128x8x1024, .f32⟩
  | .hbm, ⟨118, _⟩ => ⟨S128x8x1024, .f32⟩
  | .hbm, ⟨119, _⟩ => ⟨S1x1x1024, .f32⟩
  | .hbm, ⟨120, _⟩ => ⟨S128x8x1024, .f32⟩
  | .hbm, ⟨121, _⟩ => ⟨S128x8x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_6 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_7 : Ref sig .tc := ⟨.hbm, 93, rfl⟩
abbrev main_v57 : Ref sig .tc := ⟨.hbm, 94, rfl⟩
abbrev main_v58 : Ref sig .tc := ⟨.hbm, 95, rfl⟩
abbrev main_cst_8 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_9 : Ref sig .tc := ⟨.hbm, 102, rfl⟩
abbrev main_v64 : Ref sig .tc := ⟨.hbm, 103, rfl⟩
abbrev main_v65 : Ref sig .tc := ⟨.hbm, 104, rfl⟩
abbrev main_cst_10 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_11 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1x3072 : Shape := ⟨3, ![2, 1, 3072]⟩
abbrev S8192x16 : Shape := ⟨2, ![8192, 16]⟩
abbrev S1024x3968 : Shape := ⟨2, ![1024, 3968]⟩
abbrev S4 : Shape := ⟨1, ![4]⟩
abbrev S384 : Shape := ⟨1, ![384]⟩
abbrev S256 : Shape := ⟨1, ![256]⟩
abbrev S384x768 : Shape := ⟨2, ![384, 768]⟩
abbrev S256x512 : Shape := ⟨2, ![256, 512]⟩
abbrev S_ : Shape := ⟨0, ![]⟩
abbrev S8192x64 : Shape := ⟨2, ![8192, 64]⟩
abbrev S8192x32 : Shape := ⟨2, ![8192, 32]⟩
abbrev S8192x128 : Shape := ⟨2, ![8192, 128]⟩
abbrev S8192x384 : Shape := ⟨2, ![8192, 384]⟩
abbrev S120 : Shape := ⟨1, ![120]⟩
abbrev S128 : Shape := ⟨1, ![128]⟩
abbrev S1x128 : Shape := ⟨2, ![1, 128]⟩
abbrev S384x8x96 : Shape := ⟨3, ![384, 8, 96]⟩
abbrev S384x8x64 : Shape := ⟨3, ![384, 8, 64]⟩
abbrev S384x8x16 : Shape := ⟨3, ![384, 8, 16]⟩
abbrev S384x8x32 : Shape := ⟨3, ![384, 8, 32]⟩
abbrev S384x8x128 : Shape := ⟨3, ![384, 8, 128]⟩
abbrev S384x1024 : Shape := ⟨2, ![384, 1024]⟩
abbrev S256x8x64 : Shape := ⟨3, ![256, 8, 64]⟩
abbrev S256x8x128 : Shape := ⟨3, ![256, 8, 128]⟩
abbrev S256x1024 : Shape := ⟨2, ![256, 1024]⟩
abbrev S1x384 : Shape := ⟨2, ![1, 384]⟩
abbrev S1x256 : Shape := ⟨2, ![1, 256]⟩
abbrev S512x256 : Shape := ⟨2, ![512, 256]⟩
abbrev S16384x512 : Shape := ⟨2, ![16384, 512]⟩
abbrev S16384x128 : Shape := ⟨2, ![16384, 128]⟩
abbrev S16384x256 : Shape := ⟨2, ![16384, 256]⟩
abbrev S2x32x8192 : Shape := ⟨3, ![2, 32, 8192]⟩
abbrev S2x8x8192x128 : Shape := ⟨4, ![2, 8, 8192, 128]⟩
abbrev S2x512x8192 : Shape := ⟨3, ![2, 512, 8192]⟩
abbrev S1x512x1024 : Shape := ⟨3, ![1, 512, 1024]⟩
abbrev S1x1x1024 : Shape := ⟨3, ![1, 1, 1024]⟩
abbrev S512x384 : Shape := ⟨2, ![512, 384]⟩
abbrev S512x512 : Shape := ⟨2, ![512, 512]⟩
abbrev S512x128 : Shape := ⟨2, ![512, 128]⟩
abbrev S1x32x512 : Shape := ⟨3, ![1, 32, 512]⟩
abbrev S1x8x512x128 : Shape := ⟨4, ![1, 8, 512, 128]⟩
abbrev S1x512x512 : Shape := ⟨3, ![1, 512, 512]⟩
abbrev S512x1024 : Shape := ⟨2, ![512, 1024]⟩
abbrev S1024x512 : Shape := ⟨2, ![1024, 512]⟩
abbrev S1024x256 : Shape := ⟨2, ![1024, 256]⟩
abbrev S512 : Shape := ⟨1, ![512]⟩
abbrev S512x1 : Shape := ⟨2, ![512, 1]⟩
abbrev S128x512 : Shape := ⟨2, ![128, 512]⟩
abbrev S32x512 : Shape := ⟨2, ![32, 512]⟩
abbrev S1024x384 : Shape := ⟨2, ![1024, 384]⟩
abbrev S1x1x512x128 : Shape := ⟨4, ![1, 1, 512, 128]⟩
abbrev S256x128 : Shape := ⟨2, ![256, 128]⟩

abbrev nBuf : Space → Nat
  | .hbm => 68
  | .vmem => 39
  | .smem => 0
  | _ => 0

abbrev bufTy : (tb : Table) → Fin (tcTables nBuf tb) → BufTy
  | .hbm, ⟨0, _⟩ => ⟨S2x8192x1024, .f32⟩
  | .hbm, ⟨1, _⟩ => ⟨S2x1x3072, .f32⟩
  | .hbm, ⟨2, _⟩ => ⟨S8192x16, .f32⟩
  | .hbm, ⟨3, _⟩ => ⟨S8192x16, .f32⟩
  | .hbm, ⟨4, _⟩ => ⟨S1024x3968, .bf16⟩
  | .hbm, ⟨5, _⟩ => ⟨S4, .f32⟩
  | .hbm, ⟨6, _⟩ => ⟨S4, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x512, .f32⟩
  | .hbm, ⟨11, _⟩ => ⟨S256x512, .f32⟩
  | .hbm, ⟨12, _⟩ => ⟨S_, .f32⟩
  | .hbm, ⟨13, _⟩ => ⟨S8192x64, .f32⟩
  | .hbm, ⟨14, _⟩ => ⟨S_, .f32⟩
  | .hbm, ⟨15, _⟩ => ⟨S8192x32, .f32⟩
  | .hbm, ⟨16, _⟩ => ⟨S8192x128, .f32⟩
  | .hbm, ⟨17, _⟩ => ⟨S_, .f32⟩
  | .hbm, ⟨18, _⟩ => ⟨S8192x64, .f32⟩
  | .hbm, ⟨19, _⟩ => ⟨S8192x16, .f32⟩
  | .hbm, ⟨20, _⟩ => ⟨S_, .f32⟩
  | .hbm, ⟨21, _⟩ => ⟨S8192x16, .f32⟩
  | .hbm, ⟨22, _⟩ => ⟨S_, .f32⟩
  | .hbm, ⟨23, _⟩ => ⟨S8192x32, .f32⟩
  | .hbm, ⟨24, _⟩ => ⟨S8192x128, .f32⟩
  | .hbm, ⟨25, _⟩ => ⟨S_, .f32⟩
  | .hbm, ⟨26, _⟩ => ⟨S8192x64, .f32⟩
  | .hbm, ⟨27, _⟩ => ⟨S_, .f32⟩
  | .hbm, ⟨28, _⟩ => ⟨S8192x16, .f32⟩
  | .hbm, ⟨29, _⟩ => ⟨S_, .f32⟩
  | .hbm, ⟨30, _⟩ => ⟨S8192x32, .f32⟩
  | .hbm, ⟨31, _⟩ => ⟨S8192x128, .f32⟩
  | .hbm, ⟨32, _⟩ => ⟨S8192x384, .f32⟩
  | .hbm, ⟨33, _⟩ => ⟨S_, .f32⟩
  | .hbm, ⟨34, _⟩ => ⟨S120, .f32⟩
  | .hbm, ⟨35, _⟩ => ⟨S128, .f32⟩
  | .hbm, ⟨36, _⟩ => ⟨S1x128, .f32⟩
  | .hbm, ⟨37, _⟩ => ⟨S384x8x96, .f32⟩
  | .hbm, ⟨38, _⟩ => ⟨S384x8x64, .f32⟩
  | .hbm, ⟨39, _⟩ => ⟨S384x8x16, .f32⟩
  | .hbm, ⟨40, _⟩ => ⟨S384x8x16, .f32⟩
  | .hbm, ⟨41, _⟩ => ⟨S_, .f32⟩
  | .hbm, ⟨42, _⟩ => ⟨S384x8x32, .f32⟩
  | .hbm, ⟨43, _⟩ => ⟨S384x8x128, .f32⟩
  | .hbm, ⟨44, _⟩ => ⟨S384x1024, .f32⟩
  | .hbm, ⟨45, _⟩ => ⟨S384x1024, .bf16⟩
  | .hbm, ⟨46, _⟩ => ⟨S256x8x64, .f32⟩
  | .hbm, ⟨47, _⟩ => ⟨S_, .f32⟩
  | .hbm, ⟨48, _⟩ => ⟨S256x8x64, .f32⟩
  | .hbm, ⟨49, _⟩ => ⟨S256x8x128, .f32⟩
  | .hbm, ⟨50, _⟩ => ⟨S256x1024, .f32⟩
  | .hbm, ⟨51, _⟩ => ⟨S256x1024, .bf16⟩
  | .hbm, ⟨52, _⟩ => ⟨S1x384, .f32⟩
  | .hbm, ⟨53, _⟩ => ⟨S1x256, .f32⟩
  | .hbm, ⟨54, _⟩ => ⟨S512x256, .f32⟩
  | .hbm, ⟨55, _⟩ => ⟨S512x256, .bf16⟩
  | .hbm, ⟨56, _⟩ => ⟨S16384x512, .bf16⟩
  | .hbm, ⟨57, _⟩ => ⟨S16384x512, .bf16⟩
  | .hbm, ⟨58, _⟩ => ⟨S16384x512, .bf16⟩
  | .hbm, ⟨59, _⟩ => ⟨S16384x128, .f32⟩
  | .hbm, ⟨60, _⟩ => ⟨S16384x512, .bf16⟩
  | .hbm, ⟨61, _⟩ => ⟨S16384x512, .bf16⟩
  | .hbm, ⟨62, _⟩ => ⟨S16384x512, .bf16⟩
  | .hbm, ⟨63, _⟩ => ⟨S16384x256, .f32⟩
  | .hbm, ⟨64, _⟩ => ⟨S2x32x8192, .f32⟩
  | .hbm, ⟨65, _⟩ => ⟨S2x8x8192x128, .bf16⟩
  | .hbm, ⟨66, _⟩ => ⟨S2x8x8192x128, .bf16⟩
  | .hbm, ⟨67, _⟩ => ⟨S2x512x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x384, .f32⟩
  | .local _ .vmem, ⟨7, _⟩ => ⟨S512x384, .f32⟩
  | .local _ .vmem, ⟨8, _⟩ => ⟨S1024x3968, .bf16⟩
  | .local _ .vmem, ⟨9, _⟩ => ⟨S1x128, .f32⟩
  | .local _ .vmem, ⟨10, _⟩ => ⟨S1x384, .f32⟩
  | .local _ .vmem, ⟨11, _⟩ => ⟨S1x256, .f32⟩
  | .local _ .vmem, ⟨12, _⟩ => ⟨S384x1024, .bf16⟩
  | .local _ .vmem, ⟨13, _⟩ => ⟨S256x1024, .bf16⟩
  | .local _ .vmem, ⟨14, _⟩ => ⟨S512x256, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x128, .f32⟩
  | .local _ .vmem, ⟨22, _⟩ => ⟨S512x128, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x256, .f32⟩
  | .local _ .vmem, ⟨30, _⟩ => ⟨S512x256, .f32⟩
  | .local _ .vmem, ⟨31, _⟩ => ⟨S1x32x512, .f32⟩
  | .local _ .vmem, ⟨32, _⟩ => ⟨S1x32x512, .f32⟩
  | .local _ .vmem, ⟨33, _⟩ => ⟨S1x8x512x128, .bf16⟩
  | .local _ .vmem, ⟨34, _⟩ => ⟨S1x8x512x128, .bf16⟩
  | .local _ .vmem, ⟨35, _⟩ => ⟨S1x8x512x128, .bf16⟩
  | .local _ .vmem, ⟨36, _⟩ => ⟨S1x8x512x128, .bf16⟩
  | .local _ .vmem, ⟨37, _⟩ => ⟨S1x512x512, .bf16⟩
  | .local _ .vmem, ⟨38, _⟩ => ⟨S1x512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_cst_5 : Ref sig .tc := ⟨.hbm, 27, rfl⟩
abbrev main_v9 : Ref sig .tc := ⟨.hbm, 28, rfl⟩
abbrev main_cst_6 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_7 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_8 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_v33_2 : Ref sig .tc := ⟨.hbm, 58, rfl⟩
abbrev main_v33_3 : Ref sig .tc := ⟨.hbm, 59, rfl⟩
abbrev main_v33_4 : Ref sig .tc := ⟨.hbm, 60, rfl⟩
abbrev main_v33_5 : Ref sig .tc := ⟨.hbm, 61, rfl⟩
abbrev main_v33_6 : Ref sig .tc := ⟨.hbm, 62, rfl⟩
abbrev main_v33_7 : Ref sig .tc := ⟨.hbm, 63, rfl⟩
abbrev main_v33_8 : Ref sig .tc := ⟨.hbm, 64, rfl⟩
abbrev main_v33_9 : Ref sig .tc := ⟨.hbm, 65, rfl⟩
abbrev main_v33_10 : Ref sig .tc := ⟨.hbm, 66, rfl⟩
abbrev main_v33_11 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_21 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_22 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3968 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x32x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x8x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S2x8192x1024 : Shape := ⟨3, ![2, 8192, 1024]⟩
abbrev S2x1x3072 : Shape := ⟨3, ![2, 1, 3072]⟩
abbrev S8192x16 : Shape := ⟨2, ![8192, 16]⟩
abbrev S1024x3968 : Shape := ⟨2, ![1024, 3968]⟩
abbrev S4 : Shape := ⟨1, ![4]⟩
abbrev S384 : Shape := ⟨1, ![384]⟩
abbrev S256 : Shape := ⟨1, ![256]⟩
abbrev S384x768 : Shape := ⟨2, ![384, 768]⟩
abbrev S256x512 : Shape := ⟨2, ![256, 512]⟩
abbrev S2x1x1024 : Shape := ⟨3, ![2, 1, 1024]⟩
abbrev S_ : Shape := ⟨0, ![]⟩
abbrev S2x8192x3968 : Shape := ⟨3, ![2, 8192, 3968]⟩
abbrev S2x8192x512 : Shape := ⟨3, ![2, 8192, 512]⟩
abbrev S2x8192x192 : Shape := ⟨3, ![2, 8192, 192]⟩
abbrev S2x8192x32 : Shape := ⟨3, ![2, 8192, 32]⟩
abbrev S2x8192x384 : Shape := ⟨3, ![2, 8192, 384]⟩
abbrev S2x8192x256 : Shape := ⟨3, ![2, 8192, 256]⟩
abbrev S2x8192 : Shape := ⟨2, ![2, 8192]⟩
abbrev S2x8192x1 : Shape := ⟨3, ![2, 8192, 1]⟩
abbrev S1x1x256 : Shape := ⟨3, ![1, 1, 256]⟩
abbrev S2x8192x16 : Shape := ⟨3, ![2, 8192, 16]⟩
abbrev S1x8192x16 : Shape := ⟨3, ![1, 8192, 16]⟩
abbrev S16384x512 : Shape := ⟨2, ![16384, 512]⟩
abbrev S16384x256 : Shape := ⟨2, ![16384, 256]⟩
abbrev S2x32x8192 : Shape := ⟨3, ![2, 32, 8192]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x3072, .f32⟩
  | .hbm, ⟨2, _⟩ => ⟨S8192x16, .f32⟩
  | .hbm, ⟨3, _⟩ => ⟨S8192x16, .f32⟩
  | .hbm, ⟨4, _⟩ => ⟨S1024x3968, .bf16⟩
  | .hbm, ⟨5, _⟩ => ⟨S4, .f32⟩
  | .hbm, ⟨6, _⟩ => ⟨S4, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x512, .f32⟩
  | .hbm, ⟨11, _⟩ => ⟨S256x512, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S_, .f32⟩
  | .hbm, ⟨16, _⟩ => ⟨S2x1x1024, .f32⟩
  | .hbm, ⟨17, _⟩ => ⟨S2x1x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x3968, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x192, .f32⟩
  | .hbm, ⟨27, _⟩ => ⟨S2x8192x32, .f32⟩
  | .hbm, ⟨28, _⟩ => ⟨S2x8192x32, .f32⟩
  | .hbm, ⟨29, _⟩ => ⟨S2x8192x512, .f32⟩
  | .hbm, ⟨30, _⟩ => ⟨S2x8192x512, .f32⟩
  | .hbm, ⟨31, _⟩ => ⟨S2x8192x384, .f32⟩
  | .hbm, ⟨32, _⟩ => ⟨S2x8192x256, .f32⟩
  | .hbm, ⟨33, _⟩ => ⟨S2x8192x512, .f32⟩
  | .hbm, ⟨34, _⟩ => ⟨S2x8192x256, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x256, .f32⟩
  | .hbm, ⟨46, _⟩ => ⟨S2x8192x256, .f32⟩
  | .hbm, ⟨47, _⟩ => ⟨S1x1x256, .f32⟩
  | .hbm, ⟨48, _⟩ => ⟨S2x8192x256, .f32⟩
  | .hbm, ⟨49, _⟩ => ⟨S2x8192x256, .f32⟩
  | .hbm, ⟨50, _⟩ => ⟨S2x8192x16, .f32⟩
  | .hbm, ⟨51, _⟩ => ⟨S2x8192x16, .f32⟩
  | .hbm, ⟨52, _⟩ => ⟨S1x8192x16, .f32⟩
  | .hbm, ⟨53, _⟩ => ⟨S2x8192x16, .f32⟩
  | .hbm, ⟨54, _⟩ => ⟨S2x8192x16, .f32⟩
  | .hbm, ⟨55, _⟩ => ⟨S1x8192x16, .f32⟩
  | .hbm, ⟨56, _⟩ => ⟨S2x8192x16, .f32⟩
  | .hbm, ⟨57, _⟩ => ⟨S2x8192x16, .f32⟩
  | .hbm, ⟨58, _⟩ => ⟨S2x8192x16, .f32⟩
  | .hbm, ⟨59, _⟩ => ⟨S1x8192x16, .f32⟩
  | .hbm, ⟨60, _⟩ => ⟨S2x8192x16, .f32⟩
  | .hbm, ⟨61, _⟩ => ⟨S2x8192x16, .f32⟩
  | .hbm, ⟨62, _⟩ => ⟨S1x8192x16, .f32⟩
  | .hbm, ⟨63, _⟩ => ⟨S2x8192x16, .f32⟩
  | .hbm, ⟨64, _⟩ => ⟨S2x8192x16, .f32⟩
  | .hbm, ⟨65, _⟩ => ⟨S2x8192x16, .f32⟩
  | .hbm, ⟨66, _⟩ => ⟨S2x8192x32, .f32⟩
  | .hbm, ⟨67, _⟩ => ⟨S16384x512, .f32⟩
  | .hbm, ⟨68, _⟩ => ⟨S16384x512, .bf16⟩
  | .hbm, ⟨69, _⟩ => ⟨S_, .f32⟩
  | .hbm, ⟨70, _⟩ => ⟨S2x8192x512, .f32⟩
  | .hbm, ⟨71, _⟩ => ⟨S2x8192x512, .f32⟩
  | .hbm, ⟨72, _⟩ => ⟨S16384x512, .f32⟩
  | .hbm, ⟨73, _⟩ => ⟨S16384x512, .bf16⟩
  | .hbm, ⟨74, _⟩ => ⟨S16384x512, .f32⟩
  | .hbm, ⟨75, _⟩ => ⟨S16384x512, .bf16⟩
  | .hbm, ⟨76, _⟩ => ⟨S16384x512, .f32⟩
  | .hbm, ⟨77, _⟩ => ⟨S16384x512, .bf16⟩
  | .hbm, ⟨78, _⟩ => ⟨S16384x512, .f32⟩
  | .hbm, ⟨79, _⟩ => ⟨S16384x512, .bf16⟩
  | .hbm, ⟨80, _⟩ => ⟨S16384x512, .f32⟩
  | .hbm, ⟨81, _⟩ => ⟨S16384x512, .bf16⟩
  | .hbm, ⟨82, _⟩ => ⟨S16384x256, .f32⟩
  | .hbm, ⟨83, _⟩ => ⟨S2x32x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_3 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.Blocks.lean ====
module

public import proofs.«01_k».proof.Proof.Gen.KernelIdeal.Skeleton
public import Idealize.ShloMosaic.Lib.Pipeline.Kit
public import Idealize.ShloMosaic.Lib.Pipeline.Regions

/-! The attention kernel's body cut at its conditionals: the block that resets the running state, the three tile
blocks (the diagonal tile that begins at the block's first key, the one that begins at its 1024th, the tile wholly
below the diagonal) and the block that stores the output, each taking what runs after it. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel's programs. -/
abbrev KP (F : FTy → Type) : Type 1 := Prog (TpuEff nD τ sig (Elt F) Λ₀ .tc) PUnit.{1}

/-- The three prefetched tables and the three scratches, whole. -/
abbrev tbM0 : Memref sig .tc .smem S20 .i32 := Memref.whole main_c
abbrev tbM1 : Memref sig .tc .smem S20 .i32 := Memref.whole main_c_0
abbrev tbM2 : Memref sig .tc .smem S20 .i32 := Memref.whole main_c_1
abbrev scM0 : Memref sig .tc .vmem S2x1x1024 .f32 := Memref.whole cc0_scratch0
abbrev scM1 : Memref sig .tc .vmem S2x1x1024 .f32 := Memref.whole cc0_scratch1
abbrev scM2 : Memref sig .tc .vmem S128x1024 .f32 := Memref.whole cc0_scratch2

/-- A conditional block followed by what runs after it either way. -/
def ifK (c : Prop) [Decidable c] (B : (PUnit.{1} → KP F) → KP F) (k : PUnit.{1} → KP F) : KP F := if c then B k else k ⟨⟩

variable (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)

/-- The block that resets the running maximum, denominator and accumulator. -/
def resetB (jp : PUnit.{1} → KP F) : KP F := do
  let v25 : Vec F S2x1x1024 .f32 ← Prog.lift (.load scM0 (Rect.unit (s := S2x1x1024) ![0, 0, 0] S2x1x1024.size inb_S2x1x1024_S2x1x1024_0_0_0).toLoadRect (View.loadsAt_vmem h_S2x1x1024))
  Prog.lift (.store scM0 (Rect.unit (s := S2x1x1024) ![0, 0, 0] S2x1x1024.size inb_S2x1x1024_S2x1x1024_0_0_0) (k0_pay1 (F := F)) Finset.univ (View.stores_vmem_bits_univ h_S2x1x1024 rfl) (.inl rfl))
  let v29 : Vec F S2x1x1024 .f32 ← Prog.lift (.load scM1 (Rect.unit (s := S2x1x1024) ![0, 0, 0] S2x1x1024.size inb_S2x1x1024_S2x1x1024_0_0_0).toLoadRect (View.loadsAt_vmem h_S2x1x1024))
  Prog.lift (.store scM1 (Rect.unit (s := S2x1x1024) ![0, 0, 0] S2x1x1024.size inb_S2x1x1024_S2x1x1024_0_0_0) (k0_pay2 (F := F)) Finset.univ (View.stores_vmem_bits_univ h_S2x1x1024 rfl) (.inl rfl))
  let v33 : Vec F S128x1024 .f32 ← Prog.lift (.load scM2 (Rect.unit (s := S128x1024) ![0, 0] S128x1024.size inb_S128x1024_S128x1024_0_0).toLoadRect (View.loadsAt_vmem h_S128x1024))
  Prog.lift (.store scM2 (Rect.unit (s := S128x1024) ![0, 0] S128x1024.size inb_S128x1024_S128x1024_0_0) (k0_pay3 (F := F)) Finset.univ (View.stores_vmem_bits_univ h_S128x1024 rfl) (.inl rfl))
  jp ⟨⟩

/-- The tile whose keys begin at the block’s first query. -/
def tile0 (jp : PUnit.{1} → KP F) : KP F := do
  let ⟨v35, v47, v52⟩ ← k0_part1 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _)
  let ⟨v59, v71, v83, v84⟩ ← k0_part2 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v52
  let ⟨v95, v107, v112, v115, v116⟩ ← k0_part3 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v84
  let ⟨v119, v120, v124, v133, v134, v138, v147, v148, v152, v156, v157⟩ ← k0_part4 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v35 v47 v59 v112 v115 v116
  let ⟨v161, v162, v166, v175, v176, v180, v189, v190, v194, v198, v199⟩ ← k0_part5 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v71 v83 v95 v120 v156 v157
  let ⟨v203, v204, v208, v217, v218, v222, v231, v232, v238, v240⟩ ← k0_part6 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v107 v119 v120 v124 v152 v180 v198 v199
  let v284 : Vec F S1x1x1024 .f32 ← k0_part7 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v124 v133 v134 v152 v161 v162 v180 v189 v190 v208 v217 v218 v238 v240
  let v325 : FVec F S64x1024 .f32 ← k0_part8 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v138 v147 v148 v166 v175 v176 v194 v203 v204 v222 v231 v232 v284
  let v332 : Vec F S64x1024 .f32 ← Prog.lift (.load scM2 (Rect.unit (s := S128x1024) ![64, 0] S64x1024.size inb_S128x1024_S64x1024_64_0).toLoadRect (View.loadsAt_vmem h_S64x1024))
  Prog.lift (.store scM2 (Rect.unit (s := S128x1024) ![64, 0] S64x1024.size inb_S128x1024_S64x1024_64_0) (k0_pay4 v325) Finset.univ (View.stores_vmem_bits_univ h_S64x1024 rfl) (.inl rfl))
  jp ⟨⟩

/-- The tile whose keys begin 1024 before the block’s first query. -/
def tile1 (jp : PUnit.{1} → KP F) : KP F := do
  let ⟨v28, v33, v38, v43⟩ ← k0_part9 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _)
  let ⟨v48, v53, v58, v63, v65⟩ ← k0_part10 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _)
  let ⟨v75, v87, v92, v97, v98⟩ ← k0_part11 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v65
  let ⟨v99, v111, v123, v125, v127, cst_132⟩ ← k0_part12 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v92 v97 v98
  let ⟨v135, v147, v159, v160, v161⟩ ← k0_part13 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v28 v125 v127 cst_132
  let ⟨v162, v171, v172, v174, v183, v184, v186, v195, v196, v198, v202, v203⟩ ← k0_part14 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v28 v33 v38 v43 v160 v161
  let ⟨v207, v208, v210, v219, v220, v222, v231, v232, v234, v243, v244, v246⟩ ← k0_part15 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v48 v53 v58 v63 v160 v202 v203
  let ⟨v255, v256, v260, v269, v270, v274, v283, v284, v288⟩ ← k0_part16 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v63 v75 v87 v99 v160 v246
  let ⟨v297, v298, v302, v311, v312, v316, v325, v326, v330⟩ ← k0_part17 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v99 v111 v123 v135 v160 v288
  let ⟨v339, v340, v344, v353, v354, v358, v367, v368, v370, v371⟩ ← k0_part18 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v135 v147 v159 v160 v162 v330
  let ⟨v378, v421, v425, v426⟩ ← k0_part19 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v162 v171 v172 v186 v195 v196 v210 v219 v220 v234 v243 v244 v260 v269 v270 v288 v297 v316 v344 v370 v371
  let ⟨v461, v463, v466, v467⟩ ← k0_part20 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v174 v198 v222 v246 v274 v298 v302 v316 v325 v326 v330 v344 v353 v354 v358 v378 v421 v425 v426
  let ⟨v522, v525⟩ ← k0_part21 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v174 v183 v184 v198 v207 v208 v222 v231 v232 v246 v255 v256 v274 v283 v284 v302 v311 v312 v330 v339 v340 v358 v367 v368 v461 v463 v466 v467
  let v526 : Vec F S1x1x1024 .f32 ← Prog.lift (.load scM0 (Rect.unit (s := S2x1x1024) ![1, 0, 0] S1x1x1024.size inb_S2x1x1024_S1x1x1024_1_0_0).toLoadRect (View.loadsAt_vmem h_S1x1x1024))
  Prog.lift (.store scM0 (Rect.unit (s := S2x1x1024) ![1, 0, 0] S1x1x1024.size inb_S2x1x1024_S1x1x1024_1_0_0) (k0_pay5 v461) Finset.univ (View.stores_vmem_bits_univ h_S1x1x1024 rfl) (.inl rfl))
  let v529 : Vec F S1x1x1024 .f32 ← Prog.lift (.load scM1 (Rect.unit (s := S2x1x1024) ![1, 0, 0] S1x1x1024.size inb_S2x1x1024_S1x1x1024_1_0_0).toLoadRect (View.loadsAt_vmem h_S1x1x1024))
  Prog.lift (.store scM1 (Rect.unit (s := S2x1x1024) ![1, 0, 0] S1x1x1024.size inb_S2x1x1024_S1x1x1024_1_0_0) (k0_pay6 v522) Finset.univ (View.stores_vmem_bits_univ h_S1x1x1024 rfl) (.inl rfl))
  let v532 : Vec F S64x1024 .f32 ← Prog.lift (.load scM2 (Rect.unit (s := S128x1024) ![64, 0] S64x1024.size inb_S128x1024_S64x1024_64_0).toLoadRect (View.loadsAt_vmem h_S64x1024))
  Prog.lift (.store scM2 (Rect.unit (s := S128x1024) ![64, 0] S64x1024.size inb_S128x1024_S64x1024_64_0) (k0_pay7 v525) Finset.univ (View.stores_vmem_bits_univ h_S64x1024 rfl) (.inl rfl))
  jp ⟨⟩

/-- A tile wholly below the diagonal. -/
def tile2 (jp : PUnit.{1} → KP F) : KP F := do
  let ⟨v28, v33, v38, v43⟩ ← k0_part22 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _)
  let ⟨v48, v53, v58, v63, v65⟩ ← k0_part23 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _)
  let ⟨v68, v73, v78, v83, v85, v87⟩ ← k0_part24 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v65
  let ⟨v88, v93, v98, v103, v104, v106, v110, v113, cst_147⟩ ← k0_part25 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v28 v85 v87
  let ⟨v115, v116, v118, v127, v128, v130, v139, v140, v142, v151, v152, v154, v157⟩ ← k0_part26 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v33 v38 v43 v48 v104 v110 v113 cst_147
  let ⟨v163, v164, v166, v175, v176, v178, v187, v188, v190, v198⟩ ← k0_part27 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v53 v58 v63 v104 v157
  let ⟨v199, v200, v202, v211, v212, v214, v223, v224, v226, v235, v236, v238, v242⟩ ← k0_part28 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v68 v73 v78 v83 v104 v198
  let ⟨v247, v248, v250, v259, v260, v262, v271, v272, v274, v282, v283⟩ ← k0_part29 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v88 v93 v98 v104 v242
  let ⟨v284, v286, v295, v296, v306, v325, v328, v330⟩ ← k0_part30 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v103 v104 v106 v115 v116 v130 v139 v140 v154 v178 v202 v226 v250 v274 v282
  k0_part31 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v163 v164 v178 v187 v188 v202 v211 v212 v226 v235 v236 v250 v259 v260 v274 v283 v284 v306 v325 v328 v330
  let ⟨v389, v425, v429, v431⟩ ← k0_part32 i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) v118 v127 v128 v142 v151 v152 v166 v175 v176 v190 v199 v200 v214 v223 v224 v238 v262 v286
  let v454 : Vec F S1x1x1024 .f32 ← Prog.lift (.load scM0 (Rect.unit (s := S2x1x1024) ![1, 0, 0] S1x1x1024.size inb_S2x1x1024_S1x1x1024_1_0_0).toLoadRect (View.loadsAt_vmem h_S1x1x1024))
  Prog.lift (.store scM0 (Rect.unit (s := S2x1x1024) ![1, 0, 0] S1x1x1024.size inb_S2x1x1024_S1x1x1024_1_0_0) (k0_pay11 v389) Finset.univ (View.stores_vmem_bits_univ h_S1x1x1024 rfl) (.inl rfl))
  let v457 : Vec F S1x1x1024 .f32 ← Prog.lift (.load scM1 (Rect.unit (s := S2x1x1024) ![1, 0, 0] S1x1x1024.size inb_S2x1x1024_S1x1x1024_1_0_0).toLoadRect (View.loadsAt_vmem h_S1x1x1024))
  Prog.lift (.store scM1 (Rect.unit (s := S2x1x1024) ![1, 0, 0] S1x1x1024.size inb_S2x1x1024_S1x1x1024_1_0_0) (k0_pay12 v238 v247 v262 v271 v286 v295 v389 v429) Finset.univ (View.stores_vmem_bits_univ h_S1x1x1024 rfl) (.inl rfl))
  let v460 : Vec F S64x1024 .f32 ← Prog.lift (.load scM2 (Rect.unit (s := S128x1024) ![64, 0] S64x1024.size inb_S128x1024_S64x1024_64_0).toLoadRect (View.loadsAt_vmem h_S64x1024))
  Prog.lift (.store scM2 (Rect.unit (s := S128x1024) ![64, 0] S64x1024.size inb_S128x1024_S64x1024_64_0) (k0_pay13 v238 v248 v262 v272 v286 v296 v389 v425 v431) Finset.univ (View.stores_vmem_bits_univ h_S64x1024 rfl) (.inl rfl))
  jp ⟨⟩

/-- The block that stores the quotient. -/
def outB (jp : PUnit.{1} → KP F) : KP F := do
  let v24 : Vec F S64x1024 .f32 ← Prog.lift (.load scM2 (Rect.unit (s := S128x1024) ![0, 0] S64x1024.size inb_S128x1024_S64x1024_0_0).toLoadRect (View.loadsAt_vmem h_S64x1024))
  let v25 : Vec F S1x1x1024 .f32 ← Prog.lift (.load scM1 (Rect.unit (s := S2x1x1024) ![0, 0, 0] S1x1x1024.size inb_S2x1x1024_S1x1x1024_0_0_0).toLoadRect (View.loadsAt_vmem h_S1x1x1024))
  let v29 : Vec F S64x1024 .f32 ← Prog.lift (.load scM2 (Rect.unit (s := S128x1024) ![64, 0] S64x1024.size inb_S128x1024_S64x1024_64_0).toLoadRect (View.loadsAt_vmem h_S64x1024))
  let v30 : Vec F S1x1x1024 .f32 ← Prog.lift (.load scM1 (Rect.unit (s := S2x1x1024) ![1, 0, 0] S1x1x1024.size inb_S2x1x1024_S1x1x1024_1_0_0).toLoadRect (View.loadsAt_vmem h_S1x1x1024))
  let v37 : Vec F S1x1024x128 .bf16 ← Prog.lift (.load arg9 (Rect.unit (s := S1x1024x128) ![0, 0, 0] S1x1024x128.size inb_S1x1024x128_S1x1024x128_0_0_0).toLoadRect (View.loadsAt_vmem h_S1x1024x128))
  Prog.lift (.store arg9 (Rect.unit (s := S1x1024x128) ![0, 0, 0] S1x1024x128.size inb_S1x1024x128_S1x1024x128_0_0_0) (k0_pay14 v24 v25 v29 v30) Finset.univ (View.stores_vmem h_S1x1024x128 (harg9.storeExact_slice rfl _ packedbf16_S1x1024x128_S1x1024x128_0_0_0) (fun _ => rfl)) (.inl rfl))
  jp ⟨⟩

/-- The condition words: the tables' entries at the point. -/
abbrev c0 (v3 : Elt F .i32) : Prop := Scalar.cmpi .ne (Scalar.extui (Scalar.cmpi .eq v3 0#32)) 0#32 = 1#1
abbrev fq (v1 v3 : BitVec 32) : BitVec 32 := Scalar.subi (Scalar.muli v1 1024#32) (Scalar.muli v3 2048#32)
abbrev c1 (v1 v3 : BitVec 32) : Prop := Scalar.cmpi .ne (Scalar.extui (Scalar.cmpi .eq (fq v1 v3) 0#32)) 0#32 = 1#1
abbrev c2 (v1 v3 : BitVec 32) : Prop := Scalar.cmpi .ne (Scalar.extui (Scalar.cmpi .eq (fq v1 v3) 1024#32)) 0#32 = 1#1
abbrev c3 (v1 v3 : BitVec 32) : Prop := Scalar.cmpi .ne (Scalar.extui (Scalar.cmpi .sge (fq v1 v3) 2048#32)) 0#32 = 1#1

/-- The body, cut. -/
theorem skel_cut : cc0_attn_prompt_skel (F := F) i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _) = (do
    let v1 : Elt F .i32 ← smemLoad tbM0 (Rect.unit (s := S20) (k0_off1 i) S1.size (k0_off1_inb i)) numel1_S1 rfl
    let v3 : Elt F .i32 ← smemLoad tbM1 (Rect.unit (s := S20) (k0_off1 i) S1.size (k0_off1_inb i)) numel1_S1 rfl
    ifK (c0 v3) resetB fun _ =>
    ifK (c1 v1 v3) (tile0 i arg6 harg6 arg7 harg7 arg8 harg8 arg9 harg9) fun _ =>
    ifK (c2 v1 v3) (tile1 i arg6 harg6 arg7 harg7 arg8 harg8 arg9 harg9) fun _ =>
    ifK (c3 v1 v3) (tile2 i arg6 harg6 arg7 harg7 arg8 harg8 arg9 harg9) fun _ => do
    let v20 : Elt F .i32 ← smemLoad tbM2 (Rect.unit (s := S20) (k0_off2 i) S1.size (k0_off2_inb i)) numel1_S1 rfl
    ifK (k0_cond5 v20 = 1#1) (outB arg9 harg9) fun _ => pure ⟨⟩) := rfl

end Cert.KernelIdeal.Att

end
-- ==== Proof.Chunk.lean ====
module

public import proofs.«01_k».proof.Proof.Blocks
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! What the kernel's blocks compute, over any float values: one chunk of 256 keys (its maximum, its weights' sum and
its weighted values), the merge of a tile's chunks into the running state of a head, and the blocks' runs. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The program logic's propositions over values `F`. -/
local notation "𝕄" => MT nD τ sig Unit (Elt F) ℕ (UR sig nD τ) ℕ

/-! ## One chunk -/

/-- A chunk's scores: keys by queries. -/
def scU (k : Vec F S1x1x256x128 .bf16) (q : Vec F S1x1x1024x128 .bf16) : FVec F S256x1024 .f32 :=
  matmul dot_S256x128_S1024x128_S256x1024_1_1_0_0_n_n none (shapeCast S256x128 k shapeCasts_S1x1x256x128_S256x128)
    (shapeCast S1024x128 q shapeCasts_S1x1x1024x128_S1024x128) (constant S256x1024 .f32 0x00000000#32)

/-- Scores with the keys after the query masked, the chunk beginning at key `o` of the diagonal tile. -/
def msk (o : BitVec 32) (st : FVec F S256x1024 .f32) : FVec F S256x1024 .f32 :=
  select (cmpi .sle (addi (broadcast S256x1024 o) (iota .tc S256x1024 32 [0] iota_S256x1024_d0_w32))
    (iota .tc S256x1024 32 [1] iota_S256x1024_d1_w32)) st (broadcast S256x1024 (Scalar.ofBits .f32 0xFF800000#32))

/-- The maximum over a chunk's keys. -/
def mxU (st : FVec F S256x1024 .f32) : FVec F S1x1024 .f32 :=
  shapeCast S1x1024 (multiReduction .maximumf [0] S1024 st 0xFF800000#32 reduces_S256x1024_S1024 (.inl rfl) rfl) shapeCasts_S1024_S1x1024

/-- The maximum of a masked chunk, kept above the floor. -/
def mxM (st : FVec F S256x1024 .f32) : FVec F S1x1024 .f32 :=
  maximumf (mxU st) (broadcast S1x1024 (Scalar.ofBits .f32 0xF149F2CA#32))

/-- The chunk's weights times its values with sixteen rows of ones below them. -/
def og (st : FVec F S256x1024 .f32) (m : FVec F S1x1024 .f32) (v : Vec F S1x64x256 .bf16) : FVec F S80x1024 .f32 :=
  matmul dot_S80x256_S256x1024_S80x1024_1_0_0_1_n_n none
    (concatenate S80x256 0 [⟨S64x256, shapeCast S64x256 v shapeCasts_S1x64x256_S64x256⟩, ⟨S16x256, broadcast S16x256 (Scalar.ofBits .bf16 0x3F80#16)⟩]
      concatenates_S64x256_S16x256_S80x256_d0)
    (truncf .bf16 (exp2 (subf st (broadcastTo S256x1024 m broadcasts_S1x1024_S256x1024))) bitsLt_bf16_f32)
    (constant S80x1024 .f32 0x00000000#32)

/-- A chunk's part of the result: its maximum, its weights' sum, its weighted values. -/
abbrev Part (F : FTy → Type) : Type := FVec F S1x1024 .f32 × FVec F S1x1024 .f32 × FVec F S64x1024 .f32

/-- The part of scores `st` under the maximum `m`. -/
def part (st : FVec F S256x1024 .f32) (m : FVec F S1x1024 .f32) (v : Vec F S1x64x256 .bf16) : Part F :=
  ⟨m, extractStridedSlice S1x1024 ![64, 0] (og st m v) slices_S80x1024_o64_0_S1x1024,
    extractStridedSlice S64x1024 ![0, 0] (og st m v) slices_S80x1024_o0_0_S64x1024⟩

/-- An unmasked chunk. -/
def partU (k : Vec F S1x1x256x128 .bf16) (q : Vec F S1x1x1024x128 .bf16) (v : Vec F S1x64x256 .bf16) : Part F :=
  part (scU k q) (mxU (scU k q)) v

/-- A masked chunk. -/
def partM (o : BitVec 32) (k : Vec F S1x1x256x128 .bf16) (q : Vec F S1x1x1024x128 .bf16) (v : Vec F S1x64x256 .bf16) : Part F :=
  part (msk o (scU k q)) (mxM (msk o (scU k q))) v

/-! ## A tile's chunks merged into a head's state -/

/-- The new running maximum. -/
def mNew (m : FVec F S1x1024 .f32) (L : List (Part F)) : FVec F S1x1024 .f32 := L.foldl (fun a p => maximumf a p.1) m

/-- The denominator's merge under the maximum `M`. -/
def lMrg (M : FVec F S1x1024 .f32) (m l : FVec F S1x1024 .f32) (L : List (Part F)) : FVec F S1x1024 .f32 :=
  L.foldl (fun a p => addf a (mulf (exp2 (subf p.1 M)) p.2.1)) (mulf (exp2 (subf m M)) l)

/-- The accumulator's merge under the maximum `M`. -/
def aMrg (M : FVec F S1x1024 .f32) (m : FVec F S1x1024 .f32) (a : FVec F S64x1024 .f32) (L : List (Part F)) : FVec F S64x1024 .f32 :=
  L.foldl (fun a p => addf a (mulf (broadcastTo S64x1024 (exp2 (subf p.1 M)) broadcasts_S1x1024_S64x1024) p.2.2))
    (mulf (broadcastTo S64x1024 (exp2 (subf m M)) broadcasts_S1x1024_S64x1024) a)

/-- The parts of the three kinds of tile: the diagonal tile beginning at the block's first query (four masked chunks), the
one beginning 1024 before it (four plain chunks, then four masked), the tile below the diagonal (eight plain chunks). -/
def parts0 (k : Fin 8 → Vec F S1x1x256x128 .bf16) (q : Vec F S1x1x1024x128 .bf16) (v : Fin 8 → Vec F S1x64x256 .bf16) : List (Part F) :=
  [partM 0#32 (k 0) q (v 0), partM 256#32 (k 1) q (v 1), partM 512#32 (k 2) q (v 2), partM 768#32 (k 3) q (v 3)]
def parts1 (k : Fin 8 → Vec F S1x1x256x128 .bf16) (q : Vec F S1x1x1024x128 .bf16) (v : Fin 8 → Vec F S1x64x256 .bf16) : List (Part F) :=
  [partU (k 0) q (v 0), partU (k 1) q (v 1), partU (k 2) q (v 2), partU (k 3) q (v 3),
   partM 0#32 (k 4) q (v 4), partM 256#32 (k 5) q (v 5), partM 512#32 (k 6) q (v 6), partM 768#32 (k 7) q (v 7)]
def parts2 (k : Fin 8 → Vec F S1x1x256x128 .bf16) (q : Vec F S1x1x1024x128 .bf16) (v : Fin 8 → Vec F S1x64x256 .bf16) : List (Part F) :=
  [partU (k 0) q (v 0), partU (k 1) q (v 1), partU (k 2) q (v 2), partU (k 3) q (v 3),
   partU (k 4) q (v 4), partU (k 5) q (v 5), partU (k 6) q (v 6), partU (k 7) q (v 7)]

/-! ## The windows the body loads -/

theorem inbK (h : Fin 2) (c : Fin 8) : ∀ a, (![0, h.val, 256 * c.val, 0] : Fin 4 → ℕ) a + S1x1x256x128.size a ≤ S1x2x2048x128.size a := by
  revert h c; decide
theorem inbQ (h : Fin 2) : ∀ a, (![0, h.val, 0, 0] : Fin 4 → ℕ) a + S1x1x1024x128.size a ≤ S1x2x1024x128.size a := by
  revert h; decide
theorem inbV (h : Fin 2) (c : Fin 8) : ∀ a, (![0, 64 * h.val, 256 * c.val] : Fin 3 → ℕ) a + S1x64x256.size a ≤ S1x128x2048.size a := by
  revert h c; decide
theorem inbS (h : Fin 2) : ∀ a, (![h.val, 0, 0] : Fin 3 → ℕ) a + S1x1x1024.size a ≤ S2x1x1024.size a := by
  revert h; decide
theorem inbA (h : Fin 2) : ∀ a, (![64 * h.val, 0] : Fin 2 → ℕ) a + S64x1024.size a ≤ S128x1024.size a := by
  revert h; decide

/-- Chunk `c` of head `h`'s keys, head `h`'s queries, chunk `c` of head `h`'s values. -/
def kw (x1 : Vec F S1x2x2048x128 .bf16) (h : Fin 2) (c : Fin 8) : Vec F S1x1x256x128 .bf16 :=
  VecWindow.window x1 (![0, h.val, 256 * c.val, 0] : Fin 4 → ℕ) S1x1x256x128.size (inbK h c)
def qw (x0 : Vec F S1x2x1024x128 .bf16) (h : Fin 2) : Vec F S1x1x1024x128 .bf16 :=
  VecWindow.window x0 (![0, h.val, 0, 0] : Fin 4 → ℕ) S1x1x1024x128.size (inbQ h)
def vw (x2 : Vec F S1x128x2048 .bf16) (h : Fin 2) (c : Fin 8) : Vec F S1x64x256 .bf16 :=
  VecWindow.window x2 (![0, 64 * h.val, 256 * c.val] : Fin 3 → ℕ) S1x64x256.size (inbV h c)

/-- Head `h`'s row of a running maximum or denominator, its rows of the accumulator. -/
def sw (s : Vec F S2x1x1024 .f32) (h : Fin 2) : FVec F S1x1024 .f32 :=
  shapeCast S1x1024 (VecWindow.window s (![h.val, 0, 0] : Fin 3 → ℕ) S1x1x1024.size (inbS h) : Vec F S1x1x1024 .f32) shapeCasts_S1x1x1024_S1x1024
def aw (s : Vec F S128x1024 .f32) (h : Fin 2) : FVec F S64x1024 .f32 :=
  VecWindow.window s (![64 * h.val, 0] : Fin 2 → ℕ) S64x1024.size (inbA h)

/-- The loads as the run leaves them. -/
def ldK (arg7 : Memref sig .tc .vmem S1x2x2048x128 .bf16) (x1 : Vec F S1x2x2048x128 .bf16) (h : Fin 2) (c : Fin 8) : Vec F S1x1x256x128 .bf16 :=
  View.readAt (Elt F) arg7.view (Rect.unit (s := S1x2x2048x128) ![0, h.val, 256 * c.val, 0] S1x1x256x128.size (inbK h c)).toLoadRect (arg7.view.rep x1)
def ldQ (arg6 : Memref sig .tc .vmem S1x2x1024x128 .bf16) (x0 : Vec F S1x2x1024x128 .bf16) (h : Fin 2) : Vec F S1x1x1024x128 .bf16 :=
  View.readAt (Elt F) arg6.view (Rect.unit (s := S1x2x1024x128) ![0, h.val, 0, 0] S1x1x1024x128.size (inbQ h)).toLoadRect (arg6.view.rep x0)
def ldV (arg8 : Memref sig .tc .vmem S1x128x2048 .bf16) (x2 : Vec F S1x128x2048 .bf16) (h : Fin 2) (c : Fin 8) : Vec F S1x64x256 .bf16 :=
  View.readAt (Elt F) arg8.view (Rect.unit (s := S1x128x2048) ![0, 64 * h.val, 256 * c.val] S1x64x256.size (inbV h c)).toLoadRect (arg8.view.rep x2)

theorem ldK_eq (arg7 : Memref sig .tc .vmem S1x2x2048x128 .bf16) (x1 : Vec F S1x2x2048x128 .bf16) : ldK arg7 x1 = kw x1 :=
  funext fun h => funext fun c => View.readAt_rep_unit arg7.view x1 (inbK h c) rfl (inbK h c)
theorem ldQ_eq (arg6 : Memref sig .tc .vmem S1x2x1024x128 .bf16) (x0 : Vec F S1x2x1024x128 .bf16) : ldQ arg6 x0 = qw x0 :=
  funext fun h => View.readAt_rep_unit arg6.view x0 (inbQ h) rfl (inbQ h)
theorem ldV_eq (arg8 : Memref sig .tc .vmem S1x128x2048 .bf16) (x2 : Vec F S1x128x2048 .bf16) : ldV arg8 x2 = vw x2 :=
  funext fun h => funext fun c => View.readAt_rep_unit arg8.view x2 (inbV h c) rfl (inbV h c)

/-! ## The scratches after a tile -/

/-- Two heads' rows side by side. -/
def jn (a b : FVec F S1x1024 .f32) : Vec F S2x1x1024 .f32 := fun j => if (j 0).val = 0 then a (ix2 0 (j 2)) else b (ix2 0 (j 2))
/-- Two heads' accumulators one above the other. -/
def ja (a b : FVec F S64x1024 .f32) : Vec F S128x1024 .f32 := fun j =>
  if h : (j 0).val < 64 then a (ix2 ⟨(j 0).val, h⟩ (j 1)) else b (ix2 ⟨(j 0).val - 64, by have : (j 0).val < 128 := (j 0).isLt; omega⟩ (j 1))

/-- The scratches after a tile whose parts are `P h` for head `h`. -/
def mT (P : Fin 2 → List (Part F)) (s0 : Vec F S2x1x1024 .f32) : Vec F S2x1x1024 .f32 :=
  jn (mNew (sw s0 0) (P 0)) (mNew (sw s0 1) (P 1))
def lT (P : Fin 2 → List (Part F)) (s0 s1 : Vec F S2x1x1024 .f32) : Vec F S2x1x1024 .f32 :=
  jn (lMrg (mNew (sw s0 0) (P 0)) (sw s0 0) (sw s1 0) (P 0)) (lMrg (mNew (sw s0 1) (P 1)) (sw s0 1) (sw s1 1) (P 1))
def aT (P : Fin 2 → List (Part F)) (s0 : Vec F S2x1x1024 .f32) (s2 : Vec F S128x1024 .f32) : Vec F S128x1024 .f32 :=
  ja (aMrg (mNew (sw s0 0) (P 0)) (sw s0 0) (aw s2 0) (P 0)) (aMrg (mNew (sw s0 1) (P 1)) (sw s0 1) (aw s2 1) (P 1))

/-- The two heads' rows stored one by one make the whole. -/
theorem writes_jn (v : View sig .tc .vmem S2x1x1024 .f32) (f : v.ty.Contents (Elt F)) (a b : FVec F S1x1024 .f32) :
    v.read (Elt F) (v.writes (Elt F) f
      [⟨Rect.unit (s := S2x1x1024) ![1, 0, 0] S1x1x1024.size inb_S2x1x1024_S1x1x1024_1_0_0, (shapeCast S1x1x1024 b shapeCasts_S1x1024_S1x1x1024 : FVec F S1x1x1024 .f32)⟩,
       ⟨Rect.unit (s := S2x1x1024) ![0, 0, 0] S1x1x1024.size inb_S2x1x1024_S1x1x1024_0_0_0, (shapeCast S1x1x1024 a shapeCasts_S1x1024_S1x1x1024 : FVec F S1x1x1024 .f32)⟩])
      = jn a b := by
  funext j
  idx_vars j
  by_cases h : j0.val = 0
  · refine (View.read_writes_cons_unit_of_not_mem v f (off' := (![1, 0, 0] : Fin 3 → ℕ)) _ _ _ _ rfl 0 (.inl (by show j0.val < 1; omega))).trans ?_
    refine (View.read_writes_cons_unit_of_mem v f (off' := (![0, 0, 0] : Fin 3 → ℕ)) _ _ _ _ (ix3 0 0 j2 : S1x1x1024.Idx) rfl (Fin.forall_fin_succ.2 ⟨by show j0.val = 0 + 0; omega, Fin.forall_fin_succ.2 ⟨by show j1.val = 0 + 0; omega, Fin.forall_fin_succ.2 ⟨by show j2.val = 0 + j2.val; omega, fun a => a.elim0⟩⟩⟩)).trans ?_
    pointwise [jn]
    simp [h]
  · have h1 : j0.val = 1 := by omega
    refine (View.read_writes_cons_unit_of_mem v f (off' := (![1, 0, 0] : Fin 3 → ℕ)) _ _ _ _ (ix3 0 0 j2 : S1x1x1024.Idx) rfl (Fin.forall_fin_succ.2 ⟨by show j0.val = 1 + 0; omega, Fin.forall_fin_succ.2 ⟨by show j1.val = 0 + 0; omega, Fin.forall_fin_succ.2 ⟨by show j2.val = 0 + j2.val; omega, fun a => a.elim0⟩⟩⟩)).trans ?_
    pointwise [jn]
    simp [h]

theorem writes_ja (v : View sig .tc .vmem S128x1024 .f32) (f : v.ty.Contents (Elt F)) (a b : FVec F S64x1024 .f32) :
    v.read (Elt F) (v.writes (Elt F) f
      [⟨Rect.unit (s := S128x1024) ![64, 0] S64x1024.size inb_S128x1024_S64x1024_64_0, (shapeCast S64x1024 b shapeCasts_S64x1024_S64x1024 : FVec F S64x1024 .f32)⟩,
       ⟨Rect.unit (s := S128x1024) ![0, 0] S64x1024.size inb_S128x1024_S64x1024_0_0, (shapeCast S64x1024 a shapeCasts_S64x1024_S64x1024 : FVec F S64x1024 .f32)⟩])
      = ja a b := by
  funext j
  idx_vars j
  by_cases h : j0.val < 64
  · refine (View.read_writes_cons_unit_of_not_mem v f (off' := (![64, 0] : Fin 2 → ℕ)) _ _ _ _ rfl 0 (.inl h)).trans ?_
    refine (View.read_writes_cons_unit_of_mem v f (off' := (![0, 0] : Fin 2 → ℕ)) _ _ _ _ (ix2 ⟨j0.val, h⟩ j1 : S64x1024.Idx) rfl (Fin.forall_fin_succ.2 ⟨by show j0.val = 0 + j0.val; omega, Fin.forall_fin_succ.2 ⟨by show j1.val = 0 + j1.val; omega, fun a => a.elim0⟩⟩)).trans ?_
    pointwise [ja]
    simp [h]
  · refine (View.read_writes_cons_unit_of_mem v f (off' := (![64, 0] : Fin 2 → ℕ)) _ _ _ _ (ix2 ⟨j0.val - 64, by omega⟩ j1 : S64x1024.Idx) rfl (Fin.forall_fin_succ.2 ⟨by show j0.val = 64 + (j0.val - 64); omega, Fin.forall_fin_succ.2 ⟨by show j1.val = 0 + j1.val; omega, fun a => a.elim0⟩⟩)).trans ?_
    pointwise [ja]
    simp [h]

/-- The same at the scratches themselves. -/
theorem whole_jn0 (f : (View.whole cc0_scratch0 : View sig .tc .vmem S2x1x1024 .f32).ty.Contents (Elt F)) (a b : FVec F S1x1024 .f32) :
    (View.whole cc0_scratch0).writes (Elt F) f
      [⟨Rect.unit (s := S2x1x1024) ![1, 0, 0] S1x1x1024.size inb_S2x1x1024_S1x1x1024_1_0_0, (shapeCast S1x1x1024 b shapeCasts_S1x1024_S1x1x1024 : FVec F S1x1x1024 .f32)⟩,
       ⟨Rect.unit (s := S2x1x1024) ![0, 0, 0] S1x1x1024.size inb_S2x1x1024_S1x1x1024_0_0_0, (shapeCast S1x1x1024 a shapeCasts_S1x1024_S1x1x1024 : FVec F S1x1x1024 .f32)⟩]
      = jn a b := by
  have h := writes_jn (View.whole cc0_scratch0) f a b
  rw [View.read_whole] at h
  exact h
theorem whole_jn1 (f : (View.whole cc0_scratch1 : View sig .tc .vmem S2x1x1024 .f32).ty.Contents (Elt F)) (a b : FVec F S1x1024 .f32) :
    (View.whole cc0_scratch1).writes (Elt F) f
      [⟨Rect.unit (s := S2x1x1024) ![1, 0, 0] S1x1x1024.size inb_S2x1x1024_S1x1x1024_1_0_0, (shapeCast S1x1x1024 b shapeCasts_S1x1024_S1x1x1024 : FVec F S1x1x1024 .f32)⟩,
       ⟨Rect.unit (s := S2x1x1024) ![0, 0, 0] S1x1x1024.size inb_S2x1x1024_S1x1x1024_0_0_0, (shapeCast S1x1x1024 a shapeCasts_S1x1024_S1x1x1024 : FVec F S1x1x1024 .f32)⟩]
      = jn a b := by
  refine Eq.trans ?_ (writes_jn (View.whole cc0_scratch1) f a b)
  sl_kernel_rfl
theorem whole_ja (f : (View.whole cc0_scratch2 : View sig .tc .vmem S128x1024 .f32).ty.Contents (Elt F)) (a b : FVec F S64x1024 .f32) :
    (View.whole cc0_scratch2).writes (Elt F) f
      [⟨Rect.unit (s := S128x1024) ![64, 0] S64x1024.size inb_S128x1024_S64x1024_64_0, (shapeCast S64x1024 b shapeCasts_S64x1024_S64x1024 : FVec F S64x1024 .f32)⟩,
       ⟨Rect.unit (s := S128x1024) ![0, 0] S64x1024.size inb_S128x1024_S64x1024_0_0, (shapeCast S64x1024 a shapeCasts_S64x1024_S64x1024 : FVec F S64x1024 .f32)⟩]
      = ja a b :=
  (View.read_whole cc0_scratch2 _).symm.trans (writes_ja (View.whole cc0_scratch2) f a b)
/-- A scratch stored whole holds what was stored. -/
theorem full0 (f : scM0.view.ty.Contents (Elt F)) (w : Vec F S2x1x1024 .f32) :
    scM0.view.writes (Elt F) f [⟨Rect.unit (s := S2x1x1024) ![0, 0, 0] S2x1x1024.size inb_S2x1x1024_S2x1x1024_0_0_0, w⟩] = w :=
  (View.read_whole cc0_scratch0 _).symm.trans (View.read_writes_full (View.whole cc0_scratch0) f _ w [])
theorem full1 (f : scM1.view.ty.Contents (Elt F)) (w : Vec F S2x1x1024 .f32) :
    scM1.view.writes (Elt F) f [⟨Rect.unit (s := S2x1x1024) ![0, 0, 0] S2x1x1024.size inb_S2x1x1024_S2x1x1024_0_0_0, w⟩] = w :=
  (View.read_whole cc0_scratch1 _).symm.trans (View.read_writes_full (View.whole cc0_scratch1) f _ w [])
theorem full2 (f : scM2.view.ty.Contents (Elt F)) (w : Vec F S128x1024 .f32) :
    scM2.view.writes (Elt F) f [⟨Rect.unit (s := S128x1024) ![0, 0] S128x1024.size inb_S128x1024_S128x1024_0_0, w⟩] = w :=
  (View.read_whole cc0_scratch2 _).symm.trans (View.read_writes_full (View.whole cc0_scratch2) f _ w [])
/-- The output block stored whole. -/
theorem full3 (v : View sig .tc .vmem S1x1024x128 .bf16) (f : v.ty.Contents (Elt F)) (w : Vec F S1x1024x128 .bf16) :
    v.read (Elt F) (v.writes (Elt F) f [⟨Rect.unit (s := S1x1024x128) ![0, 0, 0] S1x1024x128.size inb_S1x1024x128_S1x1024x128_0_0_0, w⟩]) = w :=
  View.read_writes_full v f _ w []

end Cert.KernelIdeal.Att

end
-- ==== Proof.Tile.lean ====
module

public import proofs.«01_k».proof.Proof.Chunk
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The runs of the three tile blocks. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The program logic's propositions over values `F`. -/
local notation "𝕄" => MT nD τ sig Unit (Elt F) ℕ (UR sig nD τ) ℕ

/-- The three input blocks, held at their staging buffers. -/
def ins (c : Dev nD) (arg6 : Memref sig .tc .vmem S1x2x1024x128 .bf16) (arg7 : Memref sig .tc .vmem S1x2x2048x128 .bf16) (arg8 : Memref sig .tc .vmem S1x128x2048 .bf16)
    (x0 : Vec F S1x2x1024x128 .bf16) (x1 : Vec F S1x2x2048x128 .bf16) (x2 : Vec F S1x128x2048 .bf16) : sProp 𝕄 :=
  iprop((arg6.view.loc (c : Thread nD τ) ↦[arg6.view.set]{fullShare} arg6.view.rep x0)
    ∗ (arg7.view.loc (c : Thread nD τ) ↦[arg7.view.set]{fullShare} arg7.view.rep x1)
    ∗ (arg8.view.loc (c : Thread nD τ) ↦[arg8.view.set]{fullShare} arg8.view.rep x2))

/-- The three scratches: running maximum, denominator, accumulator. -/
def scr (c : Dev nD) (s0 : Buf (Elt F) ((c : Thread nD τ).loc cc0_scratch0)) (s1 : Buf (Elt F) ((c : Thread nD τ).loc cc0_scratch1)) (s2 : Buf (Elt F) ((c : Thread nD τ).loc cc0_scratch2)) : sProp 𝕄 :=
  iprop((scM0.view.loc (c : Thread nD τ) ↦{fullShare} s0)
    ∗ (scM1.view.loc (c : Thread nD τ) ↦{fullShare} s1)
    ∗ (scM2.view.loc (c : Thread nD τ) ↦{fullShare} s2))

set_option backward.proofsInPublic true in
set_option maxHeartbeats 8000000 in
/-- The run of `tile0`: what it leaves in the scratches, found by the run. -/
def run0 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    Σ' (out0 : Buf (Elt F) ((c : Thread nD τ).loc cc0_scratch0)) (out1 : Buf (Elt F) ((c : Thread nD τ).loc cc0_scratch1)), { out2 : Buf (Elt F) ((c : Thread nD τ).loc cc0_scratch2) //
      ∀ (jp : PUnit.{1} → KP F) (K : PUnit.{1} → sProp 𝕄),
        iprop(ins c arg6 arg7 arg8 x0 x1 x2
          ∗ scr c s0 s1 s2
          ∗ (iprop(ins c arg6 arg7 arg8 x0 x1 x2
              ∗ scr c out0 out1 out2) -∗ wp frame (wpE (defs₀ (F := F)) Variants.none c none) Set.univ (jp ⟨⟩) K))
          ⊢ wp frame (wpE (defs₀ (F := F)) Variants.none c none) Set.univ (tile0 i arg6 harg6 arg7 harg7 arg8 harg8 arg9 harg9 jp) K } :=
  ⟨_, _, _, fun jp K => by
    unfold tile0 ins scr
    iintro ⟨⟨H0, H1, H2⟩, ⟨HS0, HS1, HS2⟩, Hk⟩
    have hS0 : scM0.IsWhole := Memref.isWhole_whole _
    have hS1 : scM1.IsWhole := Memref.isWhole_whole _
    have hS2 : scM2.IsWhole := Memref.isWhole_whole _
    sl_exec!
    iapply Hk
    isplitl [H0 H1 H2]
    · isplitl [H0]; · iexact H0
      isplitl [H1]; · iexact H1
      iexact H2
    isplitl [HS0]; · iexact HS0
    isplitl [HS1]; · iexact HS1
    iexact HS2⟩

theorem run0_0 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run0 c i arg6 harg6 arg7 harg7 arg8 harg8 arg9 harg9 x0 x1 x2 s0 s1 s2).1 = (View.whole cc0_scratch0).writes (Elt F) (View.whole cc0_scratch0).junk
      [⟨Rect.unit (s := S2x1x1024) ![1, 0, 0] S1x1x1024.size inb_S2x1x1024_S1x1x1024_1_0_0, (shapeCast S1x1x1024 (mNew (sw s0 1) (parts0 (ldK arg7 x1 1) (ldQ arg6 x0 1) (ldV arg8 x2 1))) shapeCasts_S1x1024_S1x1x1024 : FVec F S1x1x1024 .f32)⟩,
       ⟨Rect.unit (s := S2x1x1024) ![0, 0, 0] S1x1x1024.size inb_S2x1x1024_S1x1x1024_0_0_0, (shapeCast S1x1x1024 (mNew (sw s0 0) (parts0 (ldK arg7 x1 0) (ldQ arg6 x0 0) (ldV arg8 x2 0))) shapeCasts_S1x1024_S1x1x1024 : FVec F S1x1x1024 .f32)⟩] := by sl_kernel_rfl

theorem run0_1 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run0 c i arg6 harg6 arg7 harg7 arg8 harg8 arg9 harg9 x0 x1 x2 s0 s1 s2).2.1 = (View.whole cc0_scratch1).writes (Elt F) (View.whole cc0_scratch1).junk
      [⟨Rect.unit (s := S2x1x1024) ![1, 0, 0] S1x1x1024.size inb_S2x1x1024_S1x1x1024_1_0_0, (shapeCast S1x1x1024 (lMrg (mNew (sw s0 1) (parts0 (ldK arg7 x1 1) (ldQ arg6 x0 1) (ldV arg8 x2 1))) (sw s0 1) (sw s1 1) (parts0 (ldK arg7 x1 1) (ldQ arg6 x0 1) (ldV arg8 x2 1))) shapeCasts_S1x1024_S1x1x1024 : FVec F S1x1x1024 .f32)⟩,
       ⟨Rect.unit (s := S2x1x1024) ![0, 0, 0] S1x1x1024.size inb_S2x1x1024_S1x1x1024_0_0_0, (shapeCast S1x1x1024 (lMrg (mNew (sw s0 0) (parts0 (ldK arg7 x1 0) (ldQ arg6 x0 0) (ldV arg8 x2 0))) (sw s0 0) (sw s1 0) (parts0 (ldK arg7 x1 0) (ldQ arg6 x0 0) (ldV arg8 x2 0))) shapeCasts_S1x1024_S1x1x1024 : FVec F S1x1x1024 .f32)⟩] := by sl_kernel_rfl

theorem run0_2 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run0 c i arg6 harg6 arg7 harg7 arg8 harg8 arg9 harg9 x0 x1 x2 s0 s1 s2).2.2.1 = (View.whole cc0_scratch2).writes (Elt F) (View.whole cc0_scratch2).junk
      [⟨Rect.unit (s := S128x1024) ![64, 0] S64x1024.size inb_S128x1024_S64x1024_64_0, (shapeCast S64x1024 (aMrg (mNew (sw s0 1) (parts0 (ldK arg7 x1 1) (ldQ arg6 x0 1) (ldV arg8 x2 1))) (sw s0 1) (aw s2 1) (parts0 (ldK arg7 x1 1) (ldQ arg6 x0 1) (ldV arg8 x2 1))) shapeCasts_S64x1024_S64x1024 : FVec F S64x1024 .f32)⟩,
       ⟨Rect.unit (s := S128x1024) ![0, 0] S64x1024.size inb_S128x1024_S64x1024_0_0, (shapeCast S64x1024 (aMrg (mNew (sw s0 0) (parts0 (ldK arg7 x1 0) (ldQ arg6 x0 0) (ldV arg8 x2 0))) (sw s0 0) (aw s2 0) (parts0 (ldK arg7 x1 0) (ldQ arg6 x0 0) (ldV arg8 x2 0))) shapeCasts_S64x1024_S64x1024 : FVec F S64x1024 .f32)⟩] := by sl_kernel_rfl

set_option backward.proofsInPublic true in
set_option maxHeartbeats 8000000 in
/-- The run of `tile1`: what it leaves in the scratches, found by the run. -/
def run1 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    Σ' (out0 : Buf (Elt F) ((c : Thread nD τ).loc cc0_scratch0)) (out1 : Buf (Elt F) ((c : Thread nD τ).loc cc0_scratch1)), { out2 : Buf (Elt F) ((c : Thread nD τ).loc cc0_scratch2) //
      ∀ (jp : PUnit.{1} → KP F) (K : PUnit.{1} → sProp 𝕄),
        iprop(ins c arg6 arg7 arg8 x0 x1 x2
          ∗ scr c s0 s1 s2
          ∗ (iprop(ins c arg6 arg7 arg8 x0 x1 x2
              ∗ scr c out0 out1 out2) -∗ wp frame (wpE (defs₀ (F := F)) Variants.none c none) Set.univ (jp ⟨⟩) K))
          ⊢ wp frame (wpE (defs₀ (F := F)) Variants.none c none) Set.univ (tile1 i arg6 harg6 arg7 harg7 arg8 harg8 arg9 harg9 jp) K } :=
  ⟨_, _, _, fun jp K => by
    unfold tile1 ins scr
    iintro ⟨⟨H0, H1, H2⟩, ⟨HS0, HS1, HS2⟩, Hk⟩
    have hS0 : scM0.IsWhole := Memref.isWhole_whole _
    have hS1 : scM1.IsWhole := Memref.isWhole_whole _
    have hS2 : scM2.IsWhole := Memref.isWhole_whole _
    sl_exec!
    iapply Hk
    isplitl [H0 H1 H2]
    · isplitl [H0]; · iexact H0
      isplitl [H1]; · iexact H1
      iexact H2
    isplitl [HS0]; · iexact HS0
    isplitl [HS1]; · iexact HS1
    iexact HS2⟩

theorem run1_0 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run1 c i arg6 harg6 arg7 harg7 arg8 harg8 arg9 harg9 x0 x1 x2 s0 s1 s2).1 = (View.whole cc0_scratch0).writes (Elt F) (View.whole cc0_scratch0).junk
      [⟨Rect.unit (s := S2x1x1024) ![1, 0, 0] S1x1x1024.size inb_S2x1x1024_S1x1x1024_1_0_0, (shapeCast S1x1x1024 (mNew (sw s0 1) (parts1 (ldK arg7 x1 1) (ldQ arg6 x0 1) (ldV arg8 x2 1))) shapeCasts_S1x1024_S1x1x1024 : FVec F S1x1x1024 .f32)⟩,
       ⟨Rect.unit (s := S2x1x1024) ![0, 0, 0] S1x1x1024.size inb_S2x1x1024_S1x1x1024_0_0_0, (shapeCast S1x1x1024 (mNew (sw s0 0) (parts1 (ldK arg7 x1 0) (ldQ arg6 x0 0) (ldV arg8 x2 0))) shapeCasts_S1x1024_S1x1x1024 : FVec F S1x1x1024 .f32)⟩] := by sl_kernel_rfl

theorem run1_1 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run1 c i arg6 harg6 arg7 harg7 arg8 harg8 arg9 harg9 x0 x1 x2 s0 s1 s2).2.1 = (View.whole cc0_scratch1).writes (Elt F) (View.whole cc0_scratch1).junk
      [⟨Rect.unit (s := S2x1x1024) ![1, 0, 0] S1x1x1024.size inb_S2x1x1024_S1x1x1024_1_0_0, (shapeCast S1x1x1024 (lMrg (mNew (sw s0 1) (parts1 (ldK arg7 x1 1) (ldQ arg6 x0 1) (ldV arg8 x2 1))) (sw s0 1) (sw s1 1) (parts1 (ldK arg7 x1 1) (ldQ arg6 x0 1) (ldV arg8 x2 1))) shapeCasts_S1x1024_S1x1x1024 : FVec F S1x1x1024 .f32)⟩,
       ⟨Rect.unit (s := S2x1x1024) ![0, 0, 0] S1x1x1024.size inb_S2x1x1024_S1x1x1024_0_0_0, (shapeCast S1x1x1024 (lMrg (mNew (sw s0 0) (parts1 (ldK arg7 x1 0) (ldQ arg6 x0 0) (ldV arg8 x2 0))) (sw s0 0) (sw s1 0) (parts1 (ldK arg7 x1 0) (ldQ arg6 x0 0) (ldV arg8 x2 0))) shapeCasts_S1x1024_S1x1x1024 : FVec F S1x1x1024 .f32)⟩] := by sl_kernel_rfl

theorem run1_2 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run1 c i arg6 harg6 arg7 harg7 arg8 harg8 arg9 harg9 x0 x1 x2 s0 s1 s2).2.2.1 = (View.whole cc0_scratch2).writes (Elt F) (View.whole cc0_scratch2).junk
      [⟨Rect.unit (s := S128x1024) ![64, 0] S64x1024.size inb_S128x1024_S64x1024_64_0, (shapeCast S64x1024 (aMrg (mNew (sw s0 1) (parts1 (ldK arg7 x1 1) (ldQ arg6 x0 1) (ldV arg8 x2 1))) (sw s0 1) (aw s2 1) (parts1 (ldK arg7 x1 1) (ldQ arg6 x0 1) (ldV arg8 x2 1))) shapeCasts_S64x1024_S64x1024 : FVec F S64x1024 .f32)⟩,
       ⟨Rect.unit (s := S128x1024) ![0, 0] S64x1024.size inb_S128x1024_S64x1024_0_0, (shapeCast S64x1024 (aMrg (mNew (sw s0 0) (parts1 (ldK arg7 x1 0) (ldQ arg6 x0 0) (ldV arg8 x2 0))) (sw s0 0) (aw s2 0) (parts1 (ldK arg7 x1 0) (ldQ arg6 x0 0) (ldV arg8 x2 0))) shapeCasts_S64x1024_S64x1024 : FVec F S64x1024 .f32)⟩] := by sl_kernel_rfl

set_option backward.proofsInPublic true in
set_option maxHeartbeats 8000000 in
/-- The run of `tile2`: what it leaves in the scratches, found by the run. -/
def run2 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    Σ' (out0 : Buf (Elt F) ((c : Thread nD τ).loc cc0_scratch0)) (out1 : Buf (Elt F) ((c : Thread nD τ).loc cc0_scratch1)), { out2 : Buf (Elt F) ((c : Thread nD τ).loc cc0_scratch2) //
      ∀ (jp : PUnit.{1} → KP F) (K : PUnit.{1} → sProp 𝕄),
        iprop(ins c arg6 arg7 arg8 x0 x1 x2
          ∗ scr c s0 s1 s2
          ∗ (iprop(ins c arg6 arg7 arg8 x0 x1 x2
              ∗ scr c out0 out1 out2) -∗ wp frame (wpE (defs₀ (F := F)) Variants.none c none) Set.univ (jp ⟨⟩) K))
          ⊢ wp frame (wpE (defs₀ (F := F)) Variants.none c none) Set.univ (tile2 i arg6 harg6 arg7 harg7 arg8 harg8 arg9 harg9 jp) K } :=
  ⟨_, _, _, fun jp K => by
    unfold tile2 ins scr
    iintro ⟨⟨H0, H1, H2⟩, ⟨HS0, HS1, HS2⟩, Hk⟩
    have hS0 : scM0.IsWhole := Memref.isWhole_whole _
    have hS1 : scM1.IsWhole := Memref.isWhole_whole _
    have hS2 : scM2.IsWhole := Memref.isWhole_whole _
    sl_exec!
    iapply Hk
    isplitl [H0 H1 H2]
    · isplitl [H0]; · iexact H0
      isplitl [H1]; · iexact H1
      iexact H2
    isplitl [HS0]; · iexact HS0
    isplitl [HS1]; · iexact HS1
    iexact HS2⟩

theorem run2_0 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run2 c i arg6 harg6 arg7 harg7 arg8 harg8 arg9 harg9 x0 x1 x2 s0 s1 s2).1 = (View.whole cc0_scratch0).writes (Elt F) (View.whole cc0_scratch0).junk
      [⟨Rect.unit (s := S2x1x1024) ![1, 0, 0] S1x1x1024.size inb_S2x1x1024_S1x1x1024_1_0_0, (shapeCast S1x1x1024 (mNew (sw s0 1) (parts2 (ldK arg7 x1 1) (ldQ arg6 x0 1) (ldV arg8 x2 1))) shapeCasts_S1x1024_S1x1x1024 : FVec F S1x1x1024 .f32)⟩,
       ⟨Rect.unit (s := S2x1x1024) ![0, 0, 0] S1x1x1024.size inb_S2x1x1024_S1x1x1024_0_0_0, (shapeCast S1x1x1024 (mNew (sw s0 0) (parts2 (ldK arg7 x1 0) (ldQ arg6 x0 0) (ldV arg8 x2 0))) shapeCasts_S1x1024_S1x1x1024 : FVec F S1x1x1024 .f32)⟩] := by sl_kernel_rfl

theorem run2_1 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run2 c i arg6 harg6 arg7 harg7 arg8 harg8 arg9 harg9 x0 x1 x2 s0 s1 s2).2.1 = (View.whole cc0_scratch1).writes (Elt F) (View.whole cc0_scratch1).junk
      [⟨Rect.unit (s := S2x1x1024) ![1, 0, 0] S1x1x1024.size inb_S2x1x1024_S1x1x1024_1_0_0, (shapeCast S1x1x1024 (lMrg (mNew (sw s0 1) (parts2 (ldK arg7 x1 1) (ldQ arg6 x0 1) (ldV arg8 x2 1))) (sw s0 1) (sw s1 1) (parts2 (ldK arg7 x1 1) (ldQ arg6 x0 1) (ldV arg8 x2 1))) shapeCasts_S1x1024_S1x1x1024 : FVec F S1x1x1024 .f32)⟩,
       ⟨Rect.unit (s := S2x1x1024) ![0, 0, 0] S1x1x1024.size inb_S2x1x1024_S1x1x1024_0_0_0, (shapeCast S1x1x1024 (lMrg (mNew (sw s0 0) (parts2 (ldK arg7 x1 0) (ldQ arg6 x0 0) (ldV arg8 x2 0))) (sw s0 0) (sw s1 0) (parts2 (ldK arg7 x1 0) (ldQ arg6 x0 0) (ldV arg8 x2 0))) shapeCasts_S1x1024_S1x1x1024 : FVec F S1x1x1024 .f32)⟩] := by sl_kernel_rfl

theorem run2_2 (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) :
    (run2 c i arg6 harg6 arg7 harg7 arg8 harg8 arg9 harg9 x0 x1 x2 s0 s1 s2).2.2.1 = (View.whole cc0_scratch2).writes (Elt F) (View.whole cc0_scratch2).junk
      [⟨Rect.unit (s := S128x1024) ![64, 0] S64x1024.size inb_S128x1024_S64x1024_64_0, (shapeCast S64x1024 (aMrg (mNew (sw s0 1) (parts2 (ldK arg7 x1 1) (ldQ arg6 x0 1) (ldV arg8 x2 1))) (sw s0 1) (aw s2 1) (parts2 (ldK arg7 x1 1) (ldQ arg6 x0 1) (ldV arg8 x2 1))) shapeCasts_S64x1024_S64x1024 : FVec F S64x1024 .f32)⟩,
       ⟨Rect.unit (s := S128x1024) ![0, 0] S64x1024.size inb_S128x1024_S64x1024_0_0, (shapeCast S64x1024 (aMrg (mNew (sw s0 0) (parts2 (ldK arg7 x1 0) (ldQ arg6 x0 0) (ldV arg8 x2 0))) (sw s0 0) (aw s2 0) (parts2 (ldK arg7 x1 0) (ldQ arg6 x0 0) (ldV arg8 x2 0))) shapeCasts_S64x1024_S64x1024 : FVec F S64x1024 .f32)⟩] := by sl_kernel_rfl

theorem run0_0s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run0 c i arg6 harg6 arg7 harg7 arg8 harg8 arg9 harg9 x0 x1 x2 s0 s1 s2).1 = mT (fun h => parts0 (kw x1 h) (qw x0 h) (vw x2 h)) s0 := by
  refine (run0_0 c i arg6 harg6 arg7 harg7 arg8 harg8 arg9 harg9 x0 x1 x2 s0 s1 s2).trans ?_
  refine (whole_jn0 _ _ _).trans ?_
  rw [ldK_eq, ldQ_eq, ldV_eq]; rfl
theorem run0_1s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run0 c i arg6 harg6 arg7 harg7 arg8 harg8 arg9 harg9 x0 x1 x2 s0 s1 s2).2.1 = lT (fun h => parts0 (kw x1 h) (qw x0 h) (vw x2 h)) s0 s1 := by
  refine (run0_1 c i arg6 harg6 arg7 harg7 arg8 harg8 arg9 harg9 x0 x1 x2 s0 s1 s2).trans ?_
  refine (whole_jn1 _ _ _).trans ?_
  rw [ldK_eq, ldQ_eq, ldV_eq]; rfl
theorem run0_2s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run0 c i arg6 harg6 arg7 harg7 arg8 harg8 arg9 harg9 x0 x1 x2 s0 s1 s2).2.2.1 = aT (fun h => parts0 (kw x1 h) (qw x0 h) (vw x2 h)) s0 s2 := by
  refine (run0_2 c i arg6 harg6 arg7 harg7 arg8 harg8 arg9 harg9 x0 x1 x2 s0 s1 s2).trans ?_
  refine (whole_ja _ _ _).trans ?_
  rw [ldK_eq, ldQ_eq, ldV_eq]; rfl

theorem run1_0s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run1 c i arg6 harg6 arg7 harg7 arg8 harg8 arg9 harg9 x0 x1 x2 s0 s1 s2).1 = mT (fun h => parts1 (kw x1 h) (qw x0 h) (vw x2 h)) s0 := by
  refine (run1_0 c i arg6 harg6 arg7 harg7 arg8 harg8 arg9 harg9 x0 x1 x2 s0 s1 s2).trans ?_
  refine (whole_jn0 _ _ _).trans ?_
  rw [ldK_eq, ldQ_eq, ldV_eq]; rfl
theorem run1_1s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run1 c i arg6 harg6 arg7 harg7 arg8 harg8 arg9 harg9 x0 x1 x2 s0 s1 s2).2.1 = lT (fun h => parts1 (kw x1 h) (qw x0 h) (vw x2 h)) s0 s1 := by
  refine (run1_1 c i arg6 harg6 arg7 harg7 arg8 harg8 arg9 harg9 x0 x1 x2 s0 s1 s2).trans ?_
  refine (whole_jn1 _ _ _).trans ?_
  rw [ldK_eq, ldQ_eq, ldV_eq]; rfl
theorem run1_2s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run1 c i arg6 harg6 arg7 harg7 arg8 harg8 arg9 harg9 x0 x1 x2 s0 s1 s2).2.2.1 = aT (fun h => parts1 (kw x1 h) (qw x0 h) (vw x2 h)) s0 s2 := by
  refine (run1_2 c i arg6 harg6 arg7 harg7 arg8 harg8 arg9 harg9 x0 x1 x2 s0 s1 s2).trans ?_
  refine (whole_ja _ _ _).trans ?_
  rw [ldK_eq, ldQ_eq, ldV_eq]; rfl

theorem run2_0s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run2 c i arg6 harg6 arg7 harg7 arg8 harg8 arg9 harg9 x0 x1 x2 s0 s1 s2).1 = mT (fun h => parts2 (kw x1 h) (qw x0 h) (vw x2 h)) s0 := by
  refine (run2_0 c i arg6 harg6 arg7 harg7 arg8 harg8 arg9 harg9 x0 x1 x2 s0 s1 s2).trans ?_
  refine (whole_jn0 _ _ _).trans ?_
  rw [ldK_eq, ldQ_eq, ldV_eq]; rfl
theorem run2_1s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run2 c i arg6 harg6 arg7 harg7 arg8 harg8 arg9 harg9 x0 x1 x2 s0 s1 s2).2.1 = lT (fun h => parts2 (kw x1 h) (qw x0 h) (vw x2 h)) s0 s1 := by
  refine (run2_1 c i arg6 harg6 arg7 harg7 arg8 harg8 arg9 harg9 x0 x1 x2 s0 s1 s2).trans ?_
  refine (whole_jn1 _ _ _).trans ?_
  rw [ldK_eq, ldQ_eq, ldV_eq]; rfl
theorem run2_2s (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) : (run2 c i arg6 harg6 arg7 harg7 arg8 harg8 arg9 harg9 x0 x1 x2 s0 s1 s2).2.2.1 = aT (fun h => parts2 (kw x1 h) (qw x0 h) (vw x2 h)) s0 s2 := by
  refine (run2_2 c i arg6 harg6 arg7 harg7 arg8 harg8 arg9 harg9 x0 x1 x2 s0 s1 s2).trans ?_
  refine (whole_ja _ _ _).trans ?_
  rw [ldK_eq, ldQ_eq, ldV_eq]; rfl

end Cert.KernelIdeal.Att

end
-- ==== Proof.Step.lean ====
module

public import proofs.«01_k».proof.Proof.Tile
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The blocks' runs with what they leave stated. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The program logic's propositions over values `F`. -/
local notation "𝕄" => MT nD τ sig Unit (Elt F) ℕ (UR sig nD τ) ℕ

set_option maxHeartbeats 400000 in
/-- The run of `tile0` with what it leaves stated. -/
theorem tile0_wp (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) (jp : PUnit.{1} → KP F) (K : PUnit.{1} → sProp 𝕄) :
        iprop(ins c arg6 arg7 arg8 x0 x1 x2
          ∗ scr c s0 s1 s2
          ∗ (iprop(ins c arg6 arg7 arg8 x0 x1 x2
              ∗ scr c (mT (fun h => parts0 (kw x1 h) (qw x0 h) (vw x2 h)) s0) (lT (fun h => parts0 (kw x1 h) (qw x0 h) (vw x2 h)) s0 s1) (aT (fun h => parts0 (kw x1 h) (qw x0 h) (vw x2 h)) s0 s2)) -∗ wp frame (wpE (defs₀ (F := F)) Variants.none c none) Set.univ (jp ⟨⟩) K))
          ⊢ wp frame (wpE (defs₀ (F := F)) Variants.none c none) Set.univ (tile0 i arg6 harg6 arg7 harg7 arg8 harg8 arg9 harg9 jp) K := by
  have e0 := run0_0s c i arg6 harg6 arg7 harg7 arg8 harg8 arg9 harg9 x0 x1 x2 s0 s1 s2
  have e1 := run0_1s c i arg6 harg6 arg7 harg7 arg8 harg8 arg9 harg9 x0 x1 x2 s0 s1 s2
  have e2 := run0_2s c i arg6 harg6 arg7 harg7 arg8 harg8 arg9 harg9 x0 x1 x2 s0 s1 s2
  generalize run0 c i arg6 harg6 arg7 harg7 arg8 harg8 arg9 harg9 x0 x1 x2 s0 s1 s2 = R at e0 e1 e2
  obtain ⟨o0, o1, o2, h⟩ := R
  dsimp only at e0 e1 e2
  subst e0 e1 e2
  exact h jp K

set_option maxHeartbeats 400000 in
/-- The run of `tile1` with what it leaves stated. -/
theorem tile1_wp (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) (jp : PUnit.{1} → KP F) (K : PUnit.{1} → sProp 𝕄) :
        iprop(ins c arg6 arg7 arg8 x0 x1 x2
          ∗ scr c s0 s1 s2
          ∗ (iprop(ins c arg6 arg7 arg8 x0 x1 x2
              ∗ scr c (mT (fun h => parts1 (kw x1 h) (qw x0 h) (vw x2 h)) s0) (lT (fun h => parts1 (kw x1 h) (qw x0 h) (vw x2 h)) s0 s1) (aT (fun h => parts1 (kw x1 h) (qw x0 h) (vw x2 h)) s0 s2)) -∗ wp frame (wpE (defs₀ (F := F)) Variants.none c none) Set.univ (jp ⟨⟩) K))
          ⊢ wp frame (wpE (defs₀ (F := F)) Variants.none c none) Set.univ (tile1 i arg6 harg6 arg7 harg7 arg8 harg8 arg9 harg9 jp) K := by
  have e0 := run1_0s c i arg6 harg6 arg7 harg7 arg8 harg8 arg9 harg9 x0 x1 x2 s0 s1 s2
  have e1 := run1_1s c i arg6 harg6 arg7 harg7 arg8 harg8 arg9 harg9 x0 x1 x2 s0 s1 s2
  have e2 := run1_2s c i arg6 harg6 arg7 harg7 arg8 harg8 arg9 harg9 x0 x1 x2 s0 s1 s2
  generalize run1 c i arg6 harg6 arg7 harg7 arg8 harg8 arg9 harg9 x0 x1 x2 s0 s1 s2 = R at e0 e1 e2
  obtain ⟨o0, o1, o2, h⟩ := R
  dsimp only at e0 e1 e2
  subst e0 e1 e2
  exact h jp K

set_option maxHeartbeats 400000 in
/-- The run of `tile2` with what it leaves stated. -/
theorem tile2_wp (c : Dev nD) (i : grid0.Coords)
  (arg6 : Memref sig .tc .vmem S1x2x1024x128 .bf16) (harg6 : arg6.IsWhole)
  (arg7 : Memref sig .tc .vmem S1x2x2048x128 .bf16) (harg7 : arg7.IsWhole)
  (arg8 : Memref sig .tc .vmem S1x128x2048 .bf16) (harg8 : arg8.IsWhole)
  (arg9 : Memref sig .tc .vmem S1x1024x128 .bf16) (harg9 : arg9.IsWhole)
  (x0 : Vec F S1x2x1024x128 .bf16) (x1 : Vec F S1x2x2048x128 .bf16) (x2 : Vec F S1x128x2048 .bf16)
  (s0 : Buf (Elt F) ((c : Thread nD τ).loc cc0_scratch0)) (s1 : Buf (Elt F) ((c : Thread nD τ).loc cc0_scratch1)) (s2 : Buf (Elt F) ((c : Thread nD τ).loc cc0_scratch2)) (jp : PUnit.{1} → KP F) (K : PUnit.{1} → sProp 𝕄) :
        iprop(ins c arg6 arg7 arg8 x0 x1 x2
          ∗ scr c s0 s1 s2
          ∗ (iprop(ins c arg6 arg7 arg8 x0 x1 x2
              ∗ scr c (mT (fun h => parts2 (kw x1 h) (qw x0 h) (vw x2 h)) s0) (lT (fun h => parts2 (kw x1 h) (qw x0 h) (vw x2 h)) s0 s1) (aT (fun h => parts2 (kw x1 h) (qw x0 h) (vw x2 h)) s0 s2)) -∗ wp frame (wpE (defs₀ (F := F)) Variants.none c none) Set.univ (jp ⟨⟩) K))
          ⊢ wp frame (wpE (defs₀ (F := F)) Variants.none c none) Set.univ (tile2 i arg6 harg6 arg7 harg7 arg8 harg8 arg9 harg9 jp) K := by
  have e0 := run2_0s c i arg6 harg6 arg7 harg7 arg8 harg8 arg9 harg9 x0 x1 x2 s0 s1 s2
  have e1 := run2_1s c i arg6 harg6 arg7 harg7 arg8 harg8 arg9 harg9 x0 x1 x2 s0 s1 s2
  have e2 := run2_2s c i arg6 harg6 arg7 harg7 arg8 harg8 arg9 harg9 x0 x1 x2 s0 s1 s2
  generalize run2 c i arg6 harg6 arg7 harg7 arg8 harg8 arg9 harg9 x0 x1 x2 s0 s1 s2 = R at e0 e1 e2
  obtain ⟨o0, o1, o2, h⟩ := R
  dsimp only at e0 e1 e2
  subst e0 e1 e2
  exact h jp K

/-! ## The reset and the output -/

/-- The state a row of tiles starts from. -/
def mR : Vec F S2x1x1024 .f32 := k0_pay1 (F := F)
def lR : Vec F S2x1x1024 .f32 := k0_pay2 (F := F)
def aR : Vec F S128x1024 .f32 := k0_pay3 (F := F)

set_option backward.proofsInPublic true in
/-- The reset's run. -/
theorem resetB_wp (c : Dev nD) (s0 : Buf (Elt F) ((c : Thread nD τ).loc cc0_scratch0)) (s1 : Buf (Elt F) ((c : Thread nD τ).loc cc0_scratch1)) (s2 : Buf (Elt F) ((c : Thread nD τ).loc cc0_scratch2))
    (jp : PUnit.{1} → KP F) (K : PUnit.{1} → sProp 𝕄) :
        iprop(scr c s0 s1 s2
          ∗ (iprop(scr c mR lR aR) -∗ wp frame (wpE (defs₀ (F := F)) Variants.none c none) Set.univ (jp ⟨⟩) K))
          ⊢ wp frame (wpE (defs₀ (F := F)) Variants.none c none) Set.univ (resetB jp) K := by
  unfold resetB scr
  iintro ⟨⟨HS0, HS1, HS2⟩, Hk⟩
  have hS0 : scM0.IsWhole := Memref.isWhole_whole _
  have hS1 : scM1.IsWhole := Memref.isWhole_whole _
  have hS2 : scM2.IsWhole := Memref.isWhole_whole _
  sl_exec!
  have e0 : scM0.view.writes (Elt F) scM0.view.junk resetB_wp.sl.HS0_1 = mR := full0 _ _
  have e1 : scM1.view.writes (Elt F) scM1.view.junk resetB_wp.sl.HS1_1 = lR := full1 _ _
  have e2 : scM2.view.writes (Elt F) scM2.view.junk resetB_wp.sl.HS2_1 = aR := full2 _ _
  rw [e0, e1, e2]
  iapply Hk
  isplitl [HS0]; · iexact HS0
  isplitl [HS1]; · iexact HS1
  iexact HS2

/-- What the last block stores, of the denominator and the accumulator. -/
def outV (s1 : Vec F S2x1x1024 .f32) (s2 : Vec F S128x1024 .f32) : Vec F S1x1024x128 .bf16 :=
  k0_pay14 (aw s2 0) (VecWindow.window s1 (![0, 0, 0] : Fin 3 → ℕ) S1x1x1024.size (inbS 0))
    (aw s2 1) (VecWindow.window s1 (![1, 0, 0] : Fin 3 → ℕ) S1x1x1024.size (inbS 1))

set_option backward.proofsInPublic true in
/-- The output block's run. -/
theorem outB_wp (c : Dev nD) (arg9 : Memref sig .tc .vmem S1x1024x128 .bf16) (harg9 : arg9.IsWhole)
    (s0 : Buf (Elt F) ((c : Thread nD τ).loc cc0_scratch0)) (s1 : Buf (Elt F) ((c : Thread nD τ).loc cc0_scratch1)) (s2 : Buf (Elt F) ((c : Thread nD τ).loc cc0_scratch2)) (d : Vec F S1x1024x128 .bf16)
    (jp : PUnit.{1} → KP F) (K : PUnit.{1} → sProp 𝕄) :
        iprop((owns (c : Thread nD τ) arg9 fullShare d)
          ∗ scr c s0 s1 s2
          ∗ (iprop((owns (c : Thread nD τ) arg9 fullShare (outV s1 s2))
              ∗ scr c s0 s1 s2) -∗ wp frame (wpE (defs₀ (F := F)) Variants.none c none) Set.univ (jp ⟨⟩) K))
          ⊢ wp frame (wpE (defs₀ (F := F)) Variants.none c none) Set.univ (outB arg9 harg9 jp) K := by
  unfold outB owns scr
  iintro ⟨⟨%f3, %hf3, HO⟩, ⟨HS0, HS1, HS2⟩, Hk⟩
  have hS1 : scM1.IsWhole := Memref.isWhole_whole _
  have hS2 : scM2.IsWhole := Memref.isWhole_whole _
  sl_exec!
  iapply Hk
  isplitl [HO]
  · iexists _
    isplitr [HO]
    rotate_left
    · iexact HO
    · ipureintro
      exact full3 arg9.view _ _
  isplitl [HS0]; · iexact HS0
  isplitl [HS1]; · iexact HS1
  iexact HS2

end Cert.KernelIdeal.Att

end
-- ==== Proof.Body.lean ====
module

public import proofs.«01_k».proof.Proof.Step
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The body at a grid point: which blocks run is read from the tables. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The program logic's propositions over values `F`. -/
local notation "𝕄" => MT nD τ sig Unit (Elt F) ℕ (UR sig nD τ) ℕ

/-- What the three scratches hold: the running maximum, the denominator, the accumulator. -/
structure St (F : FTy → Type) [FloatOps F] where
  m : Vec F S2x1x1024 .f32
  l : Vec F S2x1x1024 .f32
  a : Vec F S128x1024 .f32

/-- The state at a query block's first key block. -/
def stR : St F := ⟨mR, lR, aR⟩

/-- The state after a tile whose chunks are, by head, `P`. -/
def upd (P : Fin 2 → List (Part F)) (s : St F) : St F := ⟨mT P s.m, lT P s.m s.l, aT P s.m s.a⟩

/-- The state after each kind of tile. -/
def up0 (x0 : Vec F S1x2x1024x128 .bf16) (x1 : Vec F S1x2x2048x128 .bf16) (x2 : Vec F S1x128x2048 .bf16) (s : St F) : St F :=
  upd (fun h => parts0 (kw x1 h) (qw x0 h) (vw x2 h)) s
def up1 (x0 : Vec F S1x2x1024x128 .bf16) (x1 : Vec F S1x2x2048x128 .bf16) (x2 : Vec F S1x128x2048 .bf16) (s : St F) : St F :=
  upd (fun h => parts1 (kw x1 h) (qw x0 h) (vw x2 h)) s
def up2 (x0 : Vec F S1x2x1024x128 .bf16) (x1 : Vec F S1x2x2048x128 .bf16) (x2 : Vec F S1x128x2048 .bf16) (s : St F) : St F :=
  upd (fun h => parts2 (kw x1 h) (qw x0 h) (vw x2 h)) s

/-- The state after the body at a point whose tables' words are `v1` and `v3`. -/
def nxt (v1 v3 : BitVec 32) (x0 : Vec F S1x2x1024x128 .bf16) (x1 : Vec F S1x2x2048x128 .bf16) (x2 : Vec F S1x128x2048 .bf16) (s : St F) : St F :=
  let s := if c0 (F := F) v3 then stR else s
  let s := if c1 v1 v3 then up0 x0 x1 x2 s else s
  let s := if c2 v1 v3 then up1 x0 x1 x2 s else s
  if c3 v1 v3 then up2 x0 x1 x2 s else s

/-- The scratches holding the state `s`. -/
def scS (c : Dev nD) (s : St F) : sProp 𝕄 := scr c s.m s.l s.a

/-- A conditional block's run, from the block's. -/
theorem wp_ifK (c : Dev nD) (A : St F → sProp 𝕄) (s s' : St F) (b : Prop) [Decidable b]
    (B : (PUnit.{1} → KP F) → KP F) (k : PUnit.{1} → KP F) (K : PUnit.{1} → sProp 𝕄)
    (hB : ∀ jp, iprop(A s ∗ (A s' -∗ wp frame (wpE (defs₀ (F := F)) Variants.none c none) Set.univ (jp ⟨⟩) K))
      ⊢ wp frame (wpE (defs₀ (F := F)) Variants.none c none) Set.univ (B jp) K) :
    iprop(A s ∗ (A (if b then s' else s) -∗ wp frame (wpE (defs₀ (F := F)) Variants.none c none) Set.univ (k ⟨⟩) K))
      ⊢ wp frame (wpE (defs₀ (F := F)) Variants.none c none) Set.univ (ifK b B k) K := by
  unfold ifK
  by_cases h : b
  · rw [if_pos h, if_pos h]; exact hB k
  · rw [if_neg h, if_neg h]
    iintro ⟨HA, Hk⟩
    iapply Hk
    iexact HA

set_option maxHeartbeats 800000 in
/-- The reset and the three tiles' blocks, one after another. -/
theorem blocks_wp (c : Dev nD) (i : grid0.Coords)
    (arg6 : Memref sig .tc .vmem S1x2x1024x128 .bf16) (harg6 : arg6.IsWhole)
    (arg7 : Memref sig .tc .vmem S1x2x2048x128 .bf16) (harg7 : arg7.IsWhole)
    (arg8 : Memref sig .tc .vmem S1x128x2048 .bf16) (harg8 : arg8.IsWhole)
    (arg9 : Memref sig .tc .vmem S1x1024x128 .bf16) (harg9 : arg9.IsWhole)
    (x0 : Vec F S1x2x1024x128 .bf16) (x1 : Vec F S1x2x2048x128 .bf16) (x2 : Vec F S1x128x2048 .bf16)
    (v1 v3 : BitVec 32) (s : St F) (k : PUnit.{1} → KP F) (K : PUnit.{1} → sProp 𝕄) :
    iprop(iprop(ins c arg6 arg7 arg8 x0 x1 x2 ∗ scS c s)
        ∗ (iprop(ins c arg6 arg7 arg8 x0 x1 x2 ∗ scS c (nxt v1 v3 x0 x1 x2 s)) -∗ wp frame (wpE (defs₀ (F := F)) Variants.none c none) Set.univ (k ⟨⟩) K))
      ⊢ wp frame (wpE (defs₀ (F := F)) Variants.none c none) Set.univ (ifK (c0 (F := F) v3) resetB fun _ =>
          ifK (c1 v1 v3) (tile0 i arg6 harg6 arg7 harg7 arg8 harg8 arg9 harg9) fun _ =>
          ifK (c2 v1 v3) (tile1 i arg6 harg6 arg7 harg7 arg8 harg8 arg9 harg9) fun _ =>
          ifK (c3 v1 v3) (tile2 i arg6 harg6 arg7 harg7 arg8 harg8 arg9 harg9) k) K := by
  have h0 : ∀ (s : St F) (jp : PUnit.{1} → KP F), iprop(iprop(ins c arg6 arg7 arg8 x0 x1 x2 ∗ scS c s) ∗ (iprop(ins c arg6 arg7 arg8 x0 x1 x2 ∗ scS c stR) -∗ wp frame (wpE (defs₀ (F := F)) Variants.none c none) Set.univ (jp ⟨⟩) K))
      ⊢ wp frame (wpE (defs₀ (F := F)) Variants.none c none) Set.univ (resetB jp) K := by
    intro s jp
    unfold scS stR
    refine BIBase.Entails.trans ?_ (resetB_wp c s.m s.l s.a jp K)
    iintro ⟨⟨HI, HS⟩, Hk⟩
    isplitl [HS]; · iexact HS
    iintro HS
    iapply Hk
    isplitl [HI]; · iexact HI
    iexact HS
  have h1 : ∀ (s : St F) (jp : PUnit.{1} → KP F), iprop(iprop(ins c arg6 arg7 arg8 x0 x1 x2 ∗ scS c s) ∗ (iprop(ins c arg6 arg7 arg8 x0 x1 x2 ∗ scS c (up0 x0 x1 x2 s)) -∗ wp frame (wpE (defs₀ (F := F)) Variants.none c none) Set.univ (jp ⟨⟩) K))
      ⊢ wp frame (wpE (defs₀ (F := F)) Variants.none c none) Set.univ (tile0 i arg6 harg6 arg7 harg7 arg8 harg8 arg9 harg9 jp) K := by
    intro s jp
    unfold scS up0 upd
    refine BIBase.Entails.trans ?_ (tile0_wp c i arg6 harg6 arg7 harg7 arg8 harg8 arg9 harg9 x0 x1 x2 s.m s.l s.a jp K)
    iintro ⟨⟨HI, HS⟩, Hk⟩
    isplitl [HI]; · iexact HI
    isplitl [HS]; · iexact HS
    iexact Hk
  have h2 : ∀ (s : St F) (jp : PUnit.{1} → KP F), iprop(iprop(ins c arg6 arg7 arg8 x0 x1 x2 ∗ scS c s) ∗ (iprop(ins c arg6 arg7 arg8 x0 x1 x2 ∗ scS c (up1 x0 x1 x2 s)) -∗ wp frame (wpE (defs₀ (F := F)) Variants.none c none) Set.univ (jp ⟨⟩) K))
      ⊢ wp frame (wpE (defs₀ (F := F)) Variants.none c none) Set.univ (tile1 i arg6 harg6 arg7 harg7 arg8 harg8 arg9 harg9 jp) K := by
    intro s jp
    unfold scS up1 upd
    refine BIBase.Entails.trans ?_ (tile1_wp c i arg6 harg6 arg7 harg7 arg8 harg8 arg9 harg9 x0 x1 x2 s.m s.l s.a jp K)
    iintro ⟨⟨HI, HS⟩, Hk⟩
    isplitl [HI]; · iexact HI
    isplitl [HS]; · iexact HS
    iexact Hk
  have h3 : ∀ (s : St F) (jp : PUnit.{1} → KP F), iprop(iprop(ins c arg6 arg7 arg8 x0 x1 x2 ∗ scS c s) ∗ (iprop(ins c arg6 arg7 arg8 x0 x1 x2 ∗ scS c (up2 x0 x1 x2 s)) -∗ wp frame (wpE (defs₀ (F := F)) Variants.none c none) Set.univ (jp ⟨⟩) K))
      ⊢ wp frame (wpE (defs₀ (F := F)) Variants.none c none) Set.univ (tile2 i arg6 harg6 arg7 harg7 arg8 harg8 arg9 harg9 jp) K := by
    intro s jp
    unfold scS up2 upd
    refine BIBase.Entails.trans ?_ (tile2_wp c i arg6 harg6 arg7 harg7 arg8 harg8 arg9 harg9 x0 x1 x2 s.m s.l s.a jp K)
    iintro ⟨⟨HI, HS⟩, Hk⟩
    isplitl [HI]; · iexact HI
    isplitl [HS]; · iexact HS
    iexact Hk
  unfold nxt
  iintro ⟨HA, Hk⟩
  iapply (wp_ifK c (fun s => iprop(ins c arg6 arg7 arg8 x0 x1 x2 ∗ scS c s)) s stR _ _ _ K (h0 s))
  isplitl [HA]; · iexact HA
  iintro HA
  iapply (wp_ifK c (fun s => iprop(ins c arg6 arg7 arg8 x0 x1 x2 ∗ scS c s)) _ (up0 x0 x1 x2 _) _ _ _ K (h1 _))
  isplitl [HA]; · iexact HA
  iintro HA
  iapply (wp_ifK c (fun s => iprop(ins c arg6 arg7 arg8 x0 x1 x2 ∗ scS c s)) _ (up1 x0 x1 x2 _) _ _ _ K (h2 _))
  isplitl [HA]; · iexact HA
  iintro HA
  iapply (wp_ifK c (fun s => iprop(ins c arg6 arg7 arg8 x0 x1 x2 ∗ scS c s)) _ (up2 x0 x1 x2 _) _ _ _ K (h3 _))
  isplitl [HA]; · iexact HA
  iexact Hk

/-- The output's conditional block. -/
theorem out_wp (c : Dev nD) (arg9 : Memref sig .tc .vmem S1x1024x128 .bf16) (harg9 : arg9.IsWhole)
    (w : BitVec 32) (s : St F) (d : Vec F S1x1024x128 .bf16) (k : PUnit.{1} → KP F) (K : PUnit.{1} → sProp 𝕄) :
    iprop(owns (c : Thread nD τ) arg9 fullShare d ∗ scS c s
        ∗ (iprop(owns (c : Thread nD τ) arg9 fullShare (if k0_cond5 w = 1#1 then outV s.l s.a else d) ∗ scS c s) -∗ wp frame (wpE (defs₀ (F := F)) Variants.none c none) Set.univ (k ⟨⟩) K))
      ⊢ wp frame (wpE (defs₀ (F := F)) Variants.none c none) Set.univ (ifK (k0_cond5 w = 1#1) (outB arg9 harg9) k) K := by
  unfold ifK
  by_cases h : k0_cond5 w = 1#1
  · rw [if_pos h, if_pos h]; exact outB_wp c arg9 harg9 s.m s.l s.a d k K
  · rw [if_neg h, if_neg h]
    iintro ⟨HO, HS, Hk⟩
    iapply Hk
    isplitl [HO]; · iexact HO
    iexact HS

/-- A prefetched table's word at a point. -/
def wd0 (T : tbM0.view.ty.Contents (Elt F)) (i : grid0.Coords) : BitVec 32 :=
  View.readAt (Elt F) tbM0.view (Rect.unit (s := S20) (k0_off1 i) S1.size (k0_off1_inb i)).toLoadRect T (Shape.Idx.first (numel1_S1.symm ▸ Nat.one_pos))
def wd1 (T : tbM1.view.ty.Contents (Elt F)) (i : grid0.Coords) : BitVec 32 :=
  View.readAt (Elt F) tbM1.view (Rect.unit (s := S20) (k0_off1 i) S1.size (k0_off1_inb i)).toLoadRect T (Shape.Idx.first (numel1_S1.symm ▸ Nat.one_pos))
def wd2 (T : tbM2.view.ty.Contents (Elt F)) (i : grid0.Coords) : BitVec 32 :=
  View.readAt (Elt F) tbM2.view (Rect.unit (s := S20) (k0_off2 i) S1.size (k0_off2_inb i)).toLoadRect T (Shape.Idx.first (numel1_S1.symm ▸ Nat.one_pos))

/-- The three tables held. -/
def tbl (c : Dev nD) (T0 : Buf (Elt F) ((c : Thread nD τ).loc main_c)) (T1 : Buf (Elt F) ((c : Thread nD τ).loc main_c_0)) (T2 : Buf (Elt F) ((c : Thread nD τ).loc main_c_1)) : sProp 𝕄 :=
  iprop((tbM0.view.loc (c : Thread nD τ) ↦{fullShare.right} T0)
    ∗ (tbM1.view.loc (c : Thread nD τ) ↦{fullShare.right} T1)
    ∗ (tbM2.view.loc (c : Thread nD τ) ↦{fullShare.right} T2))

set_option maxHeartbeats 800000 in
/-- The body's run: the scratches step to the next state; the output's buffer is stored where the last table's word says so and left
otherwise. -/
theorem body_wp (c : Dev nD) (i : grid0.Coords)
    (arg6 : Memref sig .tc .vmem S1x2x1024x128 .bf16) (harg6 : arg6.IsWhole)
    (arg7 : Memref sig .tc .vmem S1x2x2048x128 .bf16) (harg7 : arg7.IsWhole)
    (arg8 : Memref sig .tc .vmem S1x128x2048 .bf16) (harg8 : arg8.IsWhole)
    (arg9 : Memref sig .tc .vmem S1x1024x128 .bf16) (harg9 : arg9.IsWhole)
    (x0 : Vec F S1x2x1024x128 .bf16) (x1 : Vec F S1x2x2048x128 .bf16) (x2 : Vec F S1x128x2048 .bf16)
    (T0 : Buf (Elt F) ((c : Thread nD τ).loc main_c)) (T1 : Buf (Elt F) ((c : Thread nD τ).loc main_c_0)) (T2 : Buf (Elt F) ((c : Thread nD τ).loc main_c_1))
    (s : St F) (d : Vec F S1x1024x128 .bf16) (K : PUnit.{1} → sProp 𝕄) :
    iprop(ins c arg6 arg7 arg8 x0 x1 x2 ∗ scS c s ∗ tbl c T0 T1 T2 ∗ owns (c : Thread nD τ) arg9 fullShare d
        ∗ (iprop(ins c arg6 arg7 arg8 x0 x1 x2 ∗ scS c (nxt (wd0 T0 i) (wd1 T1 i) x0 x1 x2 s) ∗ tbl c T0 T1 T2
          ∗ owns (c : Thread nD τ) arg9 fullShare
              (if k0_cond5 (wd2 T2 i) = 1#1 then outV (nxt (wd0 T0 i) (wd1 T1 i) x0 x1 x2 s).l (nxt (wd0 T0 i) (wd1 T1 i) x0 x1 x2 s).a else d)) -∗ K ⟨⟩))
      ⊢ wp frame (wpE (defs₀ (F := F)) Variants.none c none) Set.univ
          (cc0_attn_prompt i tbM0 (Memref.isWhole_whole _) tbM1 (Memref.isWhole_whole _) tbM2 (Memref.isWhole_whole _) arg6 harg6 arg7 harg7 arg8 harg8 arg9 harg9 scM0 (Memref.isWhole_whole _) scM1 (Memref.isWhole_whole _) scM2 (Memref.isWhole_whole _)) K := by
  rw [cc0_attn_prompt_eq_skeleton, skel_cut]
  unfold tbl
  iintro ⟨HI, HS, ⟨HT0, HT1, HT2⟩, HO, Hk⟩
  have hT0 : tbM0.IsWhole := Memref.isWhole_whole _
  have hT1 : tbM1.IsWhole := Memref.isWhole_whole _
  have hT2 : tbM2.IsWhole := Memref.isWhole_whole _
  sl_exec!
  iapply (blocks_wp c i arg6 harg6 arg7 harg7 arg8 harg8 arg9 harg9 x0 x1 x2 (wd0 T0 i) (wd1 T1 i) s _ K)
  isplitl [HI HS]
  · isplitl [HI]; · iexact HI
    iexact HS
  iintro ⟨HI, HS⟩
  sl_exec!
  iapply (out_wp c arg9 harg9 (wd2 T2 i) (nxt (wd0 T0 i) (wd1 T1 i) x0 x1 x2 s) d _ K)
  isplitl [HO]; · iexact HO
  isplitl [HS]; · iexact HS
  iintro ⟨HO, HS⟩
  sl_step
  iapply Hk
  isplitl [HI]; · iexact HI
  isplitl [HS]; · iexact HS
  isplitl [HT0 HT1 HT2]
  · isplitl [HT0]; · iexact HT0
    isplitl [HT1]; · iexact HT1
    iexact HT2
  iexact HO

end Cert.KernelIdeal.Att

end
-- ==== Proof.Sched.lean ====
module

public import proofs.«01_k».proof.Proof.Body
public import proofs.«01_k».proof.Proof.Gen.KernelIdeal.Launch
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The tables the program prefetches, the pipeline at them, and what is decided of its schedule. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The three tables: the query block, the key block, and whether it is the query block's last, by position in the sweep. -/
def T0 : S20.Idx → BitVec 32 := fun i => lit0 (S20.rowMajor i)
def T1 : S20.Idx → BitVec 32 := fun i => lit1 (S20.rowMajor i)
def T2 : S20.Idx → BitVec 32 := fun i => lit2 (S20.rowMajor i)

set_option backward.proofsInPublic true in
/-- The tables' contents together. -/
def pfT : pre0.Contents (Elt F) := fun | ⟨0, _⟩ => T0 | ⟨1, _⟩ => T1 | ⟨2, _⟩ => T2 | ⟨_ + 3, h⟩ => absurd h (by simp)

/-- Every block lies inside its array. -/
theorem inbB0 : ∀ i : grid0.Coords, ∀ a, (cc0_transform_0 k0_off1_inb numel1_S1 (pfT (F := Bits)) i a + 1) * S1x2x1024x128.size a ≤ S2x8x8192x128.size a := by decide +kernel
theorem inbB1 : ∀ i : grid0.Coords, ∀ a, (cc0_transform_1 k0_off1_inb numel1_S1 (pfT (F := Bits)) i a + 1) * S1x2x2048x128.size a ≤ S2x8x8192x128.size a := by decide +kernel
theorem inbB2 : ∀ i : grid0.Coords, ∀ a, (cc0_transform_2 k0_off1_inb numel1_S1 (pfT (F := Bits)) i a + 1) * S1x128x2048.size a ≤ S2x512x8192.size a := by decide +kernel
theorem inbB3 : ∀ i : grid0.Coords, ∀ a, (cc0_transform_3 k0_off1_inb numel1_S1 (pfT (F := Bits)) i a + 1) * S1x1024x128.size a ≤ S2x8192x512.size a := by decide +kernel

/-- The side condition of the tables' contents, over any values. -/
theorem okT : ok0 (pfT (F := F)) :=
  ⟨fun i => ⟨inbB0 i, .inr (Affine.block_words_dvd (s := S2x8x8192x128) (p := EltTy.packing .bf16) (by decide) (by decide))⟩,
   fun i => ⟨inbB1 i, .inr (Affine.block_words_dvd (s := S2x8x8192x128) (p := EltTy.packing .bf16) (by decide) (by decide))⟩,
   fun i => ⟨inbB2 i, .inr (Affine.block_words_dvd (s := S2x512x8192) (p := EltTy.packing .bf16) (by decide) (by decide))⟩,
   fun i => ⟨inbB3 i, .inr (Affine.block_words_dvd (s := S2x8192x512) (p := EltTy.packing .bf16) (by decide) (by decide))⟩⟩

/-- The pipeline at the tables. -/
def admT : (pcfg0 (F := F)).Adm := ⟨pfT, okT⟩
variable (F) in
abbrev cfgA : Pipeline.Cfg sig Λ₀ := cfg0 (F := F) admT
variable (F) in
abbrev pcsA : Fin 1 → Pipeline.Cfg sig Λ₀ := Pipeline.pin (pcfgs (F := F)) fun _ => admT

/-- A point's coordinates. -/
abbrev crd (t : Fin (cfgA F).N) : grid0.Coords := (cfgA F).grid.coords t

/-- The output is written back exactly at the points where the last table's word is 1, and left alone elsewhere. -/
theorem schedB : ∀ t : Fin (cfgA Bits).N,
    (cfgA Bits).idle (3 : Fin 4) (crd t) = !decide (k0_cond5 (wd2 (F := Bits) T2 (crd t)) = 1#1)
    ∧ ((cfgA Bits).win (3 : Fin 4)).flush t = decide (k0_cond5 (wd2 (F := Bits) T2 (crd t)) = 1#1)
    ∧ (t.val = 0 → c0 (F := Bits) (wd1 (F := Bits) T1 (crd t))) := by decide +kernel

theorem sched (t : Fin (cfgA F).N) :
    (cfgA F).idle (3 : Fin 4) (crd t) = !decide (k0_cond5 (wd2 (F := F) T2 (crd t)) = 1#1)
    ∧ ((cfgA F).win (3 : Fin 4)).flush t = decide (k0_cond5 (wd2 (F := F) T2 (crd t)) = 1#1)
    ∧ (t.val = 0 → c0 (F := F) (wd1 (F := F) T1 (crd t))) := schedB t

end Cert.KernelIdeal.Att

end
-- ==== Proof.RunData.lean ====
module

public import proofs.«01_k».proof.Proof.Sched
public import Idealize.ShloMosaic.Lib.Pipeline.Frame
public import Idealize.ShloMosaic.Lib.Pipeline.TableIdle
public import Idealize.ShloMosaic.Lib.StableHlo.Run
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The pipeline's blocks, states and proof data. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The program logic's propositions over values `F`. -/
local notation "𝕄" => MT nD τ sig Unit (Elt F) ℕ (UR sig nD τ) ℕ

open Idealize.ShloMosaic.Pipeline (Dat Cfg Window BodyObligation BodyObligationLoose cellOf)

variable (m : (ℓ : Loc nD τ sig) → Buf (Elt F) ℓ) (ρ : Dev nD → PrngReg)

/-- Each window's current staging memref, and its wholeness. -/
abbrev ms0 (t : Fin (cfgA F).N) : Memref sig .tc .vmem S1x2x1024x128 .bf16 := spec0_0.stage ((cfgA F).slots t (0 : Fin 4))
abbrev hs0 (t : Fin (cfgA F).N) : (ms0 t).IsWhole := hstage0_0 (((cfgA F).slots t (0 : Fin 4)).cast nbuf0_0)
abbrev ms1 (t : Fin (cfgA F).N) : Memref sig .tc .vmem S1x2x2048x128 .bf16 := spec0_1.stage ((cfgA F).slots t (1 : Fin 4))
abbrev hs1 (t : Fin (cfgA F).N) : (ms1 t).IsWhole := hstage0_1 (((cfgA F).slots t (1 : Fin 4)).cast nbuf0_1)
abbrev ms2 (t : Fin (cfgA F).N) : Memref sig .tc .vmem S1x128x2048 .bf16 := spec0_2.stage ((cfgA F).slots t (2 : Fin 4))
abbrev hs2 (t : Fin (cfgA F).N) : (ms2 t).IsWhole := hstage0_2 (((cfgA F).slots t (2 : Fin 4)).cast nbuf0_2)
abbrev ms3 (t : Fin (cfgA F).N) : Memref sig .tc .vmem S1x1024x128 .bf16 := spec0_3.stage ((cfgA F).slots t (3 : Fin 4))
abbrev hs3 (t : Fin (cfgA F).N) : (ms3 t).IsWhole := hstage0_3 (((cfgA F).slots t (3 : Fin 4)).cast nbuf0_3)

/-- Window `w`'s block at point `t`, read off its array at launch. -/
def iblk (c : Dev nD) (w : Fin (cfgA F).W) (t : Fin (cfgA F).N) : (((cfgA F).win w).xblock (crd t)).Idx → Elt F ((cfgA F).win w).elt :=
  (((cfgA F).win w).blk t).view.read (Elt F) (m (((cfgA F).win w).arr.view.loc (c : Thread nD τ)))

/-- The three input blocks at their shapes. -/
def xq (c : Dev nD) (t : Fin (cfgA F).N) : Vec F S1x2x1024x128 .bf16 := iblk m c (0 : Fin 4) t
def xk (c : Dev nD) (t : Fin (cfgA F).N) : Vec F S1x2x2048x128 .bf16 := iblk m c (1 : Fin 4) t
def xv (c : Dev nD) (t : Fin (cfgA F).N) : Vec F S1x128x2048 .bf16 := iblk m c (2 : Fin 4) t

/-- The state after the body at point `t` from the state before it. -/
def stp (c : Dev nD) (t : Fin (cfgA F).N) (s : St F) : St F :=
  nxt (wd0 (F := F) T0 (crd t)) (wd1 (F := F) T1 (crd t)) (xq m c t) (xk m c t) (xv m c t) s

/-- The state before point `n`. -/
def stAt (c : Dev nD) : ℕ → St F
  | 0 => stR
  | n + 1 => if h : n < (cfgA F).N then stp m c ⟨n, h⟩ (stAt c n) else stAt c n

theorem stAt_succ (c : Dev nD) (t : Fin (cfgA F).N) : stAt m c (t.val + 1) = stp m c t (stAt m c t.val) := by
  obtain ⟨n, h⟩ := t
  show (if h : n < (cfgA F).N then stp m c ⟨n, h⟩ (stAt m c n) else stAt m c n) = _
  rw [dif_pos h]

/-- Where the state is reset what it was before does not matter. -/
theorem nxt_reset (v1 v3 : BitVec 32) (x0 : Vec F S1x2x1024x128 .bf16) (x1 : Vec F S1x2x2048x128 .bf16) (x2 : Vec F S1x128x2048 .bf16)
    (h : c0 (F := F) v3) (s s' : St F) : nxt v1 v3 x0 x1 x2 s = nxt v1 v3 x0 x1 x2 s' := by
  unfold nxt; simp only [if_pos h]

/-- Whatever the scratches held before the first point, the state after point `t` is the recursion's. -/
theorem stp_eq (c : Dev nD) (t : Fin (cfgA F).N) (s : St F) (h : t.val ≠ 0 → s = stAt m c t.val) : stp m c t s = stAt m c (t.val + 1) := by
  rw [stAt_succ]
  by_cases h0 : t.val = 0
  · exact nxt_reset _ _ _ _ _ ((sched t).2.2 h0) _ _
  · rw [h h0]

/-- The output block at point `t`. -/
def oblk (c : Dev nD) (t : Fin (cfgA F).N) : Vec F S1x1024x128 .bf16 := outV (stAt m c (t.val + 1)).l (stAt m c (t.val + 1)).a

/-- The invariant between points. -/
def Phi (c : Dev nD) (n : ℕ) : sProp 𝕄 :=
  iprop((∃ s, ⌜n ≠ 0 → s = stAt m c n⌝ ∗ scS c s) ∗ tbl c T0 T1 T2 ∗ ∃ r, prngReg c r)

/-- The pipeline's proof data. -/
def dats (_ : Fin 1) (c : Dev nD) : Dat τ (Elt F) Unit ℕ (UR sig nD τ) ℕ (cfgA F) c where
  A w := m (((cfgA F).win w).arr.view.loc (c : Thread nD τ))
  after w t := match w with
    | ⟨0, _⟩ => iblk m c (0 : Fin 4) t
    | ⟨1, _⟩ => iblk m c (1 : Fin 4) t
    | ⟨2, _⟩ => iblk m c (2 : Fin 4) t
    | ⟨3, _⟩ => oblk m c t
  Φ t := Phi m c t.val
  q _ := fullShare
  owed _ := 0

theorem after_0 (c : Dev nD) (t : Fin (cfgA F).N) : (dats m 0 c).after (0 : Fin 4) t = iblk m c (0 : Fin 4) t := rfl
theorem after_1 (c : Dev nD) (t : Fin (cfgA F).N) : (dats m 0 c).after (1 : Fin 4) t = iblk m c (1 : Fin 4) t := rfl
theorem after_2 (c : Dev nD) (t : Fin (cfgA F).N) : (dats m 0 c).after (2 : Fin 4) t = iblk m c (2 : Fin 4) t := rfl
theorem after_3 (c : Dev nD) (t : Fin (cfgA F).N) : (dats m 0 c).after (3 : Fin 4) t = oblk m c t := rfl

/-- Each input's buffer holds its block when the body runs. -/
theorem before_0 (c : Dev nD) (t : Fin (cfgA F).N) (d) : (dats m 0 c).before (0 : Fin 4) t d = iblk m c (0 : Fin 4) t :=
  ((dats m 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA F).N) (d) : (dats m 0 c).before (1 : Fin 4) t d = iblk m c (1 : Fin 4) t :=
  ((dats m 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA F).N) (d) : (dats m 0 c).before (2 : Fin 4) t d = iblk m c (2 : Fin 4) t :=
  ((dats m 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The body at point `t` as the pipeline calls it. -/
abbrev bodyAt (t : Fin (cfgA F).N) : KP F :=
  cc0_attn_prompt (crd t) tbM0 (Memref.isWhole_whole _) tbM1 (Memref.isWhole_whole _) tbM2 (Memref.isWhole_whole _) (ms0 t) (hs0 t) (ms1 t) (hs1 t) (ms2 t) (hs2 t) (ms3 t) (hs3 t) scM0 (Memref.isWhole_whole _) scM1 (Memref.isWhole_whole _) scM2 (Memref.isWhole_whole _)

end Cert.KernelIdeal.Att

end
-- ==== Proof.Obl.lean ====
module

public import proofs.«01_k».proof.Proof.RunData
public import Idealize.ShloMosaic.Lib.Pipeline.Frame
public import Idealize.ShloMosaic.Lib.Pipeline.TableIdle
public import Idealize.ShloMosaic.Lib.StableHlo.Run
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The body's obligation at a point. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The program logic's propositions over values `F`. -/
local notation "𝕄" => MT nD τ sig Unit (Elt F) ℕ (UR sig nD τ) ℕ

open Idealize.ShloMosaic.Pipeline (Dat Cfg Window BodyObligation BodyObligationLoose cellOf)

variable (m : (ℓ : Loc nD τ sig) → Buf (Elt F) ℓ) (ρ : Dev nD → PrngReg)

/-- The invariant's index, and the schedule, at a point. -/
theorem Phi_a (c : Dev nD) (t : Fin (cfgA F).N) : (dats m 0 c).Φ t.castSucc = Phi m c t.val := by
  show Phi m c (t.castSucc).val = _
  rw [Fin.val_castSucc]
theorem Phi_b (c : Dev nD) (t : Fin (cfgA F).N) : (dats m 0 c).Φ t.succ = Phi m c (t.val + 1) := by
  show Phi m c (t.succ).val = _
  rw [Fin.val_succ]
theorem owes_a (c : Dev nD) (t : Fin (cfgA F).N) : (dats m 0 c).owesAt () t.succ = (dats m 0 c).owesAt () t.castSucc := rfl
theorem idle_T (t : Fin (cfgA F).N) (hl : k0_cond5 (wd2 (F := F) T2 (crd t)) = 1#1) : (cfgA F).idle (3 : Fin 4) ((cfgA F).grid.coords t) = false := by
  obtain ⟨hi, hf, -⟩ := sched t
  rw [hi, decide_eq_true hl]; rfl
theorem flush_T (t : Fin (cfgA F).N) (hl : k0_cond5 (wd2 (F := F) T2 (crd t)) = 1#1) : ((cfgA F).win (3 : Fin 4)).flush t = true := by
  obtain ⟨hi, hf, -⟩ := sched t
  rw [hf, decide_eq_true hl]

theorem idle_N (t : Fin (cfgA F).N) (hl : ¬ (k0_cond5 (wd2 (F := F) T2 (crd t)) = 1#1)) : (cfgA F).idle (3 : Fin 4) ((cfgA F).grid.coords t) = true := by
  obtain ⟨hi, hf, -⟩ := sched t
  rw [hi, decide_eq_false hl]; rfl
theorem flush_N (t : Fin (cfgA F).N) (hl : ¬ (k0_cond5 (wd2 (F := F) T2 (crd t)) = 1#1)) : ((cfgA F).win (3 : Fin 4)).flush t = false := by
  obtain ⟨hi, hf, -⟩ := sched t
  rw [hf, decide_eq_false hl]

set_option maxHeartbeats 1600000 in
/-- The body's obligation at point `t`. -/
theorem sound_body (c : Dev nD) (t : Fin (cfgA F).N) :
    iprop((dats m 0 c).Φ t.castSucc ∗ (dats m 0 c).owesAt () t.castSucc
        ∗ (∃ d, owns (c : Thread nD τ) (ms0 t) fullShare ((dats m 0 c).before (0 : Fin 4) t d))
        ∗ (∃ d, owns (c : Thread nD τ) (ms1 t) fullShare ((dats m 0 c).before (1 : Fin 4) t d))
        ∗ (∃ d, owns (c : Thread nD τ) (ms2 t) fullShare ((dats m 0 c).before (2 : Fin 4) t d))
        ∗ (∃ d, owns (c : Thread nD τ) (ms3 t) fullShare ((dats m 0 c).before (3 : Fin 4) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  by_cases hl : k0_cond5 (wd2 (F := F) T2 (crd t)) = 1#1
  · rewrite [idle_T t hl]
    simp only [before_0, before_1, before_2, after_0, after_1, after_2, after_3, flush_T t hl]
    rewrite [Phi_a, Phi_b, owes_a]
    unfold Phi
    iintro ⟨⟨⟨%s, %hs, HS⟩, HT, Hr⟩, Ho, ⟨%d0, H0⟩, ⟨%d1, H1⟩, ⟨%d2, H2⟩, ⟨%d3, H3⟩⟩
    iapply (body_wp c (crd t) (ms0 t) (hs0 t) (ms1 t) (hs1 t) (ms2 t) (hs2 t) (ms3 t) (hs3 t) (xq m c t) (xk m c t) (xv m c t) T0 T1 T2 s ((dats m 0 c).before (3 : Fin 4) t d3) _)
    isplitl [H0 H1 H2]
    · unfold ins
      isplitl [H0]; · iapply rep_of_owns; iexact H0
      isplitl [H1]; · iapply rep_of_owns; iexact H1
      iapply rep_of_owns; iexact H2
    isplitl [HS]; · iexact HS
    isplitl [HT]; · iexact HT
    isplitl [H3]; · iexact H3
    rw [show nxt (wd0 (F := F) T0 (crd t)) (wd1 (F := F) T1 (crd t)) (xq m c t) (xk m c t) (xv m c t) s = stAt m c (t.val + 1) from stp_eq m c t s hs]
    unfold ins
    rw [if_pos hl]
    iintro ⟨⟨H0, H1, H2⟩, HS, HT, H3⟩
    isplitl [HS HT Hr]
    · isplitl [HS]
      · iexists _; isplitr; swap
        · iexact HS
        · ipureintro; intro _; rfl
      isplitl [HT]; · iexact HT
      iexact Hr
    isplitl [Ho]; · iexact Ho
    isplitl [H0]; · iapply owns_of_rep; iexact H0
    isplitl [H1]; · iapply owns_of_rep; iexact H1
    isplitl [H2]; · iapply owns_of_rep; iexact H2
    iexact H3
  · rewrite [idle_N t hl]
    simp only [before_0, before_1, before_2, after_0, after_1, after_2, after_3, flush_N t hl]
    rewrite [Phi_a, Phi_b, owes_a]
    unfold Phi
    iintro ⟨⟨⟨%s, %hs, HS⟩, HT, Hr⟩, Ho, ⟨%d0, H0⟩, ⟨%d1, H1⟩, ⟨%d2, H2⟩, ⟨%d3, H3⟩⟩
    iapply (body_wp c (crd t) (ms0 t) (hs0 t) (ms1 t) (hs1 t) (ms2 t) (hs2 t) (ms3 t) (hs3 t) (xq m c t) (xk m c t) (xv m c t) T0 T1 T2 s ((dats m 0 c).before (3 : Fin 4) t d3) _)
    isplitl [H0 H1 H2]
    · unfold ins
      isplitl [H0]; · iapply rep_of_owns; iexact H0
      isplitl [H1]; · iapply rep_of_owns; iexact H1
      iapply rep_of_owns; iexact H2
    isplitl [HS]; · iexact HS
    isplitl [HT]; · iexact HT
    isplitl [H3]; · iexact H3
    rw [show nxt (wd0 (F := F) T0 (crd t)) (wd1 (F := F) T1 (crd t)) (xq m c t) (xk m c t) (xv m c t) s = stAt m c (t.val + 1) from stp_eq m c t s hs]
    unfold ins
    rw [if_neg hl]
    iintro ⟨⟨H0, H1, H2⟩, HS, HT, H3⟩
    isplitl [HS HT Hr]
    · isplitl [HS]
      · iexists _; isplitr; swap
        · iexact HS
        · ipureintro; intro _; rfl
      isplitl [HT]; · iexact HT
      iexact Hr
    isplitl [Ho]; · iexact Ho
    isplitl [H0]; · iapply owns_of_rep; iexact H0
    isplitl [H1]; · iapply owns_of_rep; iexact H1
    isplitl [H2]; · iapply owns_of_rep; iexact H2
    iexists d3; iexact H3

end Cert.KernelIdeal.Att

end
-- ==== Proof.Run.lean ====
module

public import proofs.«01_k».proof.Proof.Obl
public import Idealize.ShloMosaic.Lib.Pipeline.Frame
public import Idealize.ShloMosaic.Lib.Pipeline.TableIdle
public import Idealize.ShloMosaic.Lib.StableHlo.Run
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The program run from any memory: its arguments unchanged, its result what the state at the last key blocks gives. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The program logic's propositions over values `F`. -/
local notation "𝕄" => MT nD τ sig Unit (Elt F) ℕ (UR sig nD τ) ℕ

open Idealize.ShloMosaic.Pipeline (Dat Cfg Window BodyObligation BodyObligationLoose cellOf)

variable (m : (ℓ : Loc nD τ sig) → Buf (Elt F) ℓ) (ρ : Dev nD → PrngReg)

/-- The obligation at every point. -/
theorem body_obligation (c : Dev nD) : BodyObligation (dats m 0 c) (defs₀ (F := F)) Variants.none () Set.univ := fun t => by
  rw [bigSep_W0]
  exact sound_body m c t

theorem share_eq (c : Dev nD) (w : Fin (cfgA F).W) : (dats m 0 c).share w = fullShare := by unfold Dat.share; split <;> rfl

/-- The tables one by one. -/
theorem tables_eq (c : Dev nD) :
    (Pipeline.prefHeld (Ix := Unit) (Name := ℕ) (U := UR sig nD τ) (Lvl := ℕ) pre0 c (fun _ => fullShare.right) (pfT (F := F)) : sProp 𝕄) = tbl c T0 T1 T2 := by
  unfold Pipeline.prefHeld tbl
  rw [show (Finset.univ : Finset (Fin pre0.K)) = insert (0 : Fin 3) (insert (1 : Fin 3) {(2 : Fin 3)}) from by decide,
    bigSep_insert (by decide), bigSep_insert (by decide), bigSep_singleton]
  rfl

theorem phi_in (c : Dev nD) : iprop(Pipeline.ΦA spec0 c ∗ Pipeline.ΦT pre0 (pfT (F := F)) c) ⊢ (dats m 0 c).Φ 0 := by
  show iprop(Pipeline.ΦA spec0 c ∗ Pipeline.ΦT pre0 (pfT (F := F)) c) ⊢ Phi m c 0
  unfold Pipeline.ΦT
  rw [tables_eq]
  unfold Pipeline.ΦA Phi
  rw [scopedRest0_eq]
  iintro ⟨⟨⟨⟨%a0, HS0⟩, ⟨%a1, HS1⟩, ⟨%a2, HS2⟩⟩, Hr⟩, HT⟩
  isplitl [HS0 HS1 HS2]
  · iexists (⟨a0, a1, a2⟩ : St F)
    isplitr; swap
    · unfold scS scr
      isplitl [HS0]; · iexact HS0
      isplitl [HS1]; · iexact HS1
      iexact HS2
    · ipureintro; intro h; exact absurd rfl h
  isplitl [HT]; · iexact HT
  iexact Hr

theorem phi_out (c : Dev nD) : (dats m 0 c).Φ (Fin.last (cfgA F).N) ⊢ Pipeline.ΦA spec0 c := by
  show Phi m c (Fin.last (cfgA F).N).val ⊢ _
  unfold Pipeline.ΦA Phi
  rw [scopedRest0_eq]
  iintro ⟨⟨%s, -, HS⟩, -, Hr⟩
  unfold scS scr
  icases HS with ⟨HS0, HS1, HS2⟩
  isplitr [Hr]
  · isplitl [HS0]; · iexists s.m; iexact HS0
    isplitl [HS1]; · iexists s.l; iexact HS1
    iexists s.a; iexact HS2
  iexact Hr

/-- The buffers when the kernel is entered. -/
abbrev Vin (c : Dev nD) (b : Ref sig .tc) : Buf (Elt F) ((c.tc : Thread nD τ).loc b) :=
  StableHlo.after (hostOps0 (F := F)) (fun b => m (c, b)) b

/-- The arguments are untouched by the constants; the tables hold them. -/
theorem Vin_arg (c : Dev nD) (b : Ref sig .tc) (h : b ∉ [main_c, main_c_0, main_c_1]) : Vin m c b = m ((c.tc : Thread nD τ).loc b) :=
  StableHlo.after_of_writes_sub (W := [main_c, main_c_0, main_c_1]) (hostOps0 (F := F)) (fun b => m (c, b))
    (StableHlo.forall_writes_sub_of_map rfl) h

theorem Vin_tab (c : Dev nD) (k : Fin 3) : Vin m c (pre0.ref k) = pfT (F := F) k := by
  let v0 : main_c.ty.Contents (Elt F) := T0
  let v1 : main_c_0.ty.Contents (Elt F) := T1
  let v2 : main_c_1.ty.Contents (Elt F) := T2
  let W : Valuation τ sig (Elt F) := fun b => m (c, b)
  have e0 : (StableHlo.nullary (τ := τ) main_c v0).result W (Proc.devRef .tc main_c) = v0 := StableHlo.nullary_result ..
  have e1 : ∀ W, (StableHlo.nullary (τ := τ) main_c_0 v1).result W (Proc.devRef .tc main_c_0) = v1 := fun W => StableHlo.nullary_result ..
  have e2 : ∀ W, (StableHlo.nullary (τ := τ) main_c_1 v2).result W (Proc.devRef .tc main_c_1) = v2 := fun W => StableHlo.nullary_result ..
  have n1 : ∀ W, (StableHlo.nullary (τ := τ) main_c_0 v1).result W (Proc.devRef .tc main_c) = W (Proc.devRef .tc main_c) := fun W =>
    StableHlo.nullary_result_ne (r := main_c) _ _ _ _ (by decide)
  have n2 : ∀ W, (StableHlo.nullary (τ := τ) main_c_1 v2).result W (Proc.devRef .tc main_c) = W (Proc.devRef .tc main_c) := fun W =>
    StableHlo.nullary_result_ne (r := main_c) _ _ _ _ (by decide)
  have n3 : ∀ W, (StableHlo.nullary (τ := τ) main_c_1 v2).result W (Proc.devRef .tc main_c_0) = W (Proc.devRef .tc main_c_0) := fun W =>
    StableHlo.nullary_result_ne (r := main_c_0) _ _ _ _ (by decide)
  match k with
  | ⟨0, _⟩ => exact (n2 _).trans ((n1 _).trans e0)
  | ⟨1, _⟩ => exact (n3 _).trans (e1 _)
  | ⟨2, _⟩ => exact e2 _
  | ⟨n + 3, h⟩ => exact absurd h (by omega)

/-- No window's array is a table. -/
theorem arr_ne (w : Fin 4) : Pipeline.arrRef spec0 w ∉ [main_c, main_c_0, main_c_1] := by revert w; decide

theorem hostOps_fresh : (hostOps0 (F := F)).Forall fun op => op.fresh = ∅ := ⟨rfl, rfl, rfl⟩

/-- The run: it ends, nothing faults, and every array ends at what the proof data computes. -/
theorem run_main : θ_run (defs (F := F)) (onTc (τ := τ) (main (F := F))) (s₀ m ρ)
    (fun r => Pipeline.FramePost (pcsA F) (dats m) 0 (Vin m) r ∧ r.2.sem = fun _ => 0) :=
  Pipeline.θ_run_frameP_track (pcfgs (F := F)) (fun _ => admT) (dats m) 0 (launch0 (F := F)) defs₀ Variants.none m ρ main
    (fun c => (body_obligation m c).loose) (share_eq m) (fun _ _ => rfl) (Vin m)
    (Pipeline.hmainP_prefix (pcfgs (F := F)) 0 defs₀ Variants.none m main (hostOps0 (F := F)) hostOps0_sub hostOps_fresh main_chain)
    (fun c w => ((Vin_arg m c (Pipeline.arrRef (cfgA F).spec w) (arr_ne w))).symm) (fun c k => Vin_tab m c k) (phi_in m) (phi_out m) _ (fun _ h => h)

/-- The result array at the end, from the launch memory. -/
def outA (c : Dev nD) : Buf (Elt F) ((c.tc : Thread nD τ).loc main_v0) := (dats m 0 c).arrAt (3 : Fin 4) (cfgA F).N

/-- The run: it ends, nothing faults, the arguments are unchanged, the result is `outA` and every counter is zero. -/
theorem run_outA : θ_run (defs (F := F)) (onTc (τ := τ) (main (F := F))) (s₀ m ρ)
    (fun r => (∀ c : Dev nD, r.2.mem ((c.tc : Thread nD τ).loc main_v0) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h.1 c).1 (3 : Fin 4), ((h.1 c).1 (0 : Fin 4)).trans ((dats m 0 c).arrAt_in (0 : Fin 4) rfl _),
    ((h.1 c).1 (1 : Fin 4)).trans ((dats m 0 c).arrAt_in (1 : Fin 4) rfl _), ((h.1 c).1 (2 : Fin 4)).trans ((dats m 0 c).arrAt_in (2 : Fin 4) rfl _)⟩, h.2⟩) (run_main m ρ)

end Cert.KernelIdeal.Att

end
-- ==== Proof.Same.lean ====
/- The kernel and its ideal reading are one program text: their body tables and mains agree. -/
module

public import proofs.«01_k».proof.Defs
public import proofs.«01_k».proof.Proof.Gen.Kernel
public import proofs.«01_k».proof.Proof.Gen.KernelIdeal

@[expose] public section

set_option maxRecDepth 16384
set_option maxHeartbeats 1000000

noncomputable section

namespace Cert.Proof

open Idealize.ShloMosaic Idealize.SL.Sem
variable {F : FTy → Type} [FloatOps F]

/-- The body's text is the same. -/
theorem body_eq : @Cert.Kernel.cc0_attn_prompt F _ Cert.Kernel.Gen.facts = @Cert.KernelIdeal.cc0_attn_prompt F _ Cert.KernelIdeal.Gen.facts := rfl
attribute [local instance] Cert.Kernel.Gen.facts Cert.KernelIdeal.Gen.facts
/-- The two programs' body tables agree. -/
theorem defs0_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun (body_eq (F := F)) _) _) _) _) _) _) _) _) _) _) _) _) _) _) _) _) _) _) _) _) _
/-- The pipelines are the same. -/
theorem pc_eq : Cert.Kernel.pcfgs (F := F) = Cert.KernelIdeal.pcfgs (F := F) := rfl
/-- The two programs agree. -/
theorem defs_eq : Cert.Kernel.defs (F := F) = Cert.KernelIdeal.defs (F := F) :=
  congrArg (Pipeline.defs (Cert.KernelIdeal.pcfgs (F := F))) defs0_eq
/-- The mains are the same. -/
theorem main_eq : Cert.Kernel.main (F := F) = Cert.KernelIdeal.main (F := F) := rfl

end Cert.Proof

end
-- ==== Proof.Weights.lean ====
module

public import Idealize.ShloMosaic.PureOps.Ideal
public import Mathlib.Data.EReal.Operations
public import Mathlib.Algebra.BigOperators.Intervals

/-! Softmax weights in base 2 on the extended reals: how sums of weights and of weighted values under one maximum turn
into those under a larger one, how the sums over consecutive ranges of keys merge, and that the merged quotient is the
softmax-weighted sum. No program is mentioned here. -/

@[expose] public section

noncomputable section

namespace Cert.Wgt

open Idealize.ShloMosaic

/-- The weight of a score `s` under the maximum `M`. -/
def ex (s M : EReal) : EReal := Ideal.exp2 (s - M)

theorem ex_bot (M : EReal) : ex ⊥ M = 0 := by
  unfold ex
  rw [EReal.bot_sub]
  rfl

theorem ex_coe (s M : ℝ) : ex (s : EReal) (M : EReal) = ((2 : ℝ) ^ (s - M) : ℝ) := by
  unfold ex
  rw [← EReal.coe_sub]
  rfl

/-- A score below a finite maximum is `⊥` or real, and then so is the maximum. -/
theorem cases_le {s M : EReal} (h : s ≤ M) (hM : M < ⊤) : s = ⊥ ∨ ∃ x y : ℝ, s = x ∧ M = y := by
  induction s using EReal.rec with
  | bot => exact .inl rfl
  | top => exact absurd h (not_le.2 hM)
  | coe x =>
    induction M using EReal.rec with
    | bot => exact absurd (lt_of_lt_of_le (EReal.bot_lt_coe x) h) (lt_irrefl _)
    | top => exact absurd hM (lt_irrefl _)
    | coe y => exact .inr ⟨x, y, rfl, rfl⟩

theorem ex_nonneg {s M : EReal} (h : s ≤ M) (hM : M < ⊤) : 0 ≤ ex s M := by
  rcases cases_le h hM with rfl | ⟨x, y, rfl, rfl⟩
  · rw [ex_bot]
  · rw [ex_coe]; exact EReal.coe_nonneg.2 (Real.rpow_nonneg (by norm_num) _)

theorem ex_ne_top {s M : EReal} (h : s ≤ M) (hM : M < ⊤) : ex s M ≠ ⊤ := by
  rcases cases_le h hM with rfl | ⟨x, y, rfl, rfl⟩
  · rw [ex_bot]; exact EReal.zero_ne_top
  · rw [ex_coe]; exact EReal.coe_ne_top _

/-- Raising the maximum multiplies a weight by the maximum's own weight. -/
theorem ex_mul {s m M : EReal} (h1 : s ≤ m) (h2 : m ≤ M) (h3 : M < ⊤) : ex m M * ex s m = ex s M := by
  rcases cases_le h1 (lt_of_le_of_lt h2 h3) with rfl | ⟨x, y, rfl, rfl⟩
  · rw [ex_bot, ex_bot, mul_zero]
  · rcases cases_le h2 h3 with h | ⟨y', z, hy, rfl⟩
    · exact absurd h (EReal.coe_ne_bot y)
    · rw [ex_coe, ex_coe, ex_coe, ← EReal.coe_mul, ← Real.rpow_add (by norm_num)]
      congr 2
      ring

/-- A nonnegative finite factor goes into a sum. -/
theorem mul_sum {ι : Type} (c : EReal) (h0 : 0 ≤ c) (hT : c ≠ ⊤) (S : Finset ι) (f : ι → EReal) :
    c * ∑ k ∈ S, f k = ∑ k ∈ S, c * f k := by
  classical
  induction S using Finset.induction with
  | empty => rw [Finset.sum_empty, Finset.sum_empty, mul_zero]
  | insert a S ha ih =>
    rw [Finset.sum_insert ha, Finset.sum_insert ha, EReal.left_distrib_of_nonneg_of_ne_top h0 hT, ih]

/-- A maximum, a sum of weights, 64 sums of weighted values. -/
abbrev Tr : Type := EReal × EReal × (Fin 64 → EReal)

/-- `P` is the keys `lo … hi - 1` summed up, with scores `sc` and values `val`. -/
structure Inv (sc : ℕ → EReal) (val : Fin 64 → ℕ → EReal) (lo hi : ℕ) (P : Tr) : Prop where
  le : ∀ k, lo ≤ k → k < hi → sc k ≤ P.1
  lt : P.1 < ⊤
  l : P.2.1 = ∑ k ∈ Finset.Ico lo hi, ex (sc k) P.1
  a : ∀ d, P.2.2 d = ∑ k ∈ Finset.Ico lo hi, val d k * ex (sc k) P.1

variable {sc : ℕ → EReal} {val : Fin 64 → ℕ → EReal}

/-- No keys. -/
theorem inv_zero : Inv sc val 0 0 ⟨⊥, 0, fun _ => 0⟩ where
  le k _ h := absurd h (Nat.not_lt_zero k)
  lt := bot_lt_top
  l := by simp
  a d := by simp

/-- The sums under a larger maximum. -/
theorem Inv.rescale {lo hi : ℕ} {P : Tr} (h : Inv sc val lo hi P) {M : EReal} (h1 : P.1 ≤ M) (h2 : M < ⊤) :
    Inv sc val lo hi ⟨M, ex P.1 M * P.2.1, fun d => ex P.1 M * P.2.2 d⟩ where
  le k hk hk' := le_trans (h.le k hk hk') h1
  lt := h2
  l := by
    show ex P.1 M * P.2.1 = _
    rw [h.l, mul_sum _ (ex_nonneg h1 h2) (ex_ne_top h1 h2)]
    refine Finset.sum_congr rfl fun k hk => ?_
    rw [Finset.mem_Ico] at hk
    exact ex_mul (h.le k hk.1 hk.2) h1 h2
  a d := by
    show ex P.1 M * P.2.2 d = _
    rw [h.a d, mul_sum _ (ex_nonneg h1 h2) (ex_ne_top h1 h2)]
    refine Finset.sum_congr rfl fun k hk => ?_
    rw [Finset.mem_Ico] at hk
    rw [mul_left_comm, ex_mul (h.le k hk.1 hk.2) h1 h2]

/-- Two consecutive ranges under one maximum. -/
theorem Inv.append {lo mid hi : ℕ} (h1 : lo ≤ mid) (h2 : mid ≤ hi) {M l l' : EReal} {a a' : Fin 64 → EReal}
    (h : Inv sc val lo mid ⟨M, l, a⟩) (h' : Inv sc val mid hi ⟨M, l', a'⟩) : Inv sc val lo hi ⟨M, l + l', fun d => a d + a' d⟩ where
  le k hk hk' := by
    by_cases hm : k < mid
    · exact h.le k hk hm
    · exact h'.le k (Nat.le_of_not_lt hm) hk'
  lt := h.lt
  l := by
    show l + l' = _
    rw [← Finset.sum_Ico_consecutive _ h1 h2]
    exact congrArg₂ (· + ·) h.l h'.l
  a d := by
    show a d + a' d = _
    rw [← Finset.sum_Ico_consecutive _ h1 h2]
    exact congrArg₂ (· + ·) (h.a d) (h'.a d)

/-- `L` sums up consecutive ranges of 256 keys, the first beginning at `n`. -/
def Chain (sc : ℕ → EReal) (val : Fin 64 → ℕ → EReal) : ℕ → List Tr → Prop
  | _, [] => True
  | n, p :: L => Inv sc val n (n + 256) p ∧ Chain sc val (n + 256) L

/-- The maximum of a state and a list, the merged denominator, the merged weighted values. -/
def mx (m : EReal) (L : List Tr) : EReal := L.foldl (fun a p => max a p.1) m
def lM (M l0 : EReal) (L : List Tr) : EReal := L.foldl (fun a p => a + ex p.1 M * p.2.1) l0
def aM (M : EReal) (a0 : EReal) (d : Fin 64) (L : List Tr) : EReal := L.foldl (fun a p => a + ex p.1 M * p.2.2 d) a0

theorem le_mx (L : List Tr) : ∀ m : EReal, m ≤ mx m L := by
  induction L with
  | nil => exact fun m => le_rfl
  | cons p L ih => exact fun m => le_trans (le_max_left m p.1) (ih _)

theorem mx_lt (L : List Tr) : ∀ (n : ℕ) (m : EReal), m < ⊤ → Chain sc val n L → mx m L < ⊤ := by
  induction L with
  | nil => exact fun n m h _ => h
  | cons p L ih => exact fun n m h hc => ih (n + 256) _ (max_lt h hc.1.lt) hc.2

/-- Parts added one by one to a sum that is under the final maximum already. -/
theorem merge_aux (L : List Tr) : ∀ (n : ℕ) (M l : EReal) (a : Fin 64 → EReal), Inv sc val 0 n ⟨M, l, a⟩ → Chain sc val n L →
    (∀ p ∈ L, p.1 ≤ M) → Inv sc val 0 (n + 256 * L.length) ⟨M, lM M l L, fun d => aM M (a d) d L⟩ := by
  induction L with
  | nil => exact fun n M l a h _ _ => h
  | cons p L ih =>
    intro n M l a h hc hM
    have e : n + 256 * (p :: L).length = n + 256 + 256 * L.length := by rw [List.length_cons]; ring
    rw [e]
    exact ih (n + 256) M _ _ (h.append (Nat.zero_le n) (Nat.le_add_right n 256) (hc.1.rescale (hM p List.mem_cons_self) h.lt)) hc.2
      fun q hq => hM q (List.mem_cons_of_mem p hq)

theorem mem_le_mx (L : List Tr) : ∀ (m : EReal), ∀ p ∈ L, p.1 ≤ mx m L := by
  induction L with
  | nil => exact fun m p h => absurd h List.not_mem_nil
  | cons q L ih =>
    intro m p h
    rcases List.mem_cons.1 h with rfl | h
    · exact le_trans (le_max_right m p.1) (le_mx L _)
    · exact ih _ p h

/-- A state merged with the parts of the keys after its own. -/
theorem merge {n : ℕ} {m l : EReal} {a : Fin 64 → EReal} {L : List Tr} (h : Inv sc val 0 n ⟨m, l, a⟩) (hc : Chain sc val n L) :
    Inv sc val 0 (n + 256 * L.length) ⟨mx m L, lM (mx m L) (ex m (mx m L) * l) L, fun d => aM (mx m L) (ex m (mx m L) * a d) d L⟩ :=
  merge_aux L n _ _ _ (h.rescale (le_mx L m) (mx_lt L n m h.lt hc)) hc (mem_le_mx L m)

/-- A sum of reals in the extended reals. -/
theorem coe_sum {ι : Type} (S : Finset ι) (g : ι → ℝ) : ∑ k ∈ S, (g k : EReal) = ((∑ k ∈ S, g k : ℝ) : EReal) := by
  classical
  induction S using Finset.induction with
  | empty => rw [Finset.sum_empty, Finset.sum_empty, EReal.coe_zero]
  | insert a S ha ih => rw [Finset.sum_insert ha, Finset.sum_insert ha, ih, EReal.coe_add]

/-- The quotient of the merged sums is the softmax-weighted sum over all the `N` keys, the later ones masked. -/
theorem soft {n N : ℕ} {P : Tr} (h : Inv sc val 0 n P) (hn : n ≤ N) (hT : ∀ k, sc k < ⊤)
    (h0 : ∃ k, k < n ∧ sc k ≠ ⊥) (hb : ∀ k, n ≤ k → sc k = ⊥) (d : Fin 64) (Mr : EReal)
    (hMr : Mr = Finset.univ.fold max ⊥ fun k : Fin N => sc k) :
    Ideal.div (P.2.2 d) P.2.1 = ∑ k : Fin N, val d k * Ideal.div (ex (sc k) Mr) (∑ j : Fin N, ex (sc j) Mr) := by
  obtain ⟨k0, hk0, hs0⟩ := h0
  have hle : ∀ k, k < N → sc k ≤ Mr := fun k hk => by
    rw [hMr]; exact Finset.le_fold_max (sc k) |>.2 (.inr ⟨⟨k, hk⟩, Finset.mem_univ _, le_rfl⟩)
  have hlt : Mr < ⊤ := by rw [hMr]; exact (Finset.fold_max_lt ⊤).2 ⟨bot_lt_top, fun k _ => hT k⟩
  have hM : Mr ≤ P.1 := by
    rw [hMr]
    refine (Finset.fold_max_le P.1).2 ⟨bot_le, fun k _ => ?_⟩
    by_cases hk : k.val < n
    · exact h.le k (Nat.zero_le _) hk
    · rw [hb k (Nat.le_of_not_lt hk)]; exact bot_le
  obtain hb' | ⟨x0, x, e0, eM⟩ := cases_le (hle k0 (lt_of_lt_of_le hk0 hn)) hlt
  · exact absurd hb' hs0
  obtain hb' | ⟨_, y, _, eP⟩ := cases_le hM h.lt
  · rw [eM] at hb'; exact absurd hb' (EReal.coe_ne_bot x)
  have hw : ∀ k : Fin N, ex (sc k) Mr = ((ex (sc k) Mr).toReal : EReal) := fun k =>
    (EReal.coe_toReal (ex_ne_top (hle k k.2) hlt) (ne_of_gt (lt_of_lt_of_le EReal.bot_lt_zero (ex_nonneg (hle k k.2) hlt)))).symm
  have hw0 : ∀ k : Fin N, 0 ≤ (ex (sc k) Mr).toReal := fun k => EReal.toReal_nonneg (ex_nonneg (hle k k.2) hlt)
  have hL : ∑ j : Fin N, ex (sc j) Mr = ((∑ j : Fin N, (ex (sc j) Mr).toReal : ℝ) : EReal) := by
    rw [← coe_sum]; exact Finset.sum_congr rfl fun k _ => hw k
  have hpos : 0 < ∑ j : Fin N, (ex (sc j) Mr).toReal := by
    refine Finset.sum_pos' (fun k _ => hw0 k) ⟨⟨k0, lt_of_lt_of_le hk0 hn⟩, Finset.mem_univ _, ?_⟩
    show 0 < (ex (sc k0) Mr).toReal
    rw [e0, eM, ex_coe, EReal.toReal_coe]
    exact Real.rpow_pos_of_pos (by norm_num) _
  -- the sums under the state's maximum are those under the reference's, times one positive weight
  have hext : ∀ f : ℕ → EReal, (∀ k, n ≤ k → f k = 0) → ∑ k ∈ Finset.Ico 0 n, f k = ∑ k : Fin N, f k := fun f hf => by
    rw [← Finset.sum_range (n := N) f, ← Finset.range_eq_Ico]
    exact Finset.sum_subset (fun k hk => Finset.mem_range.2 (lt_of_lt_of_le (Finset.mem_range.1 hk) hn))
      fun k _ hk => hf k (Nat.le_of_not_lt fun h => hk (Finset.mem_range.2 h))
  have h1 : P.2.1 = ex Mr P.1 * ∑ j : Fin N, ex (sc j) Mr := by
    rw [h.l, hext _ fun k hk => by rw [hb k hk, ex_bot], mul_sum _ (ex_nonneg hM h.lt) (ex_ne_top hM h.lt)]
    exact Finset.sum_congr rfl fun k _ => (ex_mul (hle k k.2) hM h.lt).symm
  have h2 : P.2.2 d = ex Mr P.1 * ∑ j : Fin N, val d j * ex (sc j) Mr := by
    rw [h.a d, hext _ fun k hk => by rw [hb k hk, ex_bot, mul_zero], mul_sum _ (ex_nonneg hM h.lt) (ex_ne_top hM h.lt)]
    refine Finset.sum_congr rfl fun k _ => ?_
    rw [mul_left_comm, ex_mul (hle k k.2) hM h.lt]
  have hu : 0 < (2 : ℝ) ^ (x - y) := Real.rpow_pos_of_pos (by norm_num) _
  have heu : ex Mr P.1 = (((2 : ℝ) ^ (x - y) : ℝ) : EReal) := by rw [eM, eP, ex_coe]
  rw [h1, h2, hL, heu]
  generalize (2 : ℝ) ^ (x - y) = u at hu ⊢
  generalize (∑ j : Fin N, (ex (sc j) Mr).toReal) = r at hpos ⊢
  rw [← EReal.coe_mul, Ideal.div_coe (mul_pos hu hpos).ne', mul_comm (u : EReal), mul_assoc, ← EReal.coe_mul,
    show u * (1 / (u * r)) = 1 / r by field_simp, mul_comm,
    mul_sum _ (EReal.coe_nonneg.2 (one_div_nonneg.2 hpos.le)) (EReal.coe_ne_top _)]
  refine Finset.sum_congr rfl fun k _ => ?_
  rw [Ideal.div_coe hpos.ne', mul_comm, mul_assoc]

end Cert.Wgt

end
-- ==== Proof.PartVal.lean ====
module

public import proofs.«01_k».proof.Proof.RunData
public import proofs.«01_k».proof.Proof.Weights
public import Idealize.ShloMosaic.Lib.WordCmp
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The kernel's chunks over the extended reals: each part sums up its 256 keys, and a tile's merge is the merge of sums. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

open Cert.Wgt

variable {sc : ℕ → EReal} {val : Fin 64 → ℕ → EReal}

/-- A part read at query `j`. -/
def at_ (j : Fin 1024) (p : Part Ideal) : Tr := ⟨p.1 (ix2 0 j), p.2.1 (ix2 0 j), fun d => p.2.2 (ix2 d j)⟩

theorem sum256 (o : ℕ) (f : ℕ → EReal) : ∑ k ∈ Finset.Ico o (o + 256), f k = ∑ i : Fin 256, f (o + i.val) := by
  rw [Finset.sum_Ico_eq_sum_range, Nat.add_sub_cancel_left, Finset.sum_range]

/-- A part under a maximum that bounds its scores sums up its keys. -/
theorem part_inv (st : FVec Ideal S256x1024 .f32) (m : FVec Ideal S1x1024 .f32) (v : Vec Ideal S1x64x256 .bf16) (j : Fin 1024) (o : ℕ)
    (hs : ∀ i : Fin 256, st (ix2 i j) = sc (o + i.val)) (hv : ∀ (d : Fin 64) (i : Fin 256), v (ix3 0 d i) = val d (o + i.val))
    (hle : ∀ i : Fin 256, sc (o + i.val) ≤ m (ix2 0 j)) (hlt : (m (ix2 0 j) : EReal) < ⊤) :
    Inv sc val o (o + 256) (at_ j (part st m v)) where
  le k h1 h2 := by
    have := hle ⟨k - o, by omega⟩
    rwa [show o + (k - o) = k by omega] at this
  lt := hlt
  l := by
    rw [sum256]
    show (part st m v).2.1 (ix2 0 j) = ∑ i : Fin 256, ex (sc (o + i.val)) (m (ix2 0 j))
    refine Eq.trans (b := ∑ x : Fin 256, Ideal.exp2 (st (ix2 x j) - m (ix2 0 j))) ?_ (Finset.sum_congr rfl fun i _ => by rw [← hs i]; rfl)
    pointwise [part, og]
    rfl
  a d := by
    rw [sum256]
    show (part st m v).2.2 (ix2 d j) = ∑ i : Fin 256, val d (o + i.val) * ex (sc (o + i.val)) (m (ix2 0 j))
    refine Eq.trans (b := ∑ x : Fin 256, v (ix3 0 d x) * Ideal.exp2 (st (ix2 x j) - m (ix2 0 j))) ?_
      (Finset.sum_congr rfl fun i _ => by rw [← hs i, ← hv d i]; rfl)
    pointwise [part, og]
    rfl

theorem mxU_at (st : FVec Ideal S256x1024 .f32) (j : Fin 1024) :
    mxU st (ix2 0 j) = Finset.univ.fold max (⊥ : EReal) fun x : Fin 256 => st (ix2 x j) := by
  refine Eq.trans (b := Finset.univ.fold max (Ideal.ofBits FTy.f32 4286578688#32) fun x : Fin 256 => st (ix2 x j)) ?_ ?_
  · pointwise [mxU]
  · rw [show Ideal.ofBits FTy.f32 4286578688#32 = ⊥ by simp [Ideal.ofBits, Ideal.ieee]]

theorem mxM_at (st : FVec Ideal S256x1024 .f32) (j : Fin 1024) :
    mxM st (ix2 0 j) = max (mxU st (ix2 0 j)) (Ideal.ofBits FTy.f32 4048155338#32) := by
  pointwise [mxM]

theorem floor_lt : (Ideal.ofBits FTy.f32 4048155338#32 : EReal) < ⊤ := by
  simp [Ideal.ofBits, Ideal.ieee, -EReal.coe_mul]
  exact EReal.coe_lt_top _

theorem mxU_le (st : FVec Ideal S256x1024 .f32) (j : Fin 1024) (i : Fin 256) : st (ix2 i j) ≤ mxU st (ix2 0 j) := by
  rw [mxU_at]
  exact (Finset.le_fold_max _).2 (.inr ⟨i, Finset.mem_univ _, le_rfl⟩)

theorem mxU_lt (st : FVec Ideal S256x1024 .f32) (j : Fin 1024) (h : ∀ i : Fin 256, (st (ix2 i j) : EReal) < ⊤) : (mxU st (ix2 0 j) : EReal) < ⊤ := by
  rw [mxU_at]
  exact (Finset.fold_max_lt _).2 ⟨bot_lt_top, fun i _ => h i⟩

/-- A chunk of keys none of which is after the query. -/
theorem partU_inv (k : Vec Ideal S1x1x256x128 .bf16) (q : Vec Ideal S1x1x1024x128 .bf16) (v : Vec Ideal S1x64x256 .bf16) (j : Fin 1024) (o : ℕ)
    (hT : ∀ k, sc k < ⊤) (hs : ∀ i : Fin 256, scU k q (ix2 i j) = sc (o + i.val))
    (hv : ∀ (d : Fin 64) (i : Fin 256), v (ix3 0 d i) = val d (o + i.val)) :
    Inv sc val o (o + 256) (at_ j (partU k q v)) :=
  part_inv _ _ v j o hs hv (fun i => by rw [← hs i]; exact mxU_le _ j i) (mxU_lt _ j fun i => by rw [hs i]; exact hT _)

theorem msk_at (w : BitVec 32) (hw : w.toNat ≤ 768) (st : FVec Ideal S256x1024 .f32) (i : Fin 256) (j : Fin 1024) :
    msk w st (ix2 i j) = if w.toNat + i.val ≤ j.val then st (ix2 i j) else (⊥ : EReal) := by
  refine Eq.trans (b := Scalar.select (IntOp.cmpi CmpIPredicate.sle (IntOp.addi w (BitVec.ofNat 32 i.val)) (BitVec.ofNat 32 j.val))
      (st (ix2 i j)) (Ideal.ofBits FTy.f32 4286578688#32)) ?_ ?_
  · pointwise [msk]
  · rw [show Ideal.ofBits FTy.f32 4286578688#32 = ⊥ by simp [Ideal.ofBits, Ideal.ieee]]
    have e : IntOp.addi w (BitVec.ofNat 32 i.val) = BitVec.ofNat 32 (w.toNat + i.val) := by
      show w + BitVec.ofNat 32 i.val = _
      apply BitVec.eq_of_toNat_eq
      simp
    rw [e]
    unfold Scalar.select
    have hc := WordCmp.cmpi_sle_ofNat_eq_one_iff (w := 32) (a := w.toNat + i.val) (b := j.val) (by omega) (by omega)
    by_cases h : w.toNat + i.val ≤ j.val
    · rw [if_pos h]; exact if_pos (hc.2 h)
    · rw [if_neg h]; exact if_neg fun h' => h (hc.1 h')

/-- A chunk of the diagonal, its keys after the query masked. -/
theorem partM_inv (w : BitVec 32) (hw : w.toNat ≤ 768) (k : Vec Ideal S1x1x256x128 .bf16) (q : Vec Ideal S1x1x1024x128 .bf16) (v : Vec Ideal S1x64x256 .bf16)
    (j : Fin 1024) (o : ℕ) (hT : ∀ k, sc k < ⊤)
    (hs : ∀ i : Fin 256, (if w.toNat + i.val ≤ j.val then scU k q (ix2 i j) else (⊥ : EReal)) = sc (o + i.val))
    (hv : ∀ (d : Fin 64) (i : Fin 256), v (ix3 0 d i) = val d (o + i.val)) :
    Inv sc val o (o + 256) (at_ j (partM w k q v)) := by
  have hs' : ∀ i : Fin 256, msk w (scU k q) (ix2 i j) = sc (o + i.val) := fun i => (msk_at w hw _ i j).trans (hs i)
  refine part_inv _ _ v j o hs' hv (fun i => ?_) ?_
  · rw [← hs' i, mxM_at]; exact le_trans (mxU_le _ j i) (le_max_left _ _)
  · rw [mxM_at]; exact max_lt (mxU_lt _ j fun i => by rw [hs' i]; exact hT _) floor_lt

/-! ## The merge at a query -/

theorem mNew_at (j : Fin 1024) (L : List (Part Ideal)) : ∀ m : FVec Ideal S1x1024 .f32, mNew m L (ix2 0 j) = mx (m (ix2 0 j)) (L.map (at_ j)) := by
  induction L with
  | nil => exact fun m => rfl
  | cons p L ih => exact fun m => (ih (maximumf m p.1)).trans rfl

theorem lMrg_aux (j : Fin 1024) (M : FVec Ideal S1x1024 .f32) (L : List (Part Ideal)) : ∀ l : FVec Ideal S1x1024 .f32,
    L.foldl (fun a p => addf a (mulf (exp2 (subf p.1 M)) p.2.1)) l (ix2 0 j) = lM (M (ix2 0 j)) (l (ix2 0 j)) (L.map (at_ j)) := by
  induction L with
  | nil => exact fun m => rfl
  | cons p L ih => exact fun m => (ih _).trans rfl

theorem lMrg_at (j : Fin 1024) (M m l : FVec Ideal S1x1024 .f32) (L : List (Part Ideal)) :
    lMrg M m l L (ix2 0 j) = lM (M (ix2 0 j)) (ex (m (ix2 0 j)) (M (ix2 0 j)) * l (ix2 0 j)) (L.map (at_ j)) :=
  lMrg_aux j M L _

theorem wgt_at (p M : FVec Ideal S1x1024 .f32) (x : FVec Ideal S64x1024 .f32) (d : Fin 64) (j : Fin 1024) :
    mulf (broadcastTo S64x1024 (exp2 (subf p M)) broadcasts_S1x1024_S64x1024) x (ix2 d j) = ex (p (ix2 0 j)) (M (ix2 0 j)) * x (ix2 d j) := by
  refine Eq.trans (b := Ideal.exp2 (p (ix2 0 j) - M (ix2 0 j)) * x (ix2 d j)) ?_ rfl
  pointwise
  rfl

theorem aMrg_aux (d : Fin 64) (j : Fin 1024) (M : FVec Ideal S1x1024 .f32) (L : List (Part Ideal)) : ∀ a : FVec Ideal S64x1024 .f32,
    L.foldl (fun a p => addf a (mulf (broadcastTo S64x1024 (exp2 (subf p.1 M)) broadcasts_S1x1024_S64x1024) p.2.2)) a (ix2 d j)
      = aM (M (ix2 0 j)) (a (ix2 d j)) d (L.map (at_ j)) := by
  induction L with
  | nil => exact fun m => rfl
  | cons p L ih =>
    intro a
    refine (ih _).trans ?_
    show aM _ (a (ix2 d j) + mulf (broadcastTo S64x1024 (exp2 (subf p.1 M)) broadcasts_S1x1024_S64x1024) p.2.2 (ix2 d j)) d _ = _
    rw [wgt_at]
    rfl

theorem aMrg_at (d : Fin 64) (j : Fin 1024) (M m : FVec Ideal S1x1024 .f32) (a : FVec Ideal S64x1024 .f32) (L : List (Part Ideal)) :
    aMrg M m a L (ix2 d j) = aM (M (ix2 0 j)) (ex (m (ix2 0 j)) (M (ix2 0 j)) * a (ix2 d j)) d (L.map (at_ j)) := by
  refine (aMrg_aux d j M L _).trans ?_
  rw [wgt_at]

/-! ## The scratches at a head and a query -/

/-- The state of head `h`'s query `j`. -/
def sat (s : St Ideal) (h : Fin 2) (j : Fin 1024) : Tr := ⟨sw s.m h (ix2 0 j), sw s.l h (ix2 0 j), fun d => aw s.a h (ix2 d j)⟩

/-- A head's row, its accumulator's rows, read in the scratches. -/
theorem sw_at (s : Vec Ideal S2x1x1024 .f32) (h : Fin 2) (j : Fin 1024) : sw s h (ix2 0 j) = s (ix3 h 0 j) := by
  refine Eq.trans (b := VecWindow.window s (![h.val, 0, 0] : Fin 3 → ℕ) S1x1x1024.size (inbS h) (ix3 0 0 j)) (by pointwise [sw]) ?_
  refine congrArg s (funext fun a => Fin.ext ?_)
  match a with
  | ⟨0, _⟩ => show h.val + 1 * 0 = h.val; omega
  | ⟨1, _⟩ => rfl
  | ⟨2, _⟩ => show 0 + 1 * j.val = j.val; omega

theorem aw_at (s : Vec Ideal S128x1024 .f32) (h : Fin 2) (d : Fin 64) (j : Fin 1024) : aw s h (ix2 d j) = s (ix2 ⟨64 * h.val + d.val, by omega⟩ j) := by
  refine congrArg s (funext fun a => Fin.ext ?_)
  match a with
  | ⟨0, _⟩ => show 64 * h.val + 1 * d.val = 64 * h.val + d.val; omega
  | ⟨1, _⟩ => show 0 + 1 * j.val = j.val; omega

theorem sw_jn (a b : FVec Ideal S1x1024 .f32) (h : Fin 2) (j : Fin 1024) : sw (jn a b) h (ix2 0 j) = if h = 0 then a (ix2 0 j) else b (ix2 0 j) := by
  rw [sw_at]
  rcases (by omega : h = 0 ∨ h = 1) with rfl | rfl <;> rfl

theorem aw_ja (a b : FVec Ideal S64x1024 .f32) (h : Fin 2) (d : Fin 64) (j : Fin 1024) : aw (ja a b) h (ix2 d j) = if h = 0 then a (ix2 d j) else b (ix2 d j) := by
  rw [aw_at]
  rcases (by omega : h = 0 ∨ h = 1) with rfl | rfl
  · refine (dif_pos (show 64 * 0 + d.val < 64 by omega)).trans ?_
    show a (ix2 _ j) = a (ix2 d j)
    congr 2
    exact Fin.ext (by show 64 * 0 + d.val = d.val; omega)
  · refine (dif_neg (show ¬ 64 * 1 + d.val < 64 by omega)).trans ?_
    show b (ix2 _ j) = b (ix2 d j)
    congr 2
    exact Fin.ext (by show 64 * 1 + d.val - 64 = d.val; omega)

/-- A tile takes the state of the keys before it to that of the keys through it. -/
theorem upd_inv (P : Fin 2 → List (Part Ideal)) (s : St Ideal) (h : Fin 2) (j : Fin 1024) (n : ℕ)
    (hi : Inv sc val 0 n (sat s h j)) (hc : Chain sc val n ((P h).map (at_ j))) :
    Inv sc val 0 (n + 256 * (P h).length) (sat (upd P s) h j) := by
  have hm := merge hi hc
  rw [List.length_map] at hm
  have e : sat (upd P s) h j = ⟨mNew (sw s.m h) (P h) (ix2 0 j), lMrg (mNew (sw s.m h) (P h)) (sw s.m h) (sw s.l h) (P h) (ix2 0 j),
      fun d => aMrg (mNew (sw s.m h) (P h)) (sw s.m h) (aw s.a h) (P h) (ix2 d j)⟩ := by
    unfold sat upd mT lT aT
    rw [sw_jn, sw_jn]
    simp only [aw_ja]
    rcases (by omega : h = 0 ∨ h = 1) with rfl | rfl <;> rfl
  rw [e]
  simp only [mNew_at, lMrg_at, aMrg_at]
  exact hm

/-- The reset state sums up no keys. -/
theorem stR_inv (h : Fin 2) (j : Fin 1024) : Inv sc val 0 0 (sat (stR : St Ideal) h j) := by
  have e : sat (stR : St Ideal) h j = ⟨⊥, 0, fun _ => 0⟩ := by
    unfold sat
    have hm : (stR : St Ideal).m (ix3 h 0 j) = Ideal.ofBits FTy.f32 4286578688#32 := by pointwise [stR, mR, k0_pay1]
    have hl : (stR : St Ideal).l (ix3 h 0 j) = (0 : EReal) := by pointwise [stR, lR, k0_pay2]
    have ha : ∀ d : Fin 64, (stR : St Ideal).a (ix2 ⟨64 * h.val + d.val, by omega⟩ j) = (0 : EReal) := fun d => by pointwise [stR, aR, k0_pay3]
    simp only [sw_at, aw_at]
    rw [hm, hl, show Ideal.ofBits FTy.f32 4286578688#32 = ⊥ by simp [Ideal.ofBits, Ideal.ieee]]
    exact congrArg (fun f => ((⊥, 0, f) : Tr)) (funext ha)
  rw [e]
  exact inv_zero

end Cert.KernelIdeal.Att

end
-- ==== Proof.Grid.lean ====
module

public import proofs.«01_k».proof.Proof.PartVal
public import Idealize.ShloMosaic.Lib.Pipeline.ValueKit
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The grid's points: which blocks each reads and writes, which tile it runs, what the point before it did. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The query block and the key block of point `t`. -/
def qiN (t : ℕ) : ℕ := [0, 1, 2, 2, 3, 3, 4, 4, 4, 5, 5, 5, 6, 6, 6, 6, 7, 7, 7, 7].getD (t % 20) 0
def kiN (t : ℕ) : ℕ := [0, 0, 0, 1, 0, 1, 0, 1, 2, 0, 1, 2, 0, 1, 2, 3, 0, 1, 2, 3].getD (t % 20) 0

theorem idxB : ∀ t : Fin (cfgA Bits).N,
    ((cfgA Bits).win (0 : Fin 4)).index t = ![t.val / 80, t.val % 80 / 20, qiN t.val, 0]
    ∧ ((cfgA Bits).win (1 : Fin 4)).index t = ![t.val / 80, t.val % 80 / 20, kiN t.val, 0]
    ∧ ((cfgA Bits).win (2 : Fin 4)).index t = ![t.val / 80, t.val % 80 / 20, kiN t.val]
    ∧ ((cfgA Bits).win (3 : Fin 4)).index t = ![t.val / 80, qiN t.val, t.val % 80 / 20] := by decide +kernel

/-- The windows' blocks at every point. -/
theorem idx (t : Fin (cfgA F).N) :
    ((cfgA F).win (0 : Fin 4)).index t = ![t.val / 80, t.val % 80 / 20, qiN t.val, 0]
    ∧ ((cfgA F).win (1 : Fin 4)).index t = ![t.val / 80, t.val % 80 / 20, kiN t.val, 0]
    ∧ ((cfgA F).win (2 : Fin 4)).index t = ![t.val / 80, t.val % 80 / 20, kiN t.val]
    ∧ ((cfgA F).win (3 : Fin 4)).index t = ![t.val / 80, qiN t.val, t.val % 80 / 20] := idxB t

theorem whichB : ∀ t : Fin (cfgA Bits).N,
    (c0 (F := Bits) (wd1 (F := Bits) T1 (crd t)) ↔ kiN t.val = 0)
    ∧ (c1 (wd0 (F := Bits) T0 (crd t)) (wd1 (F := Bits) T1 (crd t)) ↔ 1024 * qiN t.val = 2048 * kiN t.val)
    ∧ (c2 (wd0 (F := Bits) T0 (crd t)) (wd1 (F := Bits) T1 (crd t)) ↔ 1024 * qiN t.val = 2048 * kiN t.val + 1024)
    ∧ (c3 (wd0 (F := Bits) T0 (crd t)) (wd1 (F := Bits) T1 (crd t)) ↔ 2048 * kiN t.val + 2048 ≤ 1024 * qiN t.val)
    ∧ (k0_cond5 (wd2 (F := Bits) T2 (crd t)) = 1#1 ↔ 1024 * qiN t.val + 1024 ≤ 2048 * kiN t.val + 2048) := by decide +kernel

/-- Which blocks of the body run at every point. -/
theorem which (t : Fin (cfgA F).N) :
    (c0 (F := F) (wd1 (F := F) T1 (crd t)) ↔ kiN t.val = 0)
    ∧ (c1 (wd0 (F := F) T0 (crd t)) (wd1 (F := F) T1 (crd t)) ↔ 1024 * qiN t.val = 2048 * kiN t.val)
    ∧ (c2 (wd0 (F := F) T0 (crd t)) (wd1 (F := F) T1 (crd t)) ↔ 1024 * qiN t.val = 2048 * kiN t.val + 1024)
    ∧ (c3 (wd0 (F := F) T0 (crd t)) (wd1 (F := F) T1 (crd t)) ↔ 2048 * kiN t.val + 2048 ≤ 1024 * qiN t.val)
    ∧ (k0_cond5 (wd2 (F := F) T2 (crd t)) = 1#1 ↔ 1024 * qiN t.val + 1024 ≤ 2048 * kiN t.val + 2048) := whichB t

/-- The key blocks of a query block are visited in order. -/
theorem order : ∀ t : Fin 160, qiN t.val < 8 ∧ 2048 * kiN t.val ≤ 1024 * qiN t.val ∧ t.val / 80 < 2 ∧ t.val % 80 / 20 < 4
    ∧ (kiN t.val ≠ 0 → t.val ≠ 0 ∧ qiN (t.val - 1) = qiN t.val ∧ kiN (t.val - 1) + 1 = kiN t.val
      ∧ (t.val - 1) / 80 = t.val / 80 ∧ (t.val - 1) % 80 / 20 = t.val % 80 / 20) := by decide +kernel

theorem covB : ((cfgA Bits).win (3 : Fin 4)).Covers := by decide +kernel
/-- The written blocks cover the result. -/
theorem cov : ((cfgA F).win (3 : Fin 4)).Covers := covB

theorem N_eq : (cfgA F).N = 160 := by
  show (cfgA Bits).N = 160
  decide +kernel

variable (m : (ℓ : Loc nD τ sig) → Buf (Elt Ideal) ℓ)
/-- The three arguments. -/
abbrev aQ (c : Dev nD) : FVec Ideal S2x8x8192x128 .bf16 := m ((c : Thread nD τ).loc main_arg0)
abbrev aK (c : Dev nD) : FVec Ideal S2x8x8192x128 .bf16 := m ((c : Thread nD τ).loc main_arg1)
abbrev aV (c : Dev nD) : FVec Ideal S2x512x8192 .bf16 := m ((c : Thread nD τ).loc main_arg2)

theorem xq_at (c : Dev nD) (t : Fin (cfgA Ideal).N) (h : Fin 2) (j : Fin 1024) (x : Fin 128) (b : Fin 2) (H : Fin 8) (p : Fin 8192)
    (hb : b.val = t.val / 80) (hH : H.val = 2 * (t.val % 80 / 20) + h.val) (hp : p.val = 1024 * qiN t.val + j.val) :
    xq m c t (ix4 0 h j x) = aQ m c (ix4 b H p x) := by
  have e := (idx t).1
  refine congrArg (aQ m c) (funext fun a => Fin.ext ?_)
  have hv : ∀ a : Fin 4, ((((cfgA Ideal).win (0 : Fin 4)).blk t).view.emb (ix4 0 h j x : S1x2x1024x128.Idx) a).val
      = ((cfgA Ideal).win (0 : Fin 4)).index t a * S1x2x1024x128.size a + 1 * ((ix4 0 h j x : S1x2x1024x128.Idx) a).val := fun a => rfl
  refine (hv a).trans ?_
  rw [e]
  match a with
  | ⟨0, _⟩ => show t.val / 80 * 1 + 1 * 0 = b.val; omega
  | ⟨1, _⟩ => show t.val % 80 / 20 * 2 + 1 * h.val = H.val; omega
  | ⟨2, _⟩ => show qiN t.val * 1024 + 1 * j.val = p.val; omega
  | ⟨3, _⟩ => show 0 * 128 + 1 * x.val = x.val; omega

theorem xk_at (c : Dev nD) (t : Fin (cfgA Ideal).N) (h : Fin 2) (j : Fin 2048) (x : Fin 128) (b : Fin 2) (H : Fin 8) (k : Fin 8192)
    (hb : b.val = t.val / 80) (hH : H.val = 2 * (t.val % 80 / 20) + h.val) (hk : k.val = 2048 * kiN t.val + j.val) :
    xk m c t (ix4 0 h j x) = aK m c (ix4 b H k x) := by
  have e := (idx t).2.1
  refine congrArg (aK m c) (funext fun a => Fin.ext ?_)
  have hv : ∀ a : Fin 4, ((((cfgA Ideal).win (1 : Fin 4)).blk t).view.emb (ix4 0 h j x : S1x2x2048x128.Idx) a).val
      = ((cfgA Ideal).win (1 : Fin 4)).index t a * S1x2x2048x128.size a + 1 * ((ix4 0 h j x : S1x2x2048x128.Idx) a).val := fun a => rfl
  refine (hv a).trans ?_
  rw [e]
  match a with
  | ⟨0, _⟩ => show t.val / 80 * 1 + 1 * 0 = b.val; omega
  | ⟨1, _⟩ => show t.val % 80 / 20 * 2 + 1 * h.val = H.val; omega
  | ⟨2, _⟩ => show kiN t.val * 2048 + 1 * j.val = k.val; omega
  | ⟨3, _⟩ => show 0 * 128 + 1 * x.val = x.val; omega

theorem xv_at (c : Dev nD) (t : Fin (cfgA Ideal).N) (r : Fin 128) (j : Fin 2048) (b : Fin 2) (R : Fin 512) (k : Fin 8192)
    (hb : b.val = t.val / 80) (hR : R.val = 128 * (t.val % 80 / 20) + r.val) (hk : k.val = 2048 * kiN t.val + j.val) :
    xv m c t (ix3 0 r j) = aV m c (ix3 b R k) := by
  have e := (idx t).2.2.1
  refine congrArg (aV m c) (funext fun a => Fin.ext ?_)
  have hv : ∀ a : Fin 3, ((((cfgA Ideal).win (2 : Fin 4)).blk t).view.emb (ix3 0 r j : S1x128x2048.Idx) a).val
      = ((cfgA Ideal).win (2 : Fin 4)).index t a * S1x128x2048.size a + 1 * ((ix3 0 r j : S1x128x2048.Idx) a).val := fun a => rfl
  refine (hv a).trans ?_
  rw [e]
  match a with
  | ⟨0, _⟩ => show t.val / 80 * 1 + 1 * 0 = b.val; omega
  | ⟨1, _⟩ => show t.val % 80 / 20 * 128 + 1 * r.val = R.val; omega
  | ⟨2, _⟩ => show kiN t.val * 2048 + 1 * j.val = k.val; omega

/-- Where the output block's elements sit in the result. -/
theorem out_emb (t : Fin (cfgA Ideal).N) (j : Fin 1024) (r : Fin 128) (b : Fin 2) (p : Fin 8192) (R : Fin 512)
    (hb : b.val = t.val / 80) (hp : p.val = 1024 * qiN t.val + j.val) (hR : R.val = 128 * (t.val % 80 / 20) + r.val) :
    (((cfgA Ideal).win (3 : Fin 4)).blk t).view.emb (ix3 0 j r : S1x1024x128.Idx) = (ix3 b p R : S2x8192x512.Idx) := by
  have e := (idx t).2.2.2
  refine funext fun a => Fin.ext ?_
  have hv : ∀ a : Fin 3, ((((cfgA Ideal).win (3 : Fin 4)).blk t).view.emb (ix3 0 j r : S1x1024x128.Idx) a).val
      = ((cfgA Ideal).win (3 : Fin 4)).index t a * S1x1024x128.size a + 1 * ((ix3 0 j r : S1x1024x128.Idx) a).val := fun a => rfl
  refine (hv a).trans ?_
  rw [e]
  match a with
  | ⟨0, _⟩ => show t.val / 80 * 1 + 1 * 0 = b.val; omega
  | ⟨1, _⟩ => show qiN t.val * 1024 + 1 * j.val = p.val; omega
  | ⟨2, _⟩ => show t.val % 80 / 20 * 128 + 1 * r.val = R.val; omega

end Cert.KernelIdeal.Att

end
-- ==== Proof.Inv.lean ====
module

public import proofs.«01_k».proof.Proof.Grid
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The state after every grid point sums up the keys up to the end of its tile, by induction over the grid. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

open Cert.Wgt

/-- The scores of query `p` of head `H` of batch `b`: masked after the query, and past the last key. -/
def scF (Q K : FVec Ideal S2x8x8192x128 .bf16) (b : Fin 2) (H : Fin 8) (p : Fin 8192) : ℕ → EReal := fun k =>
  if h : k < 8192 ∧ k ≤ p.val then ∑ x : Fin 128, K (ix4 b H ⟨k, h.1⟩ x) * Q (ix4 b H p x) else ⊥
/-- The values of head `H` of batch `b`. -/
def valF (V : FVec Ideal S2x512x8192 .bf16) (b : Fin 2) (H : Fin 8) : Fin 64 → ℕ → EReal := fun d k =>
  if h : k < 8192 then V (ix3 b ⟨64 * H.val + d.val, by omega⟩ ⟨k, h⟩) else 0

theorem scU_at (k : Vec Ideal S1x1x256x128 .bf16) (q : Vec Ideal S1x1x1024x128 .bf16) (i : Fin 256) (j : Fin 1024) :
    scU k q (ix2 i j) = ∑ x : Fin 128, k (ix4 0 0 i x) * q (ix4 0 0 j x) := by
  pointwise [scU]

/-- A head's windows read in the blocks. -/
theorem qw_at (x0 : Vec Ideal S1x2x1024x128 .bf16) (h : Fin 2) (j : Fin 1024) (x : Fin 128) : qw x0 h (ix4 0 0 j x) = x0 (ix4 0 h j x) := by
  refine congrArg x0 (funext fun a => Fin.ext ?_)
  match a with
  | ⟨0, _⟩ => rfl
  | ⟨1, _⟩ => show h.val + 1 * 0 = h.val; omega
  | ⟨2, _⟩ => show 0 + 1 * j.val = j.val; omega
  | ⟨3, _⟩ => show 0 + 1 * x.val = x.val; omega
theorem kw_at (x1 : Vec Ideal S1x2x2048x128 .bf16) (h : Fin 2) (c : Fin 8) (i : Fin 256) (x : Fin 128) :
    kw x1 h c (ix4 0 0 i x) = x1 (ix4 0 h ⟨256 * c.val + i.val, by omega⟩ x) := by
  refine congrArg x1 (funext fun a => Fin.ext ?_)
  match a with
  | ⟨0, _⟩ => rfl
  | ⟨1, _⟩ => show h.val + 1 * 0 = h.val; omega
  | ⟨2, _⟩ => show 256 * c.val + 1 * i.val = 256 * c.val + i.val; omega
  | ⟨3, _⟩ => show 0 + 1 * x.val = x.val; omega
theorem vw_at (x2 : Vec Ideal S1x128x2048 .bf16) (h : Fin 2) (c : Fin 8) (d : Fin 64) (i : Fin 256) :
    vw x2 h c (ix3 0 d i) = x2 (ix3 0 ⟨64 * h.val + d.val, by omega⟩ ⟨256 * c.val + i.val, by omega⟩) := by
  refine congrArg x2 (funext fun a => Fin.ext ?_)
  match a with
  | ⟨0, _⟩ => rfl
  | ⟨1, _⟩ => show 64 * h.val + 1 * d.val = 64 * h.val + d.val; omega
  | ⟨2, _⟩ => show 256 * c.val + 1 * i.val = 256 * c.val + i.val; omega

variable (m : (ℓ : Loc nD τ sig) → Buf (Elt Ideal) ℓ)

section Point

variable (c : Dev nD) (t : Fin (cfgA Ideal).N) (h : Fin 2) (j : Fin 1024) (b : Fin 2) (H : Fin 8) (p : Fin 8192)
  (hb : b.val = t.val / 80) (hH : H.val = 2 * (t.val % 80 / 20) + h.val) (hp : p.val = 1024 * qiN t.val + j.val)
  (hT : ∀ k, scF (aQ m c) (aK m c) b H p k < ⊤)

include hb hH hp in
/-- A chunk's scores are the query's. -/
theorem sc_at (ch : Fin 8) (i : Fin 256) (hle : 2048 * kiN t.val + 256 * ch.val + i.val ≤ p.val) :
    scU (kw (xk m c t) h ch) (qw (xq m c t) h) (ix2 i j) = scF (aQ m c) (aK m c) b H p (2048 * kiN t.val + 256 * ch.val + i.val) := by
  rw [scU_at]
  unfold scF
  rw [dif_pos ⟨by omega, hle⟩]
  refine Finset.sum_congr rfl fun x _ => ?_
  rw [kw_at, qw_at, xk_at m c t h _ x b H ⟨2048 * kiN t.val + 256 * ch.val + i.val, by omega⟩ hb hH (by show 2048 * kiN t.val + 256 * ch.val + i.val = _ + (256 * ch.val + i.val); omega),
    xq_at m c t h j x b H p hb hH hp]

include hb hH in
/-- A chunk's values are the head's. -/
theorem val_at (ch : Fin 8) (i : Fin 256) (d : Fin 64) (hlt : 2048 * kiN t.val + 256 * ch.val + i.val < 8192) :
    vw (xv m c t) h ch (ix3 0 d i) = valF (aV m c) b H d (2048 * kiN t.val + 256 * ch.val + i.val) := by
  unfold valF
  rw [dif_pos hlt, vw_at]
  exact xv_at m c t _ _ b _ _ hb (by show 64 * H.val + d.val = 128 * _ + (64 * h.val + d.val); omega)
    (by show 2048 * kiN t.val + 256 * ch.val + i.val = _ + (256 * ch.val + i.val); omega)

include hb hH hp hT in
/-- A plain chunk. -/
theorem chunkU (ch : Fin 8) (o : ℕ) (ho : o = 2048 * kiN t.val + 256 * ch.val) (hle : o + 256 ≤ 1024 * qiN t.val) :
    Inv (scF (aQ m c) (aK m c) b H p) (valF (aV m c) b H) o (o + 256) (at_ j (partU (kw (xk m c t) h ch) (qw (xq m c t) h) (vw (xv m c t) h ch))) := by
  subst ho
  exact partU_inv _ _ _ j _ hT (fun i => sc_at m c t h j b H p hb hH hp ch i (by omega)) fun d i => val_at m c t h b H hb hH ch i d (by omega)

include hb hH hp hT in
/-- A chunk of the diagonal. -/
theorem chunkM (ch : Fin 8) (w : BitVec 32) (o : ℕ) (ho : o = 2048 * kiN t.val + 256 * ch.val) (hw : w.toNat ≤ 768) (hq : o = 1024 * qiN t.val + w.toNat)
    (h8 : qiN t.val < 8) :
    Inv (scF (aQ m c) (aK m c) b H p) (valF (aV m c) b H) o (o + 256) (at_ j (partM w (kw (xk m c t) h ch) (qw (xq m c t) h) (vw (xv m c t) h ch))) := by
  subst ho
  refine partM_inv w hw _ _ _ j _ hT (fun i => ?_) fun d i => val_at m c t h b H hb hH ch i d (by omega)
  by_cases hi : w.toNat + i.val ≤ j.val
  · rw [if_pos hi]; exact sc_at m c t h j b H p hb hH hp ch i (by omega)
  · rw [if_neg hi]; unfold scF; rw [dif_neg (by omega)]

/-- The end of point `t`'s keys. -/
def nk (t : ℕ) : ℕ := min (1024 * qiN t + 1024) (2048 * kiN t + 2048)

include hb hH hp hT in
/-- The body at a point takes the state of the keys before its tile to that through it. -/
theorem nxt_inv (s : St Ideal) (hi : kiN t.val ≠ 0 → Inv (scF (aQ m c) (aK m c) b H p) (valF (aV m c) b H) 0 (2048 * kiN t.val) (sat s h j)) :
    Inv (scF (aQ m c) (aK m c) b H p) (valF (aV m c) b H) 0 (nk t.val) (sat (stp m c t s) h j) := by
  obtain ⟨h0, h1, h2, h3, -⟩ := which t
  obtain ⟨hq8, hkq, -⟩ := order ⟨t.val, lt_of_lt_of_eq t.2 N_eq⟩
  replace hq8 : qiN t.val < 8 := hq8
  replace hkq : 2048 * kiN t.val ≤ 1024 * qiN t.val := hkq
  have key : ∀ s : St Ideal, Inv (scF (aQ m c) (aK m c) b H p) (valF (aV m c) b H) 0 (2048 * kiN t.val) (sat s h j) →
      Inv (scF (aQ m c) (aK m c) b H p) (valF (aV m c) b H) 0 (nk t.val)
        (sat (if c3 (wd0 (F := Ideal) T0 (crd t)) (wd1 (F := Ideal) T1 (crd t)) then up2 (xq m c t) (xk m c t) (xv m c t)
            (if c2 (wd0 (F := Ideal) T0 (crd t)) (wd1 (F := Ideal) T1 (crd t)) then up1 (xq m c t) (xk m c t) (xv m c t)
              (if c1 (wd0 (F := Ideal) T0 (crd t)) (wd1 (F := Ideal) T1 (crd t)) then up0 (xq m c t) (xk m c t) (xv m c t) s else s)
             else (if c1 (wd0 (F := Ideal) T0 (crd t)) (wd1 (F := Ideal) T1 (crd t)) then up0 (xq m c t) (xk m c t) (xv m c t) s else s))
          else (if c2 (wd0 (F := Ideal) T0 (crd t)) (wd1 (F := Ideal) T1 (crd t)) then up1 (xq m c t) (xk m c t) (xv m c t)
              (if c1 (wd0 (F := Ideal) T0 (crd t)) (wd1 (F := Ideal) T1 (crd t)) then up0 (xq m c t) (xk m c t) (xv m c t) s else s)
             else (if c1 (wd0 (F := Ideal) T0 (crd t)) (wd1 (F := Ideal) T1 (crd t)) then up0 (xq m c t) (xk m c t) (xv m c t) s else s))) h j) := by
    intro s hs
    have cU := chunkU m c t h j b H p hb hH hp hT
    have cM := fun ch w o ho hw hq => chunkM m c t h j b H p hb hH hp hT ch w o ho hw hq hq8
    by_cases d0 : 1024 * qiN t.val = 2048 * kiN t.val
    · rw [if_neg (fun e => absurd (h3.1 e) (by omega)), if_neg (fun e => absurd (h2.1 e) (by omega)), if_pos (h1.2 d0),
        show nk t.val = 2048 * kiN t.val + 256 * 4 by unfold nk; omega]
      refine upd_inv (fun h => parts0 (kw (xk m c t) h) (qw (xq m c t) h) (vw (xv m c t) h)) s h j _ hs (And.intro ?_ (And.intro ?_ (And.intro ?_ (And.intro ?_ (trivial)))))
      · exact cM 0 0#32 _ (by show _ = _ + 256 * 0; omega) (by decide) (by show _ = _ + 0; omega)
      · exact cM 1 256#32 _ (by show _ = _ + 256 * 1; omega) (by decide) (by show _ = _ + 256; omega)
      · exact cM 2 512#32 _ (by show _ = _ + 256 * 2; omega) (by decide) (by show _ = _ + 512; omega)
      · exact cM 3 768#32 _ (by show _ = _ + 256 * 3; omega) (by decide) (by show _ = _ + 768; omega)
    · by_cases d1 : 1024 * qiN t.val = 2048 * kiN t.val + 1024
      · rw [if_neg (fun e => absurd (h3.1 e) (by omega)), if_pos (h2.2 d1), if_neg (fun e => d0 (h1.1 e)),
          show nk t.val = 2048 * kiN t.val + 256 * 8 by unfold nk; omega]
        refine upd_inv (fun h => parts1 (kw (xk m c t) h) (qw (xq m c t) h) (vw (xv m c t) h)) s h j _ hs (And.intro ?_ (And.intro ?_ (And.intro ?_ (And.intro ?_ (And.intro ?_ (And.intro ?_ (And.intro ?_ (And.intro ?_ (trivial)))))))))
        · exact cU 0 _ (by show _ = _ + 256 * 0; omega) (by omega)
        · exact cU 1 _ (by show _ = _ + 256 * 1; omega) (by omega)
        · exact cU 2 _ (by show _ = _ + 256 * 2; omega) (by omega)
        · exact cU 3 _ (by show _ = _ + 256 * 3; omega) (by omega)
        · exact cM 4 0#32 _ (by show _ = _ + 256 * 4; omega) (by decide) (by show _ = _ + 0; omega)
        · exact cM 5 256#32 _ (by show _ = _ + 256 * 5; omega) (by decide) (by show _ = _ + 256; omega)
        · exact cM 6 512#32 _ (by show _ = _ + 256 * 6; omega) (by decide) (by show _ = _ + 512; omega)
        · exact cM 7 768#32 _ (by show _ = _ + 256 * 7; omega) (by decide) (by show _ = _ + 768; omega)
      · have d2 : 2048 * kiN t.val + 2048 ≤ 1024 * qiN t.val := by omega
        rw [if_pos (h3.2 d2), if_neg (fun e => d1 (h2.1 e)), if_neg (fun e => d0 (h1.1 e)),
          show nk t.val = 2048 * kiN t.val + 256 * 8 by unfold nk; omega]
        refine upd_inv (fun h => parts2 (kw (xk m c t) h) (qw (xq m c t) h) (vw (xv m c t) h)) s h j _ hs (And.intro ?_ (And.intro ?_ (And.intro ?_ (And.intro ?_ (And.intro ?_ (And.intro ?_ (And.intro ?_ (And.intro ?_ (trivial)))))))))
        · exact cU 0 _ (by show _ = _ + 256 * 0; omega) (by omega)
        · exact cU 1 _ (by show _ = _ + 256 * 1; omega) (by omega)
        · exact cU 2 _ (by show _ = _ + 256 * 2; omega) (by omega)
        · exact cU 3 _ (by show _ = _ + 256 * 3; omega) (by omega)
        · exact cU 4 _ (by show _ = _ + 256 * 4; omega) (by omega)
        · exact cU 5 _ (by show _ = _ + 256 * 5; omega) (by omega)
        · exact cU 6 _ (by show _ = _ + 256 * 6; omega) (by omega)
        · exact cU 7 _ (by show _ = _ + 256 * 7; omega) (by omega)
  unfold stp nxt
  refine key _ ?_
  by_cases hk : kiN t.val = 0
  · rw [if_pos (h0.2 hk), hk]; exact stR_inv h j
  · rw [if_neg fun e => hk (h0.1 e)]; exact hi hk

end Point

/-- After every point the scratches sum up the keys through its tile. -/
theorem st_inv (c : Dev nD) : ∀ (n : ℕ) (hn : n < 160) (h : Fin 2) (j : Fin 1024) (b : Fin 2) (H : Fin 8) (p : Fin 8192),
    b.val = n / 80 → H.val = 2 * (n % 80 / 20) + h.val → p.val = 1024 * qiN n + j.val →
    (∀ k, scF (aQ m c) (aK m c) b H p k < ⊤) →
    Inv (scF (aQ m c) (aK m c) b H p) (valF (aV m c) b H) 0 (nk n) (sat (stAt m c (n + 1)) h j) := by
  intro n
  induction n with
  | zero =>
    intro hn h j b H p hb hH hp hT
    have e := stAt_succ m c ⟨0, lt_of_lt_of_eq hn N_eq.symm⟩
    rw [show stAt m c (0 + 1) = _ from e]
    exact nxt_inv m c ⟨0, _⟩ h j b H p hb hH hp hT _ fun hk => absurd rfl hk
  | succ n ih =>
    intro hn h j b H p hb hH hp hT
    have e := stAt_succ m c ⟨n + 1, lt_of_lt_of_eq hn N_eq.symm⟩
    rw [show stAt m c (n + 1 + 1) = _ from e]
    refine nxt_inv m c ⟨n + 1, _⟩ h j b H p hb hH hp hT _ fun hk => ?_
    obtain ⟨-, hkq, -, -, ho⟩ := order ⟨n + 1, hn⟩
    obtain ⟨-, o1, o2, o3, o4⟩ := ho hk
    replace hkq : 2048 * kiN (n + 1) ≤ 1024 * qiN (n + 1) := hkq
    replace o1 : qiN n = qiN (n + 1) := o1
    replace o2 : kiN n + 1 = kiN (n + 1) := o2
    replace o3 : n / 80 = (n + 1) / 80 := o3
    replace o4 : n % 80 / 20 = (n + 1) % 80 / 20 := o4
    have r := ih (by omega) h j b H p (by omega) (by omega) (by omega) hT
    rw [show nk n = 2048 * kiN (n + 1) by unfold nk; omega] at r
    exact r

end Cert.KernelIdeal.Att

end
-- ==== Proof.Ref.lean ====
module

public import proofs.«01_k».proof.Proof.Gen.ReferenceIdeal.Run
public import Idealize.ShloMosaic.Lib.WordCmp
public import proofs.«01_k».proof.Proof.Weights
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The reference over the extended reals, read at an element: masked scores, their maximum, the weights in base 2, their
sum, the weighted values. -/

@[expose] public section

set_option maxRecDepth 16384
set_option Elab.async false

noncomputable section

namespace Cert.ReferenceIdeal.Att

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.Wgt

/-- The masked scores. -/
def rS (Q K : FVec Ideal S2x8x8192x128 .bf16) : FVec Ideal S2x8x8192x8192 .f32 :=
  select (broadcastInDim S2x8x8192x8192 ![2, 3] bcast_S8192x8192_S2x8x8192x8192_2_3
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (Host.dotGeneral dot_S2x8x8192x128_S2x8x8192x128_S2x8x8192x8192_3_3_2_2_01_01 none (extf .f32 Q bitsLt_bf16_f32)
      (extf .f32 K bitsLt_bf16_f32))
    (broadcastInDim S2x8x8192x8192 ![] bcast_S_S2x8x8192x8192 (id (constant S_ .f32 0xFF800000#32)))
/-- A row's maximum, along the row. -/
def rM (S : FVec Ideal S2x8x8192x8192 .f32) : FVec Ideal S2x8x8192x8192 .f32 :=
  broadcastInDim S2x8x8192x8192 ![0, 1, 2, 3] bcast_S2x8x8192x1_S2x8x8192x8192_0_1_2_3 (broadcastInDim S2x8x8192x1 ![0, 1, 2] bcast_S2x8x8192_S2x8x8192x1_0_1_2
    (Host.reduce FloatOps.maximumf S (constant S_ .f32 0xFF800000#32) reducesTo_S2x8x8192x8192_S2x8x8192_d3 h_S_))
/-- The weights. -/
def rW (S M : FVec Ideal S2x8x8192x8192 .f32) : FVec Ideal S2x8x8192x8192 .f32 :=
  Host.powf (broadcastInDim S2x8x8192x8192 ![] bcast_S_S2x8x8192x8192 (constant S_ .f32 0x40000000#32)) (subf S M)
/-- A row's sum, along the row. -/
def rL (W : FVec Ideal S2x8x8192x8192 .f32) : FVec Ideal S2x8x8192x8192 .f32 :=
  broadcastInDim S2x8x8192x8192 ![0, 1, 2, 3] bcast_S2x8x8192x1_S2x8x8192x8192_0_1_2_3 (broadcastInDim S2x8x8192x1 ![0, 1, 2] bcast_S2x8x8192_S2x8x8192x1_0_1_2
    (Host.reduceAdd W (constant S_ .f32 0x00000000#32) reducesTo_S2x8x8192x8192_S2x8x8192_d3 h_S_))
/-- The values weighted by the quotients. -/
def rO (V : FVec Ideal S2x512x8192 .bf16) (W L : FVec Ideal S2x8x8192x8192 .f32) : FVec Ideal S2x8192x512 .bf16 :=
  truncf .bf16 (shapeCast _ (transpose S2x8192x8x64 [0, 3, 1, 2] (Host.dotGeneral dot_S2x8x64x8192_S2x8x8192x8192_S2x8x64x8192_3_3_2_2_01_01 none
    (shapeCast _ (extf .f32 V bitsLt_bf16_f32) shapeCasts_S2x512x8192_S2x8x64x8192) (Host.divf W L))
    transposes_S2x8x64x8192_S2x8192x8x64_0_3_1_2) shapeCasts_S2x8192x8x64_S2x8192x512) bitsLt_bf16_f32

/-- The reference's result is these steps one after another. -/
theorem res_eq (m : (ℓ : Loc nD τ sig) → Buf (Elt Ideal) ℓ) (c : Dev nD) :
    Value.res_out0 (F := Ideal) m c = rO (m ((c.tc : Thread nD τ).loc main_arg2))
      (rW (rS (m ((c.tc : Thread nD τ).loc main_arg0)) (m ((c.tc : Thread nD τ).loc main_arg1)))
        (rM (rS (m ((c.tc : Thread nD τ).loc main_arg0)) (m ((c.tc : Thread nD τ).loc main_arg1)))))
      (rL (rW (rS (m ((c.tc : Thread nD τ).loc main_arg0)) (m ((c.tc : Thread nD τ).loc main_arg1)))
        (rM (rS (m ((c.tc : Thread nD τ).loc main_arg0)) (m ((c.tc : Thread nD τ).loc main_arg1)))))) := by
  unfold Value.res_out0 Value.res_main_v25 rO rL rW rM rS
  rfl

/-- A masked score: the query's with the key, `⊥` for a key after the query. -/
def rsc (Q K : FVec Ideal S2x8x8192x128 .bf16) (b : Fin 2) (H : Fin 8) (p : Fin 8192) (k : Fin 8192) : EReal :=
  if k.val ≤ p.val then ∑ x : Fin 128, Q (ix4 b H p x) * K (ix4 b H k x) else ⊥

theorem neg_inf : Ideal.ofBits FTy.f32 4286578688#32 = ⊥ := by simp [Ideal.ofBits, Ideal.ieee]

theorem rS_at (Q K : FVec Ideal S2x8x8192x128 .bf16) (b : Fin 2) (H : Fin 8) (p k : Fin 8192) : rS Q K (ix4 b H p k) = rsc Q K b H p k := by
  refine Eq.trans (b := Scalar.select (IntOp.cmpi CmpIPredicate.sle (BitVec.ofNat 32 k.val) (BitVec.ofNat 32 p.val))
      (∑ x : Fin 128, Q (ix4 b H p x) * K (ix4 b H k x)) (Ideal.ofBits FTy.f32 4286578688#32)) ?_ ?_
  · pointwise [rS]
    rfl
  · rw [neg_inf]
    unfold Scalar.select rsc
    have hc := WordCmp.cmpi_sle_ofNat_eq_one_iff (w := 32) (a := k.val) (b := p.val) (by omega) (by omega)
    by_cases h : k.val ≤ p.val
    · rw [if_pos h]; exact if_pos (hc.2 h)
    · rw [if_neg h]; exact if_neg fun h' => h (hc.1 h')

theorem rM_at (S : FVec Ideal S2x8x8192x8192 .f32) (b : Fin 2) (H : Fin 8) (p k : Fin 8192) :
    rM S (ix4 b H p k) = Finset.univ.fold max (⊥ : EReal) fun x : Fin 8192 => S (ix4 b H p x) := by
  rw [← neg_inf]
  pointwise [rM]

/-- Two to a power is the base-2 exponential. -/
theorem pow_two (x : EReal) : Ideal.pow (Ideal.ofBits FTy.f32 1073741824#32) x = Ideal.exp2 x := by
  rw [show Ideal.ofBits FTy.f32 1073741824#32 = ((2 : ℝ) : EReal) by simp [Ideal.ofBits, Ideal.ieee, -EReal.coe_mul]; norm_num]
  induction x using EReal.rec with
  | bot => rw [Ideal.pow_coe_bot, if_neg (by norm_num), if_pos (by norm_num), Ideal.exp2_bot]
  | top => rw [Ideal.pow_coe_top, if_neg (by norm_num), if_pos (by norm_num), Ideal.exp2_top]
  | coe r => rw [Ideal.pow_coe_coe, Ideal.exp2_coe]

theorem rW_at (S M : FVec Ideal S2x8x8192x8192 .f32) (b : Fin 2) (H : Fin 8) (p k : Fin 8192) :
    rW S M (ix4 b H p k) = ex (S (ix4 b H p k)) (M (ix4 b H p k)) := by
  refine Eq.trans (b := Ideal.pow (Ideal.ofBits FTy.f32 1073741824#32) (S (ix4 b H p k) - M (ix4 b H p k))) ?_ (pow_two _)
  pointwise [rW]

theorem rL_at (W : FVec Ideal S2x8x8192x8192 .f32) (b : Fin 2) (H : Fin 8) (p k : Fin 8192) : rL W (ix4 b H p k) = ∑ x : Fin 8192, W (ix4 b H p x) := by
  pointwise [rL]

theorem rO_at (V : FVec Ideal S2x512x8192 .bf16) (W L : FVec Ideal S2x8x8192x8192 .f32) (b : Fin 2) (H : Fin 8) (d : Fin 64) (p : Fin 8192) :
    rO V W L (ix3 b p ⟨64 * H.val + d.val, by omega⟩)
      = ∑ x : Fin 8192, V (ix3 b ⟨64 * H.val + d.val, by omega⟩ x) * Ideal.div (W (ix4 b H p x)) (L (ix4 b H p x)) := by
  refine Eq.trans (b := ∑ x : Fin 8192, V (ix3 b ⟨H.val * 64 + d.val, by omega⟩ x) * Ideal.div (W (ix4 b H p x)) (L (ix4 b H p x))) ?_ ?_
  · pointwise [rO]
  · simp only [mul_comm 64]

/-- The reference's result: the values weighted by the softmax in base 2 of the masked scores. -/
theorem res_at (m : (ℓ : Loc nD τ sig) → Buf (Elt Ideal) ℓ) (c : Dev nD) (Q K : FVec Ideal S2x8x8192x128 .bf16) (V : FVec Ideal S2x512x8192 .bf16)
    (hQ : m ((c.tc : Thread nD τ).loc main_arg0) = Q) (hK : m ((c.tc : Thread nD τ).loc main_arg1) = K) (hV : m ((c.tc : Thread nD τ).loc main_arg2) = V)
    (b : Fin 2) (H : Fin 8) (d : Fin 64) (p : Fin 8192) (Mr : EReal) (hM : Mr = Finset.univ.fold max (⊥ : EReal) fun x : Fin 8192 => rsc Q K b H p x) :
    Value.res_out0 (F := Ideal) m c (ix3 b p ⟨64 * H.val + d.val, by omega⟩)
      = ∑ x : Fin 8192, (V (ix3 b ⟨64 * H.val + d.val, by omega⟩ x) : EReal)
          * Ideal.div (ex (rsc Q K b H p x) Mr) (∑ y : Fin 8192, ex (rsc Q K b H p y) Mr) := by
  rw [res_eq, hQ, hK, hV]
  refine (rO_at V _ _ b H d p).trans (Finset.sum_congr rfl fun x _ => ?_)
  rw [rL_at]
  simp only [rW_at, rM_at, rS_at]
  rw [← hM]

end Cert.ReferenceIdeal.Att

end
-- ==== Proof.Final.lean ====
module

public import proofs.«01_k».proof.Proof.Inv
public import proofs.«01_k».proof.Proof.Run
public import proofs.«01_k».proof.Proof.Ref
public import proofs.«01_k».proof.Defs
public import Idealize.ShloMosaic.Init
public import Idealize.ShloMosaic.Lib.VecWindow
public import Idealize.ShloMosaic.Lib.WritesUnit
public import Idealize.ShloMosaic.Lib.Pointwise
public meta import Idealize.ShloMosaic.Lib.Tactic
public import Idealize.ShloMosaic.Lib.Tactic
public import Idealize.ShloMosaic.Lib.Pipeline.Kit
public import Idealize.ShloMosaic.Lib.Pipeline.Regions

/-! The kernel's result is the reference's, where the queries and the keys are finite. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

open Cert.Wgt

/-- The side conditions of the finiteness predicate. -/
instance factsF : Cert.Pre_finite.Facts where
  bitsLt_bf16_f32 := by decide
  bcast_S_S2x8x8192x128 := by decide

theorem pos_inf : Ideal.ofBits FTy.f32 2139095040#32 = ⊤ := by simp [Ideal.ofBits, Ideal.ieee]

/-- An extended real whose magnitude is below `⊤` is real. -/
theorem real_of_lt (x : EReal) (h : BitVec.ofBool (decide (max x (-x) < Ideal.ofBits FTy.f32 2139095040#32)) = 1#1) : x ≠ ⊥ ∧ x ≠ ⊤ := by
  rw [pos_inf, WordCmp.ofBool_decide_eq_one_iff] at h
  constructor
  · rintro rfl
    rw [EReal.neg_bot] at h
    exact absurd (lt_of_le_of_lt (le_max_right _ _) h) (lt_irrefl _)
  · rintro rfl
    exact absurd (lt_of_le_of_lt (le_max_left _ _) h) (lt_irrefl _)

variable (m : (ℓ : Loc nD τ sig) → Buf (Elt Ideal) ℓ)

/-- The queries and the keys are real under the finiteness predicate. -/
theorem fin_of_pre (hp : Cert.Pre_KernelIdeal_finite m) (c : Dev nD) (b : Fin 2) (H : Fin 8) (p : Fin 8192) (x : Fin 128) :
    ((aQ m c (ix4 b H p x) : EReal) ≠ ⊥ ∧ (aQ m c (ix4 b H p x) : EReal) ≠ ⊤)
    ∧ ((aK m c (ix4 b H p x) : EReal) ≠ ⊥ ∧ (aK m c (ix4 b H p x) : EReal) ≠ ⊤) := by
  obtain ⟨h1, h2⟩ := hp c
  replace h1 := congrFun h1 (ix4 b H p x)
  replace h2 := congrFun h2 (ix4 b H p x)
  unfold Cert.Pre_finite.fn at h1 h2
  pointwise at h1
  pointwise at h2
  exact ⟨real_of_lt _ h1, real_of_lt _ h2⟩

/-- A sum of products of reals is real. -/
theorem sum_real {n : ℕ} (f g : Fin n → EReal) (hf : ∀ x, f x ≠ ⊥ ∧ f x ≠ ⊤) (hg : ∀ x, g x ≠ ⊥ ∧ g x ≠ ⊤) :
    ∑ x, f x * g x ≠ ⊥ ∧ ∑ x, f x * g x ≠ ⊤ := by
  have e : ∑ x, f x * g x = ((∑ x, (f x).toReal * (g x).toReal : ℝ) : EReal) := by
    rw [← coe_sum]
    refine Finset.sum_congr rfl fun x _ => ?_
    rw [EReal.coe_mul, EReal.coe_toReal (hf x).2 (hf x).1, EReal.coe_toReal (hg x).2 (hg x).1]
  rw [e]
  exact ⟨EReal.coe_ne_bot _, EReal.coe_ne_top _⟩

theorem scF_lt (hp : Cert.Pre_KernelIdeal_finite m) (c : Dev nD) (b : Fin 2) (H : Fin 8) (p : Fin 8192) (k : ℕ) :
    scF (aQ m c) (aK m c) b H p k < ⊤ := by
  unfold scF
  split
  · exact lt_top_iff_ne_top.2 (sum_real _ _ (fun x => (fin_of_pre m hp c b H _ x).2) fun x => (fin_of_pre m hp c b H _ x).1).2
  · exact bot_lt_top

theorem scF_self (hp : Cert.Pre_KernelIdeal_finite m) (c : Dev nD) (b : Fin 2) (H : Fin 8) (p : Fin 8192) :
    scF (aQ m c) (aK m c) b H p p.val ≠ ⊥ := by
  unfold scF
  rw [dif_pos ⟨p.2, le_rfl⟩]
  exact (sum_real _ _ (fun x => (fin_of_pre m hp c b H _ x).2) fun x => (fin_of_pre m hp c b H _ x).1).1

/-- Where the output block is written the tile holds the query block's last key. -/
theorem last_of_flush (t : Fin (cfgA Ideal).N) (h : ((cfgA Ideal).win (3 : Fin 4)).flush t = true) : 1024 * qiN t.val + 1024 ≤ 2048 * kiN t.val + 2048 := by
  have e := (sched (F := Ideal) t).2.1
  rw [h] at e
  exact (which t).2.2.2.2.1 (of_decide_eq_true e.symm)

/-- The output block: the accumulator over the denominator. -/
theorem outV_at (l : Vec Ideal S2x1x1024 .f32) (a : Vec Ideal S128x1024 .f32) (j : Fin 1024) (h : Fin 2) (d : Fin 64) :
    outV l a (ix3 0 j ⟨64 * h.val + d.val, by omega⟩) = Ideal.div (aw a h (ix2 d j)) (sw l h (ix2 0 j)) := by
  have hl : ∀ h : Fin 2, VecWindow.window l (![h.val, 0, 0] : Fin 3 → ℕ) S1x1x1024.size (inbS h) (ix3 0 0 j) = sw l h (ix2 0 j) :=
    fun h => by pointwise [sw]
  have key : outV l a (ix3 0 j ⟨64 * h.val + d.val, by omega⟩) = (if hh : 64 * h.val + d.val < 64 then
      Ideal.div (aw a 0 (ix2 ⟨64 * h.val + d.val, hh⟩ j)) (VecWindow.window l (![0, 0, 0] : Fin 3 → ℕ) S1x1x1024.size (inbS 0) (ix3 0 0 j))
    else Ideal.div (aw a 1 (ix2 ⟨64 * h.val + d.val - 64, by omega⟩ j)) (VecWindow.window l (![1, 0, 0] : Fin 3 → ℕ) S1x1x1024.size (inbS 1) (ix3 0 0 j)) : EReal) := by
    pointwise [outV, k0_pay14]
  refine key.trans ?_
  rcases (by omega : h = 0 ∨ h = 1) with rfl | rfl
  · refine (dif_pos (show 64 * 0 + d.val < 64 by omega)).trans ?_
    refine congrArg₂ Ideal.div ?_ (hl 0)
    refine congrArg (fun d => aw a 0 (ix2 d j)) (Fin.ext ?_)
    show 64 * 0 + d.val = d.val
    omega
  · refine (dif_neg (show ¬ 64 * 1 + d.val < 64 by omega)).trans ?_
    refine congrArg₂ Ideal.div ?_ (hl 1)
    refine congrArg (fun d => aw a 1 (ix2 d j)) (Fin.ext ?_)
    show 64 * 1 + d.val - 64 = d.val
    omega

variable (m' : (ℓ : Loc Cert.ReferenceIdeal.nD Cert.ReferenceIdeal.τ Cert.ReferenceIdeal.sig) → Buf (Elt Ideal) ℓ)

/-- The kernel's output at an element is the reference's. -/
theorem point (hp : Cert.Pre_KernelIdeal_finite m) (c : Dev nD)
    (hQ : m' ((c.tc : Thread Cert.ReferenceIdeal.nD Cert.ReferenceIdeal.τ).loc Cert.ReferenceIdeal.main_arg0) = aQ m c)
    (hK : m' ((c.tc : Thread Cert.ReferenceIdeal.nD Cert.ReferenceIdeal.τ).loc Cert.ReferenceIdeal.main_arg1) = aK m c)
    (hV : m' ((c.tc : Thread Cert.ReferenceIdeal.nD Cert.ReferenceIdeal.τ).loc Cert.ReferenceIdeal.main_arg2) = aV m c)
    (t : Fin (cfgA Ideal).N) (hf : ((cfgA Ideal).win (3 : Fin 4)).flush t = true) (j : Fin 1024) (h : Fin 2) (d : Fin 64)
    (b : Fin 2) (H : Fin 8) (p : Fin 8192) (hb : b.val = t.val / 80) (hH : H.val = 2 * (t.val % 80 / 20) + h.val) (hpj : p.val = 1024 * qiN t.val + j.val) :
    oblk m c t (ix3 0 j ⟨64 * h.val + d.val, by omega⟩)
      = Cert.ReferenceIdeal.Value.res_out0 (F := Ideal) m' c (ix3 b p ⟨64 * H.val + d.val, by omega⟩) := by
  have hi := st_inv m c t.val (lt_of_lt_of_eq t.2 N_eq) h j b H p hb hH hpj (scF_lt m hp c b H p)
  have hl := last_of_flush t hf
  have hn : nk t.val = 1024 * qiN t.val + 1024 := by unfold nk; omega
  rw [hn] at hi
  have hq : qiN t.val < 8 := (order ⟨t.val, lt_of_lt_of_eq t.2 N_eq⟩).1
  have hs : ∀ k : Fin 8192, scF (aQ m c) (aK m c) b H p k.val = Cert.ReferenceIdeal.Att.rsc (aQ m c) (aK m c) b H p k := fun k => by
    unfold scF Cert.ReferenceIdeal.Att.rsc
    by_cases hk : k.val ≤ p.val
    · rw [dif_pos ⟨k.2, hk⟩, if_pos hk]
      exact Finset.sum_congr rfl fun x _ => mul_comm _ _
    · rw [dif_neg fun h => hk h.2, if_neg hk]
  have hv : ∀ k : Fin 8192, valF (aV m c) b H d k.val = aV m c (ix3 b ⟨64 * H.val + d.val, by omega⟩ k) := fun k => by
    unfold valF
    rw [dif_pos k.2]
  have hr := Cert.ReferenceIdeal.Att.res_at m' c (aQ m c) (aK m c) (aV m c) hQ hK hV b H d p _ rfl
  refine (outV_at _ _ j h d).trans (Eq.trans ?_ hr.symm)
  have hsoft := soft hi (N := 8192) (by omega) (scF_lt m hp c b H p) ⟨p.val, by omega, scF_self m hp c b H p⟩
    (fun k hk => by unfold scF; rw [dif_neg (by omega)]) d _ rfl
  refine hsoft.trans ?_
  simp only [hs, hv]

/-- The kernel's result is the reference's. -/
theorem final (hp : Cert.Pre_KernelIdeal_finite m) (c : Dev nD)
    (hQ : m' ((c.tc : Thread Cert.ReferenceIdeal.nD Cert.ReferenceIdeal.τ).loc Cert.ReferenceIdeal.main_arg0) = aQ m c)
    (hK : m' ((c.tc : Thread Cert.ReferenceIdeal.nD Cert.ReferenceIdeal.τ).loc Cert.ReferenceIdeal.main_arg1) = aK m c)
    (hV : m' ((c.tc : Thread Cert.ReferenceIdeal.nD Cert.ReferenceIdeal.τ).loc Cert.ReferenceIdeal.main_arg2) = aV m c) :
    outA m c = Cert.ReferenceIdeal.Value.res_out0 (F := Ideal) m' c := by
  unfold outA
  refine (dats m 0 c).arrAt_eq_of_covers (3 : Fin 4) _ cov fun t hf y => ?_
  rw [after_3]
  obtain ⟨hq, -, hb, hH, -⟩ := order ⟨t.val, lt_of_lt_of_eq t.2 N_eq⟩
  replace hq : qiN t.val < 8 := hq
  replace hb : t.val / 80 < 2 := hb
  replace hH : t.val % 80 / 20 < 4 := hH
  have key : ∀ y : S1x1024x128.Idx, oblk m c t y
      = Cert.ReferenceIdeal.Value.res_out0 (F := Ideal) m' c ((((cfgA Ideal).win (3 : Fin 4)).blk t).view.emb y) := fun y => by
    idx_vars y
    obtain rfl : y0 = 0 := Fin.ext (by omega)
    have e := out_emb t y1 y2 ⟨t.val / 80, hb⟩ ⟨1024 * qiN t.val + y1.val, by omega⟩ ⟨128 * (t.val % 80 / 20) + y2.val, by omega⟩ rfl rfl rfl
    refine Eq.trans ?_ (congrArg (Cert.ReferenceIdeal.Value.res_out0 (F := Ideal) m' c) e).symm
    have hp' := point m m' hp c hQ hK hV t hf y1 ⟨y2.val / 64, by omega⟩ ⟨y2.val % 64, Nat.mod_lt _ (by norm_num)⟩
      ⟨t.val / 80, hb⟩ ⟨2 * (t.val % 80 / 20) + y2.val / 64, by omega⟩ ⟨1024 * qiN t.val + y1.val, by omega⟩ rfl rfl rfl
    have e1 : (⟨64 * (y2.val / 64) + y2.val % 64, by omega⟩ : Fin 128) = y2 := Fin.ext (Nat.div_add_mod _ _)
    have e2 : (⟨64 * (2 * (t.val % 80 / 20) + y2.val / 64) + y2.val % 64, by omega⟩ : Fin 512) = ⟨128 * (t.val % 80 / 20) + y2.val, by omega⟩ :=
      Fin.ext (by show 64 * (2 * (t.val % 80 / 20) + y2.val / 64) + y2.val % 64 = 128 * (t.val % 80 / 20) + y2.val; omega)
    exact ((congrArg (fun r => oblk m c t (ix3 0 y1 r)) e1).symm.trans hp').trans
      (congrArg (fun r => Cert.ReferenceIdeal.Value.res_out0 (F := Ideal) m' c (ix3 ⟨t.val / 80, hb⟩ ⟨1024 * qiN t.val + y1.val, by omega⟩ r)) e2)
  blk_simp
  exact key y

end Cert.KernelIdeal.Att

end
-- ==== Proof.Sigmoid.lean ====
module

public import Idealize.ShloMosaic.PureOps.Ideal

/-! The logistic function and its product with the argument over the extended reals, from the hyperbolic tangent of the half. -/

@[expose] public section

noncomputable section

namespace Cert.Gate

open Idealize.ShloMosaic

/-- One over one plus the exponential of the negated argument. -/
def sg (x : EReal) : EReal := Ideal.div 1 (1 + Ideal.exp (-x))

/-- One half, as the float word that the kernel has for it. -/
def hf : EReal := Ideal.ofBits FTy.f32 0x3F000000#32

theorem hf_eq : hf = ((1 / 2 : ℝ) : EReal) := by
  unfold hf
  simp [Ideal.ofBits, Ideal.ieee, -EReal.coe_mul]
  norm_num

/-- On the reals: half the hyperbolic tangent of the half, plus one half, is the logistic function. -/
theorem real_sig (r : ℝ) : 1 / 2 * Real.tanh (1 / 2 * r) + 1 / 2 = 1 / (1 + Real.exp (-r)) := by
  rw [Real.tanh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [h1]
  generalize hb : Real.exp (-(1 / 2 * r)) = b at *
  generalize ha : Real.exp (1 / 2 * r) = a at *
  have pa : 0 < a := ha ▸ Real.exp_pos _
  have pb : 0 < b := hb ▸ Real.exp_pos _
  have p : a + b ≠ 0 := by positivity
  have q : 1 + b * b ≠ 0 := by positivity
  field_simp
  nlinarith

/-- The logistic function at a real. -/
theorem sg_coe (r : ℝ) : sg (r : EReal) = ((1 / (1 + Real.exp (-r)) : ℝ) : EReal) := by
  unfold sg
  rw [← EReal.coe_neg, Ideal.exp_coe, ← EReal.coe_one, ← EReal.coe_add, Ideal.div_coe (by positivity)]
  rw [← EReal.coe_mul, one_mul]

/-- The hyperbolic tangent of the half gives the logistic function, at the infinities too. -/
theorem sg_eq (x : EReal) : hf * Ideal.tanh (hf * x) + hf = sg x := by
  rw [hf_eq]
  induction x using EReal.rec with
  | bot =>
    rw [EReal.coe_mul_bot_of_pos (by norm_num), Ideal.tanh_bot]
    unfold sg
    rw [EReal.neg_bot, Ideal.exp_top, EReal.add_top_of_ne_bot (by rw [← EReal.coe_one]; exact EReal.coe_ne_bot 1), show (-1 : EReal) = ((-1 : ℝ) : EReal) by norm_num,
      ← EReal.coe_mul, ← EReal.coe_add]
    simp [Ideal.div]
  | top =>
    rw [EReal.coe_mul_top_of_pos (by norm_num), Ideal.tanh_top]
    unfold sg
    rw [EReal.neg_top, Ideal.exp_bot, add_zero, mul_one, ← EReal.coe_add, ← EReal.coe_one, Ideal.div_coe one_ne_zero, ← EReal.coe_mul]
    norm_num
  | coe r =>
    rw [sg_coe, ← real_sig r, ← EReal.coe_mul, Ideal.tanh_coe, ← EReal.coe_mul, ← EReal.coe_add]

/-- Likewise the argument times the logistic function, at a real. -/
theorem silu_eq (r : ℝ) : hf * (r : EReal) * Ideal.tanh (hf * (r : EReal)) + hf * (r : EReal) = (r : EReal) * sg r := by
  rw [hf_eq, sg_coe, ← real_sig r, ← EReal.coe_mul, Ideal.tanh_coe, ← EReal.coe_mul, ← EReal.coe_mul, ← EReal.coe_add]
  congr 1
  ring

end Cert.Gate

end
-- ==== Proof.OutSpec.lean ====
module

public import proofs.«01_k».proof.Proof.Sigmoid

/-! The output block of one token over the extended reals: the mLSTM's heads under their output gate and normalised, the
attention's output, both under their SiLU branch, the projection of the two, the residual and the layer norm. -/

@[expose] public section

noncomputable section

namespace Cert.Gate

open Idealize.ShloMosaic

/-- The length of a head. -/
def c128 : EReal := Ideal.ofBits FTy.f32 0x43000000#32
/-- The width of the model. -/
def c1024 : EReal := Ideal.ofBits FTy.f32 0x44800000#32
/-- The norms' small constant. -/
def eps : EReal := Ideal.ofBits FTy.f32 0x358637BD#32
/-- The residual's factor. -/
def alpha : EReal := Ideal.ofBits FTy.f32 0x3F9837F0#32

/-- A mean of `n` numbers, `N` the number `n`. -/
def mean {n : ℕ} (N : EReal) (f : Fin n → EReal) : EReal := Ideal.div (∑ x, f x) N

/-- A number without its mean, over the root of the variance. -/
def nrm {n : ℕ} (N : EReal) (f : Fin n → EReal) (x : Fin n) : EReal :=
  (f x - mean N f) * Ideal.rsqrt (mean N (fun y => (f y - mean N f) * (f y - mean N f)) + eps)

/-- The mLSTM's output under its output gate. -/
def gated (hl mo : Fin 512 → EReal) (j : Fin 512) : EReal := hl j * sg (mo j)

/-- Head `h` of a token's 512 numbers. -/
def head (f : Fin 512 → EReal) (h : Fin 4) (d : Fin 128) : EReal := f ⟨h.val * 128 + d.val, by omega⟩

/-- The mLSTM's half of the projection's input: every head normalised, under its weight and the SiLU branch. -/
def yml (t gn mz : Fin 512 → EReal) (h : Fin 4) (d : Fin 128) : EReal :=
  nrm c128 (head t h) d * head gn h d * (head mz h d * sg (head mz h d))

/-- The same by its place among the 512. -/
def ymlAt (t gn mz : Fin 512 → EReal) (j : Fin 512) : EReal := yml t gn mz ⟨j.val / 128, by omega⟩ ⟨j.val % 128, Nat.mod_lt _ (by norm_num)⟩

/-- The attention's half. -/
def yat (o az : Fin 512 → EReal) (j : Fin 512) : EReal := o j * (az j * sg (az j))

/-- The residual plus the gated projection. -/
def resid (x g : Fin 1024 → EReal) (w : Fin 1024 → Fin 1024 → EReal) (a b : Fin 512 → EReal) (n : Fin 1024) : EReal :=
  alpha * x n + g n * (∑ j : Fin 512, a j * w ⟨j.val, by omega⟩ n + ∑ j : Fin 512, b j * w ⟨512 + j.val, by omega⟩ n)

/-- The layer norm. -/
def lnorm (z lg lb : Fin 1024 → EReal) (n : Fin 1024) : EReal := nrm c1024 z n * lg n + lb n

end Cert.Gate

end
-- ==== Proof.OutKer.lean ====
module

public import proofs.«01_k».proof.Proof.Gen.Kernel2Ideal.Frame
public import proofs.«01_k».proof.Proof.OutSpec
public import Idealize.ShloMosaic.Init
public import Idealize.ShloMosaic.Lib.Pointwise
public meta import Idealize.ShloMosaic.Lib.Tactic
public import Idealize.ShloMosaic.Lib.Tactic

/-! What the output block's kernel computes of one tile of 512 tokens, over the extended reals, read at an element. -/

@[expose] public section

set_option maxRecDepth 16384
set_option Elab.async false

noncomputable section

namespace Cert.Kernel2Ideal.Out

open Cert.Kernel2Ideal Cert.Kernel2Ideal.Gen
open Idealize.ShloMosaic Idealize.ShloMosaic.TcCoe Idealize.SL.Sem
open Cert.Gate

/-- The mLSTM's output under its gate. -/
theorem pay2_at (v0 v2 : FVec Ideal S512x512 .bf16) (r j : Fin 512) :
    k0_pay2 (F := Ideal) v0 v2 (ix2 r j) = gated (fun j => v0 (ix2 r j)) (fun j => v2 (ix2 r j)) j := by
  unfold gated
  rw [← sg_eq]
  unfold hf
  pointwise [k0_pay2]

/-- Head 0, normalised. -/
theorem pay3_at (v0 v2 : FVec Ideal S512x512 .bf16) (r : Fin 512) (d : Fin 128) :
    k0_pay3 (F := Ideal) v0 v2 (ix2 r d) = nrm c128 (head (fun j => k0_pay2 (F := Ideal) v0 v2 (ix2 r j)) 0) d := by
  unfold nrm mean head c128 eps
  pointwise [k0_pay3]

/-- Head 1 without its mean. -/
theorem pay4_at (v0 v2 : FVec Ideal S512x512 .bf16) (r : Fin 512) (d : Fin 128) :
    k0_pay4 (F := Ideal) v0 v2 (ix2 r d) = head (fun j => k0_pay2 (F := Ideal) v0 v2 (ix2 r j)) 1 d
      - mean c128 (head (fun j => k0_pay2 (F := Ideal) v0 v2 (ix2 r j)) 1) := by
  unfold mean head c128
  pointwise [k0_pay4]

/-- Head 1's variance. -/
theorem pay5_at (v0 v2 : FVec Ideal S512x512 .bf16) (r : Fin 512) :
    k0_pay5 (F := Ideal) v0 v2 (ix2 r 0) = mean c128 fun d => k0_pay4 (F := Ideal) v0 v2 (ix2 r d) * k0_pay4 (F := Ideal) v0 v2 (ix2 r d) := by
  unfold mean c128
  pointwise [k0_pay5]

/-- The heads, each normalised, under their weight. -/
theorem pay8_at (v11 : FVec Ideal S512x512 .f32) (v28 v35 : FVec Ideal S512x128 .f32) (v40 : FVec Ideal S512x1 .f32) (v83 : FVec Ideal S1x512 .f32) (r j : Fin 512) :
    k0_pay8 (F := Ideal) v11 v28 v35 v40 (k0_pay6 (F := Ideal)) v83 (ix2 r j) =
      (if h0 : j.val < 128 then v28 (ix2 r ⟨j.val, h0⟩)
        else if h1 : j.val - 128 < 128 then v35 (ix2 r ⟨j.val - 128, h1⟩) * Ideal.rsqrt (v40 (ix2 r 0) + eps)
        else if h2 : j.val - 128 - 128 < 128 then nrm c128 (head (fun j => v11 (ix2 r j)) 2) ⟨j.val - 128 - 128, h2⟩
        else nrm c128 (head (fun j => v11 (ix2 r j)) 3) ⟨j.val - 128 - 128 - 128, by omega⟩) * v83 (ix2 0 j) := by
  unfold nrm mean head c128 eps
  pointwise [k0_pay8, k0_pay6]

/-- The residual plus the gated projection, without its mean. -/
theorem pay9_at (v81 v86 : FVec Ideal S512x512 .f32) (v93 v95 : FVec Ideal S512x512 .bf16) (v104 v108 : FVec Ideal S512x1024 .bf16)
    (v112 : FVec Ideal S1x512x1024 .f32) (v115 : FVec Ideal S1x1x1024 .f32) (r : Fin 512) (n : Fin 1024) (z : Fin 1024 → EReal)
    (hz : ∀ n, z n = alpha * v112 (ix3 0 r n) + v115 (ix3 0 0 n) *
      (∑ j : Fin 512, v86 (ix2 r j) * (hf * v81 (ix2 r j) * Ideal.tanh (hf * v81 (ix2 r j)) + hf * v81 (ix2 r j)) * v104 (ix2 j n)
        + ∑ j : Fin 512, v93 (ix2 r j) * (hf * v95 (ix2 r j) * Ideal.tanh (hf * v95 (ix2 r j)) + hf * v95 (ix2 r j)) * v108 (ix2 j n))) :
    k0_pay9 (F := Ideal) v81 v86 (Scalar.ofBits .f32 0x3F000000#32) v93 v95 v104 v108 v112 v115 (ix3 0 r n) = z n - mean c1024 z := by
  unfold mean c1024
  simp only [hz]
  unfold alpha hf
  pointwise [k0_pay9]

/-- The layer norm. -/
theorem pay1_at (v125 : FVec Ideal S1x512x1024 .f32) (v136 v141 : FVec Ideal S1x1024 .f32) (r : Fin 512) (n : Fin 1024) :
    k0_pay1 (F := Ideal) v125 (mulf v125 v125) v136 v141 (ix3 0 r n) =
      v125 (ix3 0 r n) * Ideal.rsqrt (mean c1024 (fun n => v125 (ix3 0 r n) * v125 (ix3 0 r n)) + eps) * v136 (ix2 0 n) + v141 (ix2 0 n) := by
  unfold mean c1024 eps
  pointwise [k0_pay1]

/-- A head of the gated output, normalised, under its weight. -/
theorem heads_at (v0 v2 : FVec Ideal S512x512 .bf16) (v83 : FVec Ideal S1x512 .f32) (r : Fin 512) (h : Fin 4) (d : Fin 128) :
    k0_pay8 (F := Ideal) (k0_pay2 v0 v2) (k0_pay3 v0 v2) (k0_pay4 v0 v2) (k0_pay5 v0 v2) k0_pay6 v83 (ix2 r ⟨h.val * 128 + d.val, by omega⟩) =
      nrm c128 (head (gated (fun j => v0 (ix2 r j)) fun j => v2 (ix2 r j)) h) d * v83 (ix2 0 ⟨h.val * 128 + d.val, by omega⟩) := by
  have hT : (fun j => k0_pay2 (F := Ideal) v0 v2 (ix2 r j)) = gated (fun j => v0 (ix2 r j)) fun j => v2 (ix2 r j) := funext fun j => pay2_at v0 v2 r j
  rw [pay8_at]
  refine congrArg (· * v83 (ix2 0 ⟨h.val * 128 + d.val, by omega⟩)) ?_
  simp only [pay3_at, pay4_at, pay5_at, hT]
  rcases (by omega : h = 0 ∨ h = 1 ∨ h = 2 ∨ h = 3) with rfl | rfl | rfl | rfl
  · refine (dif_pos (show 0 * 128 + d.val < 128 by omega)).trans ?_
    exact congrArg (nrm c128 _) (Fin.ext (by show 0 * 128 + d.val = d.val; omega))
  · refine (dif_neg (show ¬ 1 * 128 + d.val < 128 by omega)).trans ((dif_pos (show 1 * 128 + d.val - 128 < 128 by omega)).trans ?_)
    exact congrArg (nrm c128 _) (Fin.ext (by show 1 * 128 + d.val - 128 = d.val; omega))
  · refine (dif_neg (show ¬ 2 * 128 + d.val < 128 by omega)).trans ((dif_neg (show ¬ 2 * 128 + d.val - 128 < 128 by omega)).trans
      ((dif_pos (show 2 * 128 + d.val - 128 - 128 < 128 by omega)).trans ?_))
    exact congrArg (nrm c128 _) (Fin.ext (by show 2 * 128 + d.val - 128 - 128 = d.val; omega))
  · refine (dif_neg (show ¬ 3 * 128 + d.val < 128 by omega)).trans ((dif_neg (show ¬ 3 * 128 + d.val - 128 < 128 by omega)).trans
      ((dif_neg (show ¬ 3 * 128 + d.val - 128 - 128 < 128 by omega)).trans ?_))
    exact congrArg (nrm c128 _) (Fin.ext (by show 3 * 128 + d.val - 128 - 128 - 128 = d.val; omega))

/-- The kernel's SiLU of a real is the number times its logistic. -/
theorem silu_of (x : EReal) (h : x ≠ ⊥ ∧ x ≠ ⊤) : hf * x * Ideal.tanh (hf * x) + hf * x = x * sg x := by
  have e := silu_eq x.toReal
  rw [EReal.coe_toReal h.2 h.1] at e
  exact e

/-- A tile's element is the layer norm of the residual plus the gated projection. -/
theorem tile_at (v81 v86 : FVec Ideal S512x512 .f32) (v93 v95 : FVec Ideal S512x512 .bf16) (v104 v108 : FVec Ideal S512x1024 .bf16)
    (v112 : FVec Ideal S1x512x1024 .f32) (v115 : FVec Ideal S1x1x1024 .f32) (v136 v141 : FVec Ideal S1x1024 .f32) (r : Fin 512) (n : Fin 1024)
    (w : Fin 1024 → Fin 1024 → EReal) (hw0 : ∀ j n, v104 (ix2 j n) = w ⟨j.val, by omega⟩ n) (hw1 : ∀ j n, v108 (ix2 j n) = w ⟨512 + j.val, by omega⟩ n)
    (hm : ∀ j, v81 (ix2 r j) ≠ ⊥ ∧ v81 (ix2 r j) ≠ ⊤) (ha : ∀ j, (v95 (ix2 r j) : EReal) ≠ ⊥ ∧ (v95 (ix2 r j) : EReal) ≠ ⊤) :
    k0_pay1 (F := Ideal) (k0_pay9 v81 v86 (Scalar.ofBits .f32 0x3F000000#32) v93 v95 v104 v108 v112 v115)
      (k0_pay10 v81 v86 (Scalar.ofBits .f32 0x3F000000#32) v93 v95 v104 v108 v112 v115) v136 v141 (ix3 0 r n) =
      lnorm (resid (fun n => v112 (ix3 0 r n)) (fun n => v115 (ix3 0 0 n)) w
        (fun j => v86 (ix2 r j) * (v81 (ix2 r j) * sg (v81 (ix2 r j)))) (yat (fun j => v93 (ix2 r j)) fun j => v95 (ix2 r j)))
        (fun n => v136 (ix2 0 n)) (fun n => v141 (ix2 0 n)) n := by
  refine (pay1_at _ v136 v141 r n).trans ?_
  have hz := fun n => pay9_at v81 v86 v93 v95 v104 v108 v112 v115 r n
    (resid (fun n => v112 (ix3 0 r n)) (fun n => v115 (ix3 0 0 n)) w
        (fun j => v86 (ix2 r j) * (v81 (ix2 r j) * sg (v81 (ix2 r j)))) (yat (fun j => v93 (ix2 r j)) fun j => v95 (ix2 r j)))
    (fun n => by
      unfold resid yat
      refine congrArg (fun s => alpha * v112 (ix3 0 r n) + v115 (ix3 0 0 n) * s) (congrArg₂ (· + ·) ?_ ?_)
      · exact Finset.sum_congr rfl fun j _ => by rw [silu_of _ (hm j), hw0]
      · exact Finset.sum_congr rfl fun j _ => by rw [silu_of _ (ha j), hw1])
  simp only [hz]
  rfl

end Cert.Kernel2Ideal.Out

end
-- ==== Proof.OutRef.lean ====
module

public import proofs.«01_k».proof.Proof.Gen.Reference2Ideal.Run
public import proofs.«01_k».proof.Proof.OutSpec
public import Idealize.ShloMosaic.Init
public import Idealize.ShloMosaic.Lib.Pointwise
public meta import Idealize.ShloMosaic.Lib.Tactic
public import Idealize.ShloMosaic.Lib.Tactic

/-! The output block's reference over the extended reals, read at an element. -/

@[expose] public section

set_option maxRecDepth 16384
set_option Elab.async false

noncomputable section

namespace Cert.Reference2Ideal.Out

open Cert.Reference2Ideal Cert.Reference2Ideal.Gen
open Idealize.ShloMosaic Idealize.ShloMosaic.TcCoe Idealize.SL.Sem
open Cert.Gate

/-- The logistic function of an array. -/
def rG (M : FVec Ideal S16384x512 .bf16) : FVec Ideal S16384x512 .f32 :=
  Host.divf (broadcastInDim S16384x512 ![] bcast_S_S16384x512 (constant S_ .f32 0x3F800000#32))
    (addf (broadcastInDim S16384x512 ![] bcast_S_S16384x512 (constant S_ .f32 0x3F800000#32)) (Host.exp (Host.negf (extf .f32 M bitsLt_bf16_f32))))
/-- The mLSTM's output under its gate, head by head. -/
def rT (H M : FVec Ideal S16384x512 .bf16) : FVec Ideal S2x8192x4x128 .f32 :=
  mulf (shapeCast _ (extf .f32 H bitsLt_bf16_f32) shapeCasts_S16384x512_S2x8192x4x128) (shapeCast _ (rG M) shapeCasts_S16384x512_S2x8192x4x128)
/-- A head's mean. -/
def rU (T : FVec Ideal S2x8192x4x128 .f32) : FVec Ideal S2x8192x4x1 .f32 :=
  Host.divf (broadcastInDim S2x8192x4x1 ![0, 1, 2] bcast_S2x8192x4_S2x8192x4x1_0_1_2 (Host.reduceAdd T (constant S_ .f32 0x00000000#32) reducesTo_S2x8192x4x128_S2x8192x4_d3 h_S_))
    (broadcastInDim S2x8192x4x1 ![] bcast_S_S2x8192x4x1 (constant S_ .f32 0x43000000#32))
/-- A head without its mean. -/
def rC (T : FVec Ideal S2x8192x4x128 .f32) : FVec Ideal S2x8192x4x128 .f32 :=
  subf T (broadcastInDim S2x8192x4x128 ![0, 1, 2, 3] bcast_S2x8192x4x1_S2x8192x4x128_0_1_2_3 (rU T))
/-- The normalised heads. -/
def rN (T : FVec Ideal S2x8192x4x128 .f32) : FVec Ideal S2x8192x4x128 .f32 :=
  mulf (rC T) (broadcastInDim S2x8192x4x128 ![0, 1, 2, 3] bcast_S2x8192x4x1_S2x8192x4x128_0_1_2_3
    (Host.rsqrt (addf (rU (mulf (rC T) (rC T))) (broadcastInDim S2x8192x4x1 ![] bcast_S_S2x8192x4x1 (constant S_ .f32 0x358637BD#32)))))
/-- The mLSTM's half of the projection's input. -/
def rA (N : FVec Ideal S2x8192x4x128 .f32) (G : FVec Ideal S512 .f32) (Z : FVec Ideal S16384x512 .bf16) : FVec Ideal S2x8192x512 .f32 :=
  mulf (mulf (shapeCast _ N shapeCasts_S2x8192x4x128_S2x8192x512)
      (broadcastInDim S2x8192x512 ![0, 1, 2] bcast_S1x1x512_S2x8192x512_0_1_2 (broadcastInDim S1x1x512 ![2] bcast_S512_S1x1x512_2 G)))
    (shapeCast _ (mulf (extf .f32 Z bitsLt_bf16_f32) (rG Z)) shapeCasts_S16384x512_S2x8192x512)
/-- The attention's half. -/
def rB (O Z : FVec Ideal S16384x512 .bf16) : FVec Ideal S2x8192x512 .f32 :=
  mulf (shapeCast _ (extf .f32 O bitsLt_bf16_f32) shapeCasts_S16384x512_S2x8192x512)
    (shapeCast _ (mulf (extf .f32 Z bitsLt_bf16_f32) (rG Z)) shapeCasts_S16384x512_S2x8192x512)
/-- The residual plus the gated projection. -/
def rZ (X : FVec Ideal S2x8192x1024 .f32) (M : FVec Ideal S2x1x3072 .f32) (W : FVec Ideal S1024x1024 .f32) (A B : FVec Ideal S2x8192x512 .f32) :
    FVec Ideal S2x8192x1024 .f32 :=
  addf (mulf (broadcastInDim S2x8192x1024 ![] bcast_S_S2x8192x1024 (constant S_ .f32 0x3F9837F0#32)) X)
    (mulf (broadcastInDim S2x8192x1024 ![0, 1, 2] bcast_S2x1x1024_S2x8192x1024_0_1_2 (extractStridedSlice S2x1x1024 ![0, 0, 2048] M slices_S2x1x3072_S2x1x1024_0_0_2048))
      (Host.dotGeneral dot_S2x8192x1024_S1024x1024_S2x8192x1024_2_0_01_1_n_n none
        (concatenate S2x8192x1024 2 [⟨S2x8192x512, A⟩, ⟨S2x8192x512, B⟩] concatenates_S2x8192x512_S2x8192x512_S2x8192x1024_d2) W))
/-- A token's mean. -/
def rV (Z : FVec Ideal S2x8192x1024 .f32) : FVec Ideal S2x8192x1 .f32 :=
  Host.divf (broadcastInDim S2x8192x1 ![0, 1] bcast_S2x8192_S2x8192x1_0_1 (Host.reduceAdd Z (constant S_ .f32 0x00000000#32) reducesTo_S2x8192x1024_S2x8192_d2 h_S_))
    (broadcastInDim S2x8192x1 ![] bcast_S_S2x8192x1 (constant S_ .f32 0x44800000#32))
/-- A token without its mean. -/
def rD (Z : FVec Ideal S2x8192x1024 .f32) : FVec Ideal S2x8192x1024 .f32 :=
  subf Z (broadcastInDim S2x8192x1024 ![0, 1, 2] bcast_S2x8192x1_S2x8192x1024_0_1_2 (rV Z))
/-- The layer norm. -/
def rY (Z : FVec Ideal S2x8192x1024 .f32) (G B : FVec Ideal S1024 .f32) : FVec Ideal S2x8192x1024 .f32 :=
  addf (mulf (mulf (rD Z) (broadcastInDim S2x8192x1024 ![0, 1, 2] bcast_S2x8192x1_S2x8192x1024_0_1_2
      (Host.rsqrt (addf (rV (mulf (rD Z) (rD Z))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G)))
    (broadcastInDim S2x8192x1024 ![0, 1, 2] bcast_S1x1x1024_S2x8192x1024_0_1_2 (broadcastInDim S1x1x1024 ![2] bcast_S1024_S1x1x1024_2 B))

/-- The reference's result is these steps one after another. -/
theorem res_eq (m : (ℓ : Loc nD τ sig) → Buf (Elt Ideal) ℓ) (c : Dev nD) :
    Value.res_out0 (F := Ideal) m c = rY (rZ (m ((c.tc : Thread nD τ).loc main_arg0)) (m ((c.tc : Thread nD τ).loc main_arg1)) (m ((c.tc : Thread nD τ).loc main_arg9))
      (rA (rN (rT (m ((c.tc : Thread nD τ).loc main_arg2)) (m ((c.tc : Thread nD τ).loc main_arg3)))) (m ((c.tc : Thread nD τ).loc main_arg8)) (m ((c.tc : Thread nD τ).loc main_arg4)))
      (rB (m ((c.tc : Thread nD τ).loc main_arg5)) (m ((c.tc : Thread nD τ).loc main_arg6))))
      (m ((c.tc : Thread nD τ).loc main_arg10)) (m ((c.tc : Thread nD τ).loc main_arg11)) := by
  unfold Value.res_out0 Value.res_main_v76 rY rD rV rZ rA rB rN rC rU rT rG
  rfl

/-- Token `s` of sequence `b` among all tokens. -/
def tok (b : Fin 2) (s : Fin 8192) : Fin 16384 := ⟨b.val * 8192 + s.val, by omega⟩

/-- The logistic at an element. -/
theorem rG_at (M : FVec Ideal S16384x512 .bf16) (n : Fin 16384) (j : Fin 512) : rG M (ix2 n j) = sg (M (ix2 n j)) := by
  pointwise [rG, sg]

/-- The gated heads. -/
theorem rT_at (H M : FVec Ideal S16384x512 .bf16) (b : Fin 2) (s : Fin 8192) (h : Fin 4) (d : Fin 128) :
    rT H M (ix4 b s h d) = head (gated (fun j => H (ix2 (tok b s) j)) fun j => M (ix2 (tok b s) j)) h d := by
  pointwise [rT]
  rw [rG_at]
  rfl

/-- A head's mean. -/
theorem rU_at (T : FVec Ideal S2x8192x4x128 .f32) (b : Fin 2) (s : Fin 8192) (h : Fin 4) (d : Fin 1) :
    rU T (ix4 b s h d) = mean c128 fun d => T (ix4 b s h d) := by
  pointwise [rU, mean, c128]

/-- A head without its mean. -/
theorem rC_at (T : FVec Ideal S2x8192x4x128 .f32) (b : Fin 2) (s : Fin 8192) (h : Fin 4) (d : Fin 128) :
    rC T (ix4 b s h d) = T (ix4 b s h d) - mean c128 fun d => T (ix4 b s h d) := by
  pointwise [rC]
  rw [rU_at]

/-- A normalised head. -/
theorem rN_at (T : FVec Ideal S2x8192x4x128 .f32) (b : Fin 2) (s : Fin 8192) (h : Fin 4) (d : Fin 128) :
    rN T (ix4 b s h d) = nrm c128 (fun d => T (ix4 b s h d)) d := by
  unfold nrm
  pointwise [rN]
  simp only [rU_at, rC_at]
  simp only [mulf_apply, rC_at]
  rfl

/-- The mLSTM's half from the normalised heads. -/
theorem rA_at (N : FVec Ideal S2x8192x4x128 .f32) (G : FVec Ideal S512 .f32) (Z : FVec Ideal S16384x512 .bf16) (b : Fin 2) (s : Fin 8192) (j : Fin 512) :
    rA N G Z (ix3 b s j) = N (ix4 b s ⟨j.val / 128, by omega⟩ ⟨j.val % 128, Nat.mod_lt _ (by norm_num)⟩) * G (ix1 j)
      * (Z (ix2 (tok b s) j) * sg (Z (ix2 (tok b s) j))) := by
  pointwise [rA]
  simp only [rG_at]
  rfl

/-- The attention's half. -/
theorem rB_at (O Z : FVec Ideal S16384x512 .bf16) (b : Fin 2) (s : Fin 8192) (j : Fin 512) :
    rB O Z (ix3 b s j) = yat (fun j => O (ix2 (tok b s) j)) (fun j => Z (ix2 (tok b s) j)) j := by
  pointwise [rB]
  simp only [rG_at]
  rfl

/-- The residual plus the gated projection. -/
theorem rZ_at (X : FVec Ideal S2x8192x1024 .f32) (M : FVec Ideal S2x1x3072 .f32) (W : FVec Ideal S1024x1024 .f32) (A B : FVec Ideal S2x8192x512 .f32)
    (b : Fin 2) (s : Fin 8192) (n : Fin 1024) :
    rZ X M W A B (ix3 b s n) = resid (fun n => X (ix3 b s n)) (fun n => M (ix3 b 0 ⟨2048 + n.val, by omega⟩)) (fun k n => W (ix2 k n))
      (fun j => A (ix3 b s j)) (fun j => B (ix3 b s j)) n := by
  unfold resid alpha
  pointwise [rZ]

/-- A token's mean. -/
theorem rV_at (Z : FVec Ideal S2x8192x1024 .f32) (b : Fin 2) (s : Fin 8192) (d : Fin 1) : rV Z (ix3 b s d) = mean c1024 fun n => Z (ix3 b s n) := by
  pointwise [rV, mean, c1024]

/-- A token without its mean. -/
theorem rD_at (Z : FVec Ideal S2x8192x1024 .f32) (b : Fin 2) (s : Fin 8192) (n : Fin 1024) :
    rD Z (ix3 b s n) = Z (ix3 b s n) - mean c1024 fun n => Z (ix3 b s n) := by
  pointwise [rD]
  rw [rV_at]

/-- The layer norm. -/
theorem rY_at (Z : FVec Ideal S2x8192x1024 .f32) (G B : FVec Ideal S1024 .f32) (b : Fin 2) (s : Fin 8192) (n : Fin 1024) :
    rY Z G B (ix3 b s n) = lnorm (fun n => Z (ix3 b s n)) (fun n => G (ix1 n)) (fun n => B (ix1 n)) n := by
  unfold lnorm nrm
  pointwise [rY]
  simp only [rV_at, rD_at]
  simp only [mulf_apply, rD_at]
  rfl

/-- The mLSTM's half at an element. -/
theorem rA_all (H M : FVec Ideal S16384x512 .bf16) (G : FVec Ideal S512 .f32) (Z : FVec Ideal S16384x512 .bf16) (b : Fin 2) (s : Fin 8192) (j : Fin 512) :
    rA (rN (rT H M)) G Z (ix3 b s j) = ymlAt (gated (fun j => H (ix2 (tok b s) j)) fun j => M (ix2 (tok b s) j)) (fun j => G (ix1 j))
      (fun j => Z (ix2 (tok b s) j)) j := by
  rw [rA_at, rN_at]
  simp only [rT_at]
  unfold ymlAt yml head
  have hj : (⟨j.val / 128 * 128 + j.val % 128, by omega⟩ : Fin 512) = j := Fin.ext (Nat.div_add_mod' _ _)
  rw [hj]

/-- The reference's result at an element. -/
theorem res_at (m : (ℓ : Loc nD τ sig) → Buf (Elt Ideal) ℓ) (c : Dev nD) (X : FVec Ideal S2x8192x1024 .f32) (M : FVec Ideal S2x1x3072 .f32)
    (H O Z A Y : FVec Ideal S16384x512 .bf16) (G : FVec Ideal S512 .f32) (W : FVec Ideal S1024x1024 .f32) (LG LB : FVec Ideal S1024 .f32)
    (h0 : m ((c.tc : Thread nD τ).loc main_arg0) = X) (h1 : m ((c.tc : Thread nD τ).loc main_arg1) = M) (h2 : m ((c.tc : Thread nD τ).loc main_arg2) = H)
    (h3 : m ((c.tc : Thread nD τ).loc main_arg3) = O) (h4 : m ((c.tc : Thread nD τ).loc main_arg4) = Z) (h5 : m ((c.tc : Thread nD τ).loc main_arg5) = A)
    (h6 : m ((c.tc : Thread nD τ).loc main_arg6) = Y) (h8 : m ((c.tc : Thread nD τ).loc main_arg8) = G) (h9 : m ((c.tc : Thread nD τ).loc main_arg9) = W)
    (h10 : m ((c.tc : Thread nD τ).loc main_arg10) = LG) (h11 : m ((c.tc : Thread nD τ).loc main_arg11) = LB) (b : Fin 2) (s : Fin 8192) (n : Fin 1024) :
    Value.res_out0 (F := Ideal) m c (ix3 b s n) =
      lnorm (resid (fun n => X (ix3 b s n)) (fun n => M (ix3 b 0 ⟨2048 + n.val, by omega⟩)) (fun k n => W (ix2 k n))
        (ymlAt (gated (fun j => H (ix2 (tok b s) j)) fun j => O (ix2 (tok b s) j)) (fun j => G (ix1 j)) (fun j => Z (ix2 (tok b s) j)))
        (yat (fun j => A (ix2 (tok b s) j)) (fun j => Y (ix2 (tok b s) j)))) (fun n => LG (ix1 n)) (fun n => LB (ix1 n)) n := by
  refine (congrFun (res_eq m c) (ix3 b s n)).trans ?_
  rw [h0, h1, h2, h3, h4, h5, h6, h8, h9, h10, h11]
  refine (rY_at _ LG LB b s n).trans ?_
  simp only [rZ_at, rA_all, rB_at]

end Cert.Reference2Ideal.Out

end
-- ==== Proof.OutFinal.lean ====
module

public import proofs.«01_k».proof.Proof.OutKer
public import proofs.«01_k».proof.Proof.OutRef
public import proofs.«01_k».proof.Proof.Final
public import proofs.«01_k».proof.Proof.Gen.Kernel2Ideal.Value
public import Idealize.ShloMosaic.Lib.Pipeline.ValueKit
public import Idealize.ShloMosaic.Lib.Pointwise
public meta import Idealize.ShloMosaic.Lib.Tactic
public import Idealize.ShloMosaic.Lib.Tactic

/-! The output block's kernel gives the reference's result, where both SiLU branches are finite. -/

@[expose] public section

set_option maxRecDepth 16384
set_option Elab.async false

noncomputable section

namespace Cert.Kernel2Ideal.Out

open Cert.Kernel2Ideal Cert.Kernel2Ideal.Gen
open Idealize.ShloMosaic Idealize.ShloMosaic.TcCoe Idealize.SL.Sem
open Idealize.ShloMosaic.Pipeline (Dat)
open Cert.Gate

variable (m : (ℓ : Loc nD τ sig) → Buf (Elt Ideal) ℓ)

/-- The side conditions of the finiteness predicate. -/
instance factsF2 : Cert.Pre_finite2.Facts where
  bitsLt_bf16_f32 := by decide
  bcast_S_S16384x512 := by decide

/-- The residual. -/
abbrev aX (c : Dev nD) : FVec Ideal S2x8192x1024 .f32 := m ((c.tc : Thread nD τ).loc main_arg0)
/-- The modulation. -/
abbrev aM (c : Dev nD) : FVec Ideal S2x1x3072 .f32 := m ((c.tc : Thread nD τ).loc main_arg1)
/-- The mLSTM's output. -/
abbrev aH (c : Dev nD) : FVec Ideal S16384x512 .bf16 := m ((c.tc : Thread nD τ).loc main_arg2)
/-- Its output gate. -/
abbrev aO (c : Dev nD) : FVec Ideal S16384x512 .bf16 := m ((c.tc : Thread nD τ).loc main_arg3)
/-- Its SiLU branch. -/
abbrev aZ (c : Dev nD) : FVec Ideal S16384x512 .bf16 := m ((c.tc : Thread nD τ).loc main_arg4)
/-- The attention's output. -/
abbrev aA (c : Dev nD) : FVec Ideal S16384x512 .bf16 := m ((c.tc : Thread nD τ).loc main_arg5)
/-- Its SiLU branch. -/
abbrev aY (c : Dev nD) : FVec Ideal S16384x512 .bf16 := m ((c.tc : Thread nD τ).loc main_arg6)
/-- The heads' weight. -/
abbrev aG (c : Dev nD) : FVec Ideal S512 .f32 := m ((c.tc : Thread nD τ).loc main_arg8)
/-- The projection. -/
abbrev aW (c : Dev nD) : FVec Ideal S1024x1024 .f32 := m ((c.tc : Thread nD τ).loc main_arg9)
/-- The layer norm's weight. -/
abbrev aP (c : Dev nD) : FVec Ideal S1024 .f32 := m ((c.tc : Thread nD τ).loc main_arg10)
/-- The layer norm's bias. -/
abbrev aQ (c : Dev nD) : FVec Ideal S1024 .f32 := m ((c.tc : Thread nD τ).loc main_arg11)

/-- Both SiLU branches are real under the finiteness predicate. -/
theorem fin_of_pre (hp : Cert.Pre_Kernel2Ideal_finite2 m) (c : Dev nD) (n : Fin 16384) (j : Fin 512) :
    ((aZ m c (ix2 n j) : EReal) ≠ ⊥ ∧ (aZ m c (ix2 n j) : EReal) ≠ ⊤) ∧ ((aY m c (ix2 n j) : EReal) ≠ ⊥ ∧ (aY m c (ix2 n j) : EReal) ≠ ⊤) := by
  obtain ⟨h1, h2⟩ := hp c
  replace h1 := congrFun h1 (ix2 n j)
  replace h2 := congrFun h2 (ix2 n j)
  unfold Cert.Pre_finite2.fn at h1 h2
  pointwise at h1
  pointwise at h2
  exact ⟨Cert.KernelIdeal.Att.real_of_lt _ h1, Cert.KernelIdeal.Att.real_of_lt _ h2⟩

/-- Every window's block at every grid point. -/
theorem idx_val : ∀ t : Fin cfg0.N, win0_0.index t = ![t.val / 16, t.val % 16, 0]
    ∧ win0_1.index t = ![t.val / 16, 0, 2]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_9.index t = ![0, 0]
    ∧ win0_10.index t = ![0, 0]
    ∧ win0_11.index t = ![0, 0]
    ∧ win0_12.index t = ![t.val / 16, t.val % 16, 0]
    ∧ t.val < 32 :=
  (by decide +kernel : ∀ t : Fin grid0.N, _)

/-- The sequence of a tile. -/
def seq (t : Fin cfg0.N) : Fin 2 := ⟨t.val / 16, by have := (idx_val t).2.2.2.2.2.2.2.2.2.2.2.2; omega⟩
/-- The place of a tile's row in its sequence. -/
def pos (t : Fin cfg0.N) (r : Fin 512) : Fin 8192 := ⟨t.val % 16 * 512 + r.val, by omega⟩

/-- The row of a tile among all tokens. -/
theorem tok_eq (t : Fin cfg0.N) (r : Fin 512) : (Cert.Reference2Ideal.Out.tok (seq t) (pos t r)).val = t.val * 512 + r.val := by
  show t.val / 16 * 8192 + (t.val % 16 * 512 + r.val) = t.val * 512 + r.val
  omega

variable (c : Dev nD) (t : Fin cfg0.N)

/-- Where a tile's element lies in the result. -/
theorem emb_eq (r : Fin 512) (n : Fin 1024) : ((cfg0.win 12).blk t).view.emb (ix3 (0 : Fin 1) r n : S1x512x1024.Idx) = (ix3 (seq t) (pos t r) n : S2x8192x1024.Idx) := by
  unfold seq pos
  blk_ext [idx_val t]

/-- The residual's block. -/
theorem x_at (r : Fin 512) (n : Fin 1024) : (iblk m c 0 t : FVec Ideal S1x512x1024 .f32) (ix3 0 r n) = aX m c (ix3 (seq t) (pos t r) n) := by
  unfold seq pos
  blk_ext! [iblk, V, idx_val t]

/-- The gate's block. -/
theorem gate_at (n : Fin 1024) : (iblk m c 1 t : FVec Ideal S1x1x1024 .f32) (ix3 0 0 n) = aM m c (ix3 (seq t) 0 ⟨2048 + n.val, by omega⟩) := by
  unfold seq
  blk_ext! [iblk, V, idx_val t]

/-- The mLSTM's block. -/
theorem hl_at (r j : Fin 512) : (iblk m c 2 t : FVec Ideal S512x512 .bf16) (ix2 r j) = aH m c (ix2 (Cert.Reference2Ideal.Out.tok (seq t) (pos t r)) j) := by
  have e := tok_eq t r
  blk_ext! [iblk, V, idx_val t]

/-- Its output gate's block. -/
theorem mo_at (r j : Fin 512) : (iblk m c 3 t : FVec Ideal S512x512 .bf16) (ix2 r j) = aO m c (ix2 (Cert.Reference2Ideal.Out.tok (seq t) (pos t r)) j) := by
  have e := tok_eq t r
  blk_ext! [iblk, V, idx_val t]

/-- Its SiLU branch's block. -/
theorem mz_at (r j : Fin 512) : (iblk m c 4 t : FVec Ideal S512x512 .bf16) (ix2 r j) = aZ m c (ix2 (Cert.Reference2Ideal.Out.tok (seq t) (pos t r)) j) := by
  have e := tok_eq t r
  blk_ext! [iblk, V, idx_val t]

/-- The attention's block. -/
theorem o_at (r j : Fin 512) : (iblk m c 5 t : FVec Ideal S512x512 .bf16) (ix2 r j) = aA m c (ix2 (Cert.Reference2Ideal.Out.tok (seq t) (pos t r)) j) := by
  have e := tok_eq t r
  blk_ext! [iblk, V, idx_val t]

/-- Its SiLU branch's block. -/
theorem az_at (r j : Fin 512) : (iblk m c 6 t : FVec Ideal S512x512 .bf16) (ix2 r j) = aY m c (ix2 (Cert.Reference2Ideal.Out.tok (seq t) (pos t r)) j) := by
  have e := tok_eq t r
  blk_ext! [iblk, V, idx_val t]

/-- The heads' weight. -/
theorem gn_at (j : Fin 512) : (iblk m c 7 t : FVec Ideal S1x512 .f32) (ix2 0 j) = aG m c (ix1 j) := by
  blk_simp [iblk, idx_val t]
  entry_read
  pointwise
  blk_ext [idx_val t]

/-- The projection. -/
theorem w_at (k n : Fin 1024) : (iblk m c 9 t : FVec Ideal S1024x1024 .bf16) (ix2 k n) = aW m c (ix2 k n) := by
  blk_simp [iblk, idx_val t]
  entry_read
  pointwise
  blk_ext [idx_val t]

/-- Its upper half. -/
theorem w0_at (x : Vec Ideal S1024x1024 .bf16) (j : Fin 512) (n : Fin 1024) : View.ld x r0_2 (ix2 j n : S512x1024.Idx) = x (ix2 ⟨j.val, by omega⟩ n) := by
  refine congrArg x (funext fun a => Fin.ext ?_)
  obtain ⟨a, ha⟩ := a
  rcases (by have : a < 2 := ha; omega : a = 0 ∨ a = 1) with rfl | rfl
  · show 0 + 1 * j.val = _
    simp
  · show 0 + 1 * n.val = _
    simp

/-- Its lower half. -/
theorem w1_at (x : Vec Ideal S1024x1024 .bf16) (j : Fin 512) (n : Fin 1024) : View.ld x r0_3 (ix2 j n : S512x1024.Idx) = x (ix2 ⟨512 + j.val, by omega⟩ n) := by
  refine congrArg x (funext fun a => Fin.ext ?_)
  obtain ⟨a, ha⟩ := a
  rcases (by have : a < 2 := ha; omega : a = 0 ∨ a = 1) with rfl | rfl
  · show 512 + 1 * j.val = _
    simp
  · show 0 + 1 * n.val = _
    simp

/-- The layer norm's weight. -/
theorem p_at (n : Fin 1024) : (iblk m c 10 t : FVec Ideal S1x1024 .f32) (ix2 0 n) = aP m c (ix1 n) := by
  blk_simp [iblk, idx_val t]
  entry_read
  pointwise
  blk_ext [idx_val t]

/-- The layer norm's bias. -/
theorem q_at (n : Fin 1024) : (iblk m c 11 t : FVec Ideal S1x1024 .f32) (ix2 0 n) = aQ m c (ix1 n) := by
  blk_simp [iblk, idx_val t]
  entry_read
  pointwise
  blk_ext [idx_val t]

/-- What a tile's body leaves at an element is the reference's result there. -/
theorem point (hp : Cert.Pre_Kernel2Ideal_finite2 m) (r : Fin 512) (n : Fin 1024) :
    k0_pay1 (F := Ideal) (k0_pay9 (k0_pay7 (iblk m c 4 t)) (k0_pay8 (k0_pay2 (iblk m c 2 t) (iblk m c 3 t)) (k0_pay3 (iblk m c 2 t) (iblk m c 3 t))
        (k0_pay4 (iblk m c 2 t) (iblk m c 3 t)) (k0_pay5 (iblk m c 2 t) (iblk m c 3 t)) k0_pay6 (iblk m c 7 t)) (Scalar.ofBits .f32 0x3F000000#32)
        (iblk m c 5 t) (iblk m c 6 t) (View.ld (iblk m c 9 t) r0_2) (View.ld (iblk m c 9 t) r0_3) (iblk m c 0 t) (iblk m c 1 t))
      (k0_pay10 (k0_pay7 (iblk m c 4 t)) (k0_pay8 (k0_pay2 (iblk m c 2 t) (iblk m c 3 t)) (k0_pay3 (iblk m c 2 t) (iblk m c 3 t))
        (k0_pay4 (iblk m c 2 t) (iblk m c 3 t)) (k0_pay5 (iblk m c 2 t) (iblk m c 3 t)) k0_pay6 (iblk m c 7 t)) (Scalar.ofBits .f32 0x3F000000#32)
        (iblk m c 5 t) (iblk m c 6 t) (View.ld (iblk m c 9 t) r0_2) (View.ld (iblk m c 9 t) r0_3) (iblk m c 0 t) (iblk m c 1 t))
      (iblk m c 10 t) (iblk m c 11 t) (ix3 0 r n) =
    lnorm (resid (fun n => aX m c (ix3 (seq t) (pos t r) n)) (fun n => aM m c (ix3 (seq t) 0 ⟨2048 + n.val, by omega⟩)) (fun k n => aW m c (ix2 k n))
      (ymlAt (gated (fun j => aH m c (ix2 (Cert.Reference2Ideal.Out.tok (seq t) (pos t r)) j)) fun j => aO m c (ix2 (Cert.Reference2Ideal.Out.tok (seq t) (pos t r)) j)) (fun j => aG m c (ix1 j)) (fun j => aZ m c (ix2 (Cert.Reference2Ideal.Out.tok (seq t) (pos t r)) j)))
      (yat (fun j => aA m c (ix2 (Cert.Reference2Ideal.Out.tok (seq t) (pos t r)) j)) (fun j => aY m c (ix2 (Cert.Reference2Ideal.Out.tok (seq t) (pos t r)) j)))) (fun n => aP m c (ix1 n)) (fun n => aQ m c (ix1 n)) n := by
  have h81 : ∀ j, k0_pay7 (F := Ideal) (iblk m c 4 t) (ix2 r j) = aZ m c (ix2 (Cert.Reference2Ideal.Out.tok (seq t) (pos t r)) j) := fun j => mz_at m c t r j
  have h86 : ∀ j : Fin 512, k0_pay8 (F := Ideal) (k0_pay2 (iblk m c 2 t) (iblk m c 3 t)) (k0_pay3 (iblk m c 2 t) (iblk m c 3 t))
        (k0_pay4 (iblk m c 2 t) (iblk m c 3 t)) (k0_pay5 (iblk m c 2 t) (iblk m c 3 t)) k0_pay6 (iblk m c 7 t) (ix2 r j) =
      nrm c128 (head (gated (fun j => aH m c (ix2 (Cert.Reference2Ideal.Out.tok (seq t) (pos t r)) j)) fun j => aO m c (ix2 (Cert.Reference2Ideal.Out.tok (seq t) (pos t r)) j)) ⟨j.val / 128, by omega⟩)
        ⟨j.val % 128, Nat.mod_lt _ (by norm_num)⟩ * aG m c (ix1 j) := fun j => by
    have hj : (⟨j.val / 128 * 128 + j.val % 128, by omega⟩ : Fin 512) = j := Fin.ext (Nat.div_add_mod' _ _)
    have e := heads_at (iblk m c 2 t) (iblk m c 3 t) (iblk m c 7 t) r ⟨j.val / 128, by omega⟩ ⟨j.val % 128, Nat.mod_lt _ (by norm_num)⟩
    rw [hj] at e
    refine e.trans ?_
    rw [gn_at, funext (hl_at m c t r), funext (mo_at m c t r)]
  refine (tile_at _ _ _ _ _ _ _ _ _ _ r n (fun k n => aW m c (ix2 k n)) (fun j n => (w0_at _ j n).trans (w_at m c t _ n)) (fun j n => (w1_at _ j n).trans (w_at m c t _ n))
    (fun j => ?_) (fun j => ?_)).trans ?_
  · rw [h81]
    exact (fin_of_pre m hp c _ j).1
  · rw [az_at]
    exact (fin_of_pre m hp c _ j).2
  simp only [h81, h86]
  rw [funext (x_at m c t r), funext (gate_at m c t), funext (o_at m c t r), funext (az_at m c t r), funext (p_at m c t), funext (q_at m c t)]
  refine congrArg (fun a => lnorm (resid _ _ _ a _) _ _ n) (funext fun j => ?_)
  unfold ymlAt yml head
  have hj : (⟨j.val / 128 * 128 + j.val % 128, by omega⟩ : Fin 512) = j := Fin.ext (Nat.div_add_mod' _ _)
  rw [hj]

/-- The tile's body leaves the reference's result, at every index of its block. -/
theorem all (hp : Cert.Pre_Kernel2Ideal_finite2 m) (m' : (ℓ : Loc Cert.Reference2Ideal.nD Cert.Reference2Ideal.τ Cert.Reference2Ideal.sig) → Buf (Elt Ideal) ℓ) (c : Dev nD)
    (h0 : m' ((c.tc : Thread Cert.Reference2Ideal.nD Cert.Reference2Ideal.τ).loc Cert.Reference2Ideal.main_arg0) = aX m c)
    (h1 : m' ((c.tc : Thread Cert.Reference2Ideal.nD Cert.Reference2Ideal.τ).loc Cert.Reference2Ideal.main_arg1) = aM m c)
    (h2 : m' ((c.tc : Thread Cert.Reference2Ideal.nD Cert.Reference2Ideal.τ).loc Cert.Reference2Ideal.main_arg2) = aH m c)
    (h3 : m' ((c.tc : Thread Cert.Reference2Ideal.nD Cert.Reference2Ideal.τ).loc Cert.Reference2Ideal.main_arg3) = aO m c)
    (h4 : m' ((c.tc : Thread Cert.Reference2Ideal.nD Cert.Reference2Ideal.τ).loc Cert.Reference2Ideal.main_arg4) = aZ m c)
    (h5 : m' ((c.tc : Thread Cert.Reference2Ideal.nD Cert.Reference2Ideal.τ).loc Cert.Reference2Ideal.main_arg5) = aA m c)
    (h6 : m' ((c.tc : Thread Cert.Reference2Ideal.nD Cert.Reference2Ideal.τ).loc Cert.Reference2Ideal.main_arg6) = aY m c)
    (h8 : m' ((c.tc : Thread Cert.Reference2Ideal.nD Cert.Reference2Ideal.τ).loc Cert.Reference2Ideal.main_arg8) = aG m c)
    (h9 : m' ((c.tc : Thread Cert.Reference2Ideal.nD Cert.Reference2Ideal.τ).loc Cert.Reference2Ideal.main_arg9) = aW m c)
    (h10 : m' ((c.tc : Thread Cert.Reference2Ideal.nD Cert.Reference2Ideal.τ).loc Cert.Reference2Ideal.main_arg10) = aP m c)
    (h11 : m' ((c.tc : Thread Cert.Reference2Ideal.nD Cert.Reference2Ideal.τ).loc Cert.Reference2Ideal.main_arg11) = aQ m c) (t : Fin cfg0.N) (y : S1x512x1024.Idx) :
    k0_pay1 (F := Ideal) (k0_pay9 (k0_pay7 (iblk m c 4 t)) (k0_pay8 (k0_pay2 (iblk m c 2 t) (iblk m c 3 t)) (k0_pay3 (iblk m c 2 t) (iblk m c 3 t))
        (k0_pay4 (iblk m c 2 t) (iblk m c 3 t)) (k0_pay5 (iblk m c 2 t) (iblk m c 3 t)) k0_pay6 (iblk m c 7 t)) (Scalar.ofBits .f32 0x3F000000#32)
        (iblk m c 5 t) (iblk m c 6 t) (View.ld (iblk m c 9 t) r0_2) (View.ld (iblk m c 9 t) r0_3) (iblk m c 0 t) (iblk m c 1 t))
      (k0_pay10 (k0_pay7 (iblk m c 4 t)) (k0_pay8 (k0_pay2 (iblk m c 2 t) (iblk m c 3 t)) (k0_pay3 (iblk m c 2 t) (iblk m c 3 t))
        (k0_pay4 (iblk m c 2 t) (iblk m c 3 t)) (k0_pay5 (iblk m c 2 t) (iblk m c 3 t)) k0_pay6 (iblk m c 7 t)) (Scalar.ofBits .f32 0x3F000000#32)
        (iblk m c 5 t) (iblk m c 6 t) (View.ld (iblk m c 9 t) r0_2) (View.ld (iblk m c 9 t) r0_3) (iblk m c 0 t) (iblk m c 1 t))
      (iblk m c 10 t) (iblk m c 11 t) y =
      Cert.Reference2Ideal.Value.res_out0 (F := Ideal) m' c (((cfg0.win 12).blk t).view.emb y) := by
  obtain ⟨a, r, n, rfl⟩ : ∃ (a : Fin 1) (r : Fin 512) (n : Fin 1024), y = (ix3 a r n : S1x512x1024.Idx) := ⟨y 0, y 1, y 2, eq_ix3 (n0 := 1) (n1 := 512) (n2 := 1024) y⟩
  obtain rfl : a = 0 := Subsingleton.elim _ _
  exact ((point m c t hp r n).trans (Cert.Reference2Ideal.Out.res_at m' c (aX m c) (aM m c) (aH m c) (aO m c) (aZ m c) (aA m c) (aY m c) (aG m c)
    (aW m c) (aP m c) (aQ m c) h0 h1 h2 h3 h4 h5 h6 h8 h9 h10 h11 (seq t) (pos t r) n).symm).trans (congrArg (Cert.Reference2Ideal.Value.res_out0 (F := Ideal) m' c) (emb_eq t r n).symm)

/-- The array the kernel writes is the reference's result. -/
theorem final (hp : Cert.Pre_Kernel2Ideal_finite2 m) (m' : (ℓ : Loc Cert.Reference2Ideal.nD Cert.Reference2Ideal.τ Cert.Reference2Ideal.sig) → Buf (Elt Ideal) ℓ) (c : Dev nD)
    (h0 : m' ((c.tc : Thread Cert.Reference2Ideal.nD Cert.Reference2Ideal.τ).loc Cert.Reference2Ideal.main_arg0) = aX m c)
    (h1 : m' ((c.tc : Thread Cert.Reference2Ideal.nD Cert.Reference2Ideal.τ).loc Cert.Reference2Ideal.main_arg1) = aM m c)
    (h2 : m' ((c.tc : Thread Cert.Reference2Ideal.nD Cert.Reference2Ideal.τ).loc Cert.Reference2Ideal.main_arg2) = aH m c)
    (h3 : m' ((c.tc : Thread Cert.Reference2Ideal.nD Cert.Reference2Ideal.τ).loc Cert.Reference2Ideal.main_arg3) = aO m c)
    (h4 : m' ((c.tc : Thread Cert.Reference2Ideal.nD Cert.Reference2Ideal.τ).loc Cert.Reference2Ideal.main_arg4) = aZ m c)
    (h5 : m' ((c.tc : Thread Cert.Reference2Ideal.nD Cert.Reference2Ideal.τ).loc Cert.Reference2Ideal.main_arg5) = aA m c)
    (h6 : m' ((c.tc : Thread Cert.Reference2Ideal.nD Cert.Reference2Ideal.τ).loc Cert.Reference2Ideal.main_arg6) = aY m c)
    (h8 : m' ((c.tc : Thread Cert.Reference2Ideal.nD Cert.Reference2Ideal.τ).loc Cert.Reference2Ideal.main_arg8) = aG m c)
    (h9 : m' ((c.tc : Thread Cert.Reference2Ideal.nD Cert.Reference2Ideal.τ).loc Cert.Reference2Ideal.main_arg9) = aW m c)
    (h10 : m' ((c.tc : Thread Cert.Reference2Ideal.nD Cert.Reference2Ideal.τ).loc Cert.Reference2Ideal.main_arg10) = aP m c)
    (h11 : m' ((c.tc : Thread Cert.Reference2Ideal.nD Cert.Reference2Ideal.τ).loc Cert.Reference2Ideal.main_arg11) = aQ m c) :
    (dats m 0 c).arrAt 12 cfg0.N = Cert.Reference2Ideal.Value.res_out0 (F := Ideal) m' c := by
  refine (dats m 0 c).arrAt_eq_of_covers 12 _ (by decide +kernel) fun t hf y => ?_
  have hy := all m hp m' c h0 h1 h2 h3 h4 h5 h6 h8 h9 h10 h11 t y
  blk_simp
  rw [after0_12]
  unfold_out out0_12
  frame_out
  exact hy

end Cert.Kernel2Ideal.Out

end
-- ==== Proof.SmpSpec.lean ====
module

public import proofs.«01_k».proof.Proof.OutSpec

/-! The value projection of one token of the sample over the extended reals: the plain sum of a head, and the same sum taken
with the weights of two heads side by side and zeros where a head meets the other's numbers. -/

@[expose] public section

noncomputable section

namespace Cert.Gate

open Idealize.ShloMosaic

/-- The value projection: 64 results of each head, from the head's 256 numbers. -/
def vproj (o : Fin 2048 → EReal) (w : Fin 256 → Fin 512 → EReal) (j : Fin 512) : EReal :=
  ∑ k : Fin 256, o ⟨j.val / 64 * 256 + k.val, by omega⟩ * w k j

/-- The weights of two heads side by side: row `k` of pair `p`, column `l` of the pair's 128. -/
def pairw (w : Fin 256 → Fin 512 → EReal) (p : Fin 4) (k : Fin 512) (l : Fin 128) : EReal :=
  if h : k.val < 256 then if l.val < 64 then w ⟨k.val, h⟩ ⟨p.val * 128 + l.val, by omega⟩ else 0
  else if l.val < 64 then 0 else w ⟨k.val - 256, by omega⟩ ⟨p.val * 128 + l.val, by omega⟩

/-- A pair's sum is the sum of the head its column belongs to. -/
theorem pair_sum (o : Fin 2048 → EReal) (w : Fin 256 → Fin 512 → EReal) (p : Fin 4) (l : Fin 128) :
    ∑ k : Fin 512, o ⟨p.val * 512 + k.val, by omega⟩ * pairw w p k l = vproj o w ⟨p.val * 128 + l.val, by omega⟩ := by
  rw [Fin.sum_univ_add (a := 256) (b := 256)]
  unfold vproj pairw
  by_cases hl : l.val < 64
  · have e : (p.val * 128 + l.val) / 64 = p.val * 2 := by omega
    rw [Finset.sum_eq_zero (s := Finset.univ) (f := fun k : Fin 256 => o ⟨p.val * 512 + (Fin.natAdd 256 k).val, _⟩ * _)
      (fun k _ => by simp [hl]), add_zero]
    refine Finset.sum_congr rfl fun k _ => ?_
    simp only [Fin.val_castAdd, k.isLt, hl, if_true, dif_pos]
    exact congrArg (· * _) (congrArg o (Fin.ext (by show p.val * 512 + k.val = (p.val * 128 + l.val) / 64 * 256 + k.val; omega)))
  · have e : (p.val * 128 + l.val) / 64 = p.val * 2 + 1 := by omega
    rw [Finset.sum_eq_zero (s := Finset.univ) (f := fun k : Fin 256 => o ⟨p.val * 512 + (Fin.castAdd 256 k).val, _⟩ * _)
      (fun k _ => by simp [hl]), zero_add]
    refine Finset.sum_congr rfl fun k _ => ?_
    have hk : ¬ (256 + k.val < 256) := by omega
    simp only [Fin.val_natAdd, hk, hl, if_false, dif_neg, not_false_eq_true]
    refine congrArg₂ (· * ·) (congrArg o (Fin.ext ?_)) (congrArg (w · _) (Fin.ext ?_))
    · show p.val * 512 + (256 + k.val) = (p.val * 128 + l.val) / 64 * 256 + k.val
      omega
    · show 256 + k.val - 256 = k.val
      omega

end Cert.Gate

end
-- ==== Proof.SmpKer.lean ====
module

public import proofs.«01_k».proof.Proof.Gen.Kernel3Ideal.Frame
public import proofs.«01_k».proof.Proof.SmpSpec
public import Idealize.ShloMosaic.Init
public import Idealize.ShloMosaic.Lib.Pointwise
public meta import Idealize.ShloMosaic.Lib.Tactic
public import Idealize.ShloMosaic.Lib.Tactic

/-! What the kernel of the sample's output block computes of one tile of 512 tokens, over the extended reals, read at an element. -/

@[expose] public section

set_option maxRecDepth 16384
set_option Elab.async false

noncomputable section

namespace Cert.Kernel3Ideal.Out

open Cert.Kernel3Ideal Cert.Kernel3Ideal.Gen
open Idealize.ShloMosaic Idealize.ShloMosaic.TcCoe Idealize.SL.Sem
open Cert.Gate

/-- The mLSTM's output under its gate. -/
theorem pay1_at (v0 v2 : FVec Ideal S512x512 .bf16) (r j : Fin 512) :
    k0_pay1 (F := Ideal) v0 v2 (ix2 r j) = gated (fun j => v0 (ix2 r j)) (fun j => v2 (ix2 r j)) j := by
  unfold gated
  rw [← sg_eq]
  unfold hf
  pointwise [k0_pay1]

/-- Head 0, normalised. -/
theorem pay2_at (v0 v2 : FVec Ideal S512x512 .bf16) (r : Fin 512) (d : Fin 128) :
    k0_pay2 (F := Ideal) v0 v2 (ix2 r d) = nrm c128 (head (fun j => k0_pay1 (F := Ideal) v0 v2 (ix2 r j)) 0) d := by
  unfold nrm mean head c128 eps
  pointwise [k0_pay2]

/-- Head 1 without its mean. -/
theorem pay3_at (v0 v2 : FVec Ideal S512x512 .bf16) (r : Fin 512) (d : Fin 128) :
    k0_pay3 (F := Ideal) v0 v2 (ix2 r d) = head (fun j => k0_pay1 (F := Ideal) v0 v2 (ix2 r j)) 1 d
      - mean c128 (head (fun j => k0_pay1 (F := Ideal) v0 v2 (ix2 r j)) 1) := by
  unfold mean head c128
  pointwise [k0_pay3]

/-- Head 1's variance. -/
theorem pay4_at (v0 v2 : FVec Ideal S512x512 .bf16) (r : Fin 512) :
    k0_pay4 (F := Ideal) v0 v2 (ix2 r 0) = mean c128 fun d => k0_pay3 (F := Ideal) v0 v2 (ix2 r d) * k0_pay3 (F := Ideal) v0 v2 (ix2 r d) := by
  unfold mean c128
  pointwise [k0_pay4]

/-- The heads, each normalised, under their weight. -/
theorem pay7_at (v11 : FVec Ideal S512x512 .f32) (v28 v35 : FVec Ideal S512x128 .f32) (v40 : FVec Ideal S512x1 .f32) (v83 : FVec Ideal S1x512 .f32) (r j : Fin 512) :
    k0_pay7 (F := Ideal) v11 v28 v35 v40 (k0_pay5 (F := Ideal)) v83 (ix2 r j) =
      (if h0 : j.val < 128 then v28 (ix2 r ⟨j.val, h0⟩)
        else if h1 : j.val - 128 < 128 then v35 (ix2 r ⟨j.val - 128, h1⟩) * Ideal.rsqrt (v40 (ix2 r 0) + eps)
        else if h2 : j.val - 128 - 128 < 128 then nrm c128 (head (fun j => v11 (ix2 r j)) 2) ⟨j.val - 128 - 128, h2⟩
        else nrm c128 (head (fun j => v11 (ix2 r j)) 3) ⟨j.val - 128 - 128 - 128, by omega⟩) * v83 (ix2 0 j) := by
  unfold nrm mean head c128 eps
  pointwise [k0_pay7, k0_pay5]

/-- The mLSTM's half of the projection's input. -/
theorem pay9_at (v81 v86 : FVec Ideal S512x512 .f32) (r j : Fin 512) :
    (k0_pay9 (F := Ideal) v81 v86 (Scalar.ofBits .f32 0x3F000000#32) (ix2 r j) : EReal) =
      v86 (ix2 r j) * (hf * v81 (ix2 r j) * Ideal.tanh (hf * v81 (ix2 r j)) + hf * v81 (ix2 r j)) := by
  unfold hf
  pointwise [k0_pay9]

/-- The attention's half: the pairs' products side by side, under the SiLU branch. -/
theorem pay8_at (v93 : FVec Ideal S512x2048 .f32) (v96 v100 v104 v108 : FVec Ideal S1x512x128 .bf16) (v112 : FVec Ideal S512x512 .bf16) (r j : Fin 512) :
    k0_pay8 (F := Ideal) v93 v96 v100 v104 v108 v112 (ix2 r j) =
      (if h0 : j.val < 128 then ∑ k : Fin 512, v93 (ix2 r ⟨k.val, by omega⟩) * v96 (ix3 0 k ⟨j.val, h0⟩)
        else if h1 : j.val - 128 < 128 then ∑ k : Fin 512, v93 (ix2 r ⟨512 + k.val, by omega⟩) * v100 (ix3 0 k ⟨j.val - 128, h1⟩)
        else if h2 : j.val - 128 - 128 < 128 then ∑ k : Fin 512, v93 (ix2 r ⟨1024 + k.val, by omega⟩) * v104 (ix3 0 k ⟨j.val - 128 - 128, h2⟩)
        else ∑ k : Fin 512, v93 (ix2 r ⟨1536 + k.val, by omega⟩) * v108 (ix3 0 k ⟨j.val - 128 - 128 - 128, by omega⟩))
      * (hf * v112 (ix2 r j) * Ideal.tanh (hf * v112 (ix2 r j)) + hf * v112 (ix2 r j)) := by
  unfold hf
  pointwise [k0_pay8]

/-- The layer norm of the residual plus the gated projection. -/
theorem pay11_at (v119 : FVec Ideal S512x512 .f32) (v120 : FVec Ideal S512x512 .bf16) (v121 v125 : FVec Ideal S512x1024 .bf16)
    (v129 : FVec Ideal S64x8x1024 .f32) (v132 : FVec Ideal S64x1x1024 .f32) (v153 v158 : FVec Ideal S1x1024 .f32) (b : Fin 64) (s : Fin 8) (n : Fin 1024)
    (z : Fin 1024 → EReal)
    (hz : ∀ n, z n = alpha * v129 (ix3 b s n) + v132 (ix3 b 0 n) *
      (∑ j : Fin 512, v120 (ix2 ⟨b.val * 8 + s.val, by omega⟩ j) * v121 (ix2 j n) + ∑ j : Fin 512, v119 (ix2 ⟨b.val * 8 + s.val, by omega⟩ j) * v125 (ix2 j n))) :
    k0_pay11 (F := Ideal) v119 v120 (k0_pay10 v121) (constant S512x1024 .f32 0x00000000#32) v125 v129 v132 v153 v158 (ix3 b s n) =
      lnorm z (fun n => v153 (ix2 0 n)) (fun n => v158 (ix2 0 n)) n := by
  unfold lnorm nrm mean c1024 eps
  simp only [hz]
  unfold alpha
  pointwise [k0_pay11, k0_pay10]

/-- A head of the gated output, normalised, under its weight. -/
theorem heads_at (v0 v2 : FVec Ideal S512x512 .bf16) (v83 : FVec Ideal S1x512 .f32) (r : Fin 512) (h : Fin 4) (d : Fin 128) :
    k0_pay7 (F := Ideal) (k0_pay1 v0 v2) (k0_pay2 v0 v2) (k0_pay3 v0 v2) (k0_pay4 v0 v2) k0_pay5 v83 (ix2 r ⟨h.val * 128 + d.val, by omega⟩) =
      nrm c128 (head (gated (fun j => v0 (ix2 r j)) fun j => v2 (ix2 r j)) h) d * v83 (ix2 0 ⟨h.val * 128 + d.val, by omega⟩) := by
  have hT : (fun j => k0_pay1 (F := Ideal) v0 v2 (ix2 r j)) = gated (fun j => v0 (ix2 r j)) fun j => v2 (ix2 r j) := funext fun j => pay1_at v0 v2 r j
  rw [pay7_at]
  refine congrArg (· * v83 (ix2 0 ⟨h.val * 128 + d.val, by omega⟩)) ?_
  simp only [pay2_at, pay3_at, pay4_at, hT]
  rcases (by omega : h = 0 ∨ h = 1 ∨ h = 2 ∨ h = 3) with rfl | rfl | rfl | rfl
  · refine (dif_pos (show 0 * 128 + d.val < 128 by omega)).trans ?_
    exact congrArg (nrm c128 _) (Fin.ext (by show 0 * 128 + d.val = d.val; omega))
  · refine (dif_neg (show ¬ 1 * 128 + d.val < 128 by omega)).trans ((dif_pos (show 1 * 128 + d.val - 128 < 128 by omega)).trans ?_)
    exact congrArg (nrm c128 _) (Fin.ext (by show 1 * 128 + d.val - 128 = d.val; omega))
  · refine (dif_neg (show ¬ 2 * 128 + d.val < 128 by omega)).trans ((dif_neg (show ¬ 2 * 128 + d.val - 128 < 128 by omega)).trans
      ((dif_pos (show 2 * 128 + d.val - 128 - 128 < 128 by omega)).trans ?_))
    exact congrArg (nrm c128 _) (Fin.ext (by show 2 * 128 + d.val - 128 - 128 = d.val; omega))
  · refine (dif_neg (show ¬ 3 * 128 + d.val < 128 by omega)).trans ((dif_neg (show ¬ 3 * 128 + d.val - 128 < 128 by omega)).trans
      ((dif_neg (show ¬ 3 * 128 + d.val - 128 - 128 < 128 by omega)).trans ?_))
    exact congrArg (nrm c128 _) (Fin.ext (by show 3 * 128 + d.val - 128 - 128 - 128 = d.val; omega))

/-- The kernel's SiLU of a real is the number times its logistic. -/
theorem silu_of (x : EReal) (h : x ≠ ⊥ ∧ x ≠ ⊤) : hf * x * Ideal.tanh (hf * x) + hf * x = x * sg x := by
  have e := silu_eq x.toReal
  rw [EReal.coe_toReal h.2 h.1] at e
  exact e

/-- The attention's half under the SiLU branch, from the pairs' weights. -/
theorem att_at (v93 : FVec Ideal S512x2048 .f32) (v96 v100 v104 v108 : FVec Ideal S1x512x128 .bf16) (v112 : FVec Ideal S512x512 .bf16) (r : Fin 512) (p : Fin 4) (l : Fin 128)
    (w : Fin 256 → Fin 512 → EReal) (h0 : ∀ k l, v96 (ix3 0 k l) = pairw w 0 k l) (h1 : ∀ k l, v100 (ix3 0 k l) = pairw w 1 k l)
    (h2 : ∀ k l, v104 (ix3 0 k l) = pairw w 2 k l) (h3 : ∀ k l, v108 (ix3 0 k l) = pairw w 3 k l)
    (ha : ∀ j, (v112 (ix2 r j) : EReal) ≠ ⊥ ∧ (v112 (ix2 r j) : EReal) ≠ ⊤) :
    k0_pay8 (F := Ideal) v93 v96 v100 v104 v108 v112 (ix2 r ⟨p.val * 128 + l.val, by omega⟩) =
      yat (vproj (fun k => v93 (ix2 r k)) w) (fun j => v112 (ix2 r j)) ⟨p.val * 128 + l.val, by omega⟩ := by
  unfold yat
  rw [pay8_at, silu_of _ (ha _), ← pair_sum]
  refine congrArg (· * ((v112 (ix2 r ⟨p.val * 128 + l.val, by omega⟩) : EReal) * sg (v112 (ix2 r ⟨p.val * 128 + l.val, by omega⟩)))) ?_
  simp only [h0, h1, h2, h3]
  rcases (by omega : p = 0 ∨ p = 1 ∨ p = 2 ∨ p = 3) with rfl | rfl | rfl | rfl
  · refine (dif_pos (show 0 * 128 + l.val < 128 by omega)).trans (Finset.sum_congr rfl fun k _ => congrArg₂ (· * ·) (congrArg v93 (congrArg (ix2 r) (Fin.ext ?_))) (congrArg (pairw w 0 k) (Fin.ext ?_)))
    · show k.val = 0 * 512 + k.val
      omega
    · show 0 * 128 + l.val = l.val
      omega
  · refine (dif_neg (show ¬ 1 * 128 + l.val < 128 by omega)).trans ((dif_pos (show 1 * 128 + l.val - 128 < 128 by omega)).trans
      (Finset.sum_congr rfl fun k _ => congrArg₂ (· * ·) (congrArg v93 (congrArg (ix2 r) (Fin.ext ?_))) (congrArg (pairw w 1 k) (Fin.ext ?_))))
    · show 512 + k.val = 1 * 512 + k.val
      omega
    · show 1 * 128 + l.val - 128 = l.val
      omega
  · refine (dif_neg (show ¬ 2 * 128 + l.val < 128 by omega)).trans ((dif_neg (show ¬ 2 * 128 + l.val - 128 < 128 by omega)).trans
      ((dif_pos (show 2 * 128 + l.val - 128 - 128 < 128 by omega)).trans
      (Finset.sum_congr rfl fun k _ => congrArg₂ (· * ·) (congrArg v93 (congrArg (ix2 r) (Fin.ext ?_))) (congrArg (pairw w 2 k) (Fin.ext ?_)))))
    · show 1024 + k.val = 2 * 512 + k.val
      omega
    · show 2 * 128 + l.val - 128 - 128 = l.val
      omega
  · refine (dif_neg (show ¬ 3 * 128 + l.val < 128 by omega)).trans ((dif_neg (show ¬ 3 * 128 + l.val - 128 < 128 by omega)).trans
      ((dif_neg (show ¬ 3 * 128 + l.val - 128 - 128 < 128 by omega)).trans
      (Finset.sum_congr rfl fun k _ => congrArg₂ (· * ·) (congrArg v93 (congrArg (ix2 r) (Fin.ext ?_))) (congrArg (pairw w 3 k) (Fin.ext ?_)))))
    · show 1536 + k.val = 3 * 512 + k.val
      omega
    · show 3 * 128 + l.val - 128 - 128 - 128 = l.val
      omega

/-- A tile's element is the layer norm of the residual plus the gated projection. -/
theorem tile_at (v81 v86 v119 : FVec Ideal S512x512 .f32) (v121 v125 : FVec Ideal S512x1024 .bf16)
    (v129 : FVec Ideal S64x8x1024 .f32) (v132 : FVec Ideal S64x1x1024 .f32) (v153 v158 : FVec Ideal S1x1024 .f32) (b : Fin 64) (s : Fin 8) (n : Fin 1024)
    (w : Fin 1024 → Fin 1024 → EReal) (hw0 : ∀ j n, v121 (ix2 j n) = w ⟨j.val, by omega⟩ n) (hw1 : ∀ j n, v125 (ix2 j n) = w ⟨512 + j.val, by omega⟩ n)
    (hm : ∀ r j, v81 (ix2 r j) ≠ ⊥ ∧ v81 (ix2 r j) ≠ ⊤) :
    k0_pay11 (F := Ideal) v119 (k0_pay9 v81 v86 (Scalar.ofBits .f32 0x3F000000#32)) (k0_pay10 v121) (constant S512x1024 .f32 0x00000000#32) v125 v129 v132 v153 v158 (ix3 b s n) =
      lnorm (resid (fun n => v129 (ix3 b s n)) (fun n => v132 (ix3 b 0 n)) w
        (fun j => v86 (ix2 ⟨b.val * 8 + s.val, by omega⟩ j) * (v81 (ix2 ⟨b.val * 8 + s.val, by omega⟩ j) * sg (v81 (ix2 ⟨b.val * 8 + s.val, by omega⟩ j))))
        (fun j => v119 (ix2 ⟨b.val * 8 + s.val, by omega⟩ j)))
        (fun n => v153 (ix2 0 n)) (fun n => v158 (ix2 0 n)) n := by
  refine pay11_at _ _ v121 v125 v129 v132 v153 v158 b s n _ fun n => ?_
  unfold resid
  refine congrArg (fun s' => alpha * v129 (ix3 b s n) + v132 (ix3 b 0 n) * s') (congrArg₂ (· + ·) ?_ ?_)
  · exact Finset.sum_congr rfl fun j _ => by rw [pay9_at, silu_of _ (hm _ j), hw0]
  · exact Finset.sum_congr rfl fun j _ => by rw [hw1]

end Cert.Kernel3Ideal.Out

end
-- ==== Proof.SmpRef.lean ====
module

public import proofs.«01_k».proof.Proof.Gen.Reference3Ideal.Run
public import proofs.«01_k».proof.Proof.SmpSpec
public import Idealize.ShloMosaic.Init
public import Idealize.ShloMosaic.Lib.Pointwise
public meta import Idealize.ShloMosaic.Lib.Tactic
public import Idealize.ShloMosaic.Lib.Tactic

/-! The reference of the sample's output block over the extended reals, read at an element. -/

@[expose] public section

set_option maxRecDepth 16384
set_option Elab.async false

noncomputable section

namespace Cert.Reference3Ideal.Out

open Cert.Reference3Ideal Cert.Reference3Ideal.Gen
open Idealize.ShloMosaic Idealize.ShloMosaic.TcCoe Idealize.SL.Sem
open Cert.Gate

/-- The logistic function of an array. -/
def rG (M : FVec Ideal S1024x512 .bf16) : FVec Ideal S1024x512 .f32 :=
  Host.divf (broadcastInDim S1024x512 ![] bcast_S_S1024x512 (constant S_ .f32 0x3F800000#32))
    (addf (broadcastInDim S1024x512 ![] bcast_S_S1024x512 (constant S_ .f32 0x3F800000#32)) (Host.exp (Host.negf (extf .f32 M bitsLt_bf16_f32))))
/-- The mLSTM's output under its gate, head by head. -/
def rT (H M : FVec Ideal S1024x512 .bf16) : FVec Ideal S128x8x4x128 .f32 :=
  mulf (shapeCast _ (extf .f32 H bitsLt_bf16_f32) shapeCasts_S1024x512_S128x8x4x128) (shapeCast _ (rG M) shapeCasts_S1024x512_S128x8x4x128)
/-- A head's mean. -/
def rU (T : FVec Ideal S128x8x4x128 .f32) : FVec Ideal S128x8x4x1 .f32 :=
  Host.divf (broadcastInDim S128x8x4x1 ![0, 1, 2] bcast_S128x8x4_S128x8x4x1_0_1_2 (Host.reduceAdd T (constant S_ .f32 0x00000000#32) reducesTo_S128x8x4x128_S128x8x4_d3 h_S_))
    (broadcastInDim S128x8x4x1 ![] bcast_S_S128x8x4x1 (constant S_ .f32 0x43000000#32))
/-- A head without its mean. -/
def rC (T : FVec Ideal S128x8x4x128 .f32) : FVec Ideal S128x8x4x128 .f32 :=
  subf T (broadcastInDim S128x8x4x128 ![0, 1, 2, 3] bcast_S128x8x4x1_S128x8x4x128_0_1_2_3 (rU T))
/-- The normalised heads. -/
def rN (T : FVec Ideal S128x8x4x128 .f32) : FVec Ideal S128x8x4x128 .f32 :=
  mulf (rC T) (broadcastInDim S128x8x4x128 ![0, 1, 2, 3] bcast_S128x8x4x1_S128x8x4x128_0_1_2_3
    (Host.rsqrt (addf (rU (mulf (rC T) (rC T))) (broadcastInDim S128x8x4x1 ![] bcast_S_S128x8x4x1 (constant S_ .f32 0x358637BD#32)))))
/-- The mLSTM's half of the projection's input. -/
def rA (N : FVec Ideal S128x8x4x128 .f32) (G : FVec Ideal S512 .f32) (Z : FVec Ideal S1024x512 .bf16) : FVec Ideal S128x8x512 .f32 :=
  mulf (mulf (shapeCast _ N shapeCasts_S128x8x4x128_S128x8x512)
      (broadcastInDim S128x8x512 ![0, 1, 2] bcast_S1x1x512_S128x8x512_0_1_2 (broadcastInDim S1x1x512 ![2] bcast_S512_S1x1x512_2 G)))
    (shapeCast _ (mulf (extf .f32 Z bitsLt_bf16_f32) (rG Z)) shapeCasts_S1024x512_S128x8x512)
/-- The value projection of the attention's output, head by head. -/
def rO (O : FVec Ideal S1024x2048 .f32) (V : FVec Ideal S256x512 .f32) : FVec Ideal S1024x512 .f32 :=
  shapeCast _ (transpose S128x8x8x64 [2, 3, 0, 1] (Host.dotGeneral dot_S256x8x64_S128x8x8x256_S8x64x128x8_0_3_2_01_1_2 none
    (shapeCast _ V shapeCasts_S256x512_S256x8x64) (shapeCast _ O shapeCasts_S1024x2048_S128x8x8x256)) transposes_S8x64x128x8_S128x8x8x64_2_3_0_1)
    shapeCasts_S128x8x8x64_S1024x512
/-- The attention's half. -/
def rB (O : FVec Ideal S1024x512 .f32) (Z : FVec Ideal S1024x512 .bf16) : FVec Ideal S128x8x512 .f32 :=
  mulf (shapeCast _ O shapeCasts_S1024x512_S128x8x512)
    (shapeCast _ (mulf (extf .f32 Z bitsLt_bf16_f32) (rG Z)) shapeCasts_S1024x512_S128x8x512)
/-- The residual plus the gated projection. -/
def rZ (X : FVec Ideal S128x8x1024 .f32) (M : FVec Ideal S128x1x3072 .f32) (W : FVec Ideal S1024x1024 .f32) (A B : FVec Ideal S128x8x512 .f32) :
    FVec Ideal S128x8x1024 .f32 :=
  addf (mulf (broadcastInDim S128x8x1024 ![] bcast_S_S128x8x1024 (constant S_ .f32 0x3F9837F0#32)) X)
    (mulf (broadcastInDim S128x8x1024 ![0, 1, 2] bcast_S128x1x1024_S128x8x1024_0_1_2 (extractStridedSlice S128x1x1024 ![0, 0, 2048] M slices_S128x1x3072_S128x1x1024_0_0_2048))
      (Host.dotGeneral dot_S128x8x1024_S1024x1024_S128x8x1024_2_0_01_1_n_n none
        (concatenate S128x8x1024 2 [⟨S128x8x512, A⟩, ⟨S128x8x512, B⟩] concatenates_S128x8x512_S128x8x512_S128x8x1024_d2) W))
/-- A token's mean. -/
def rV (Z : FVec Ideal S128x8x1024 .f32) : FVec Ideal S128x8x1 .f32 :=
  Host.divf (broadcastInDim S128x8x1 ![0, 1] bcast_S128x8_S128x8x1_0_1 (Host.reduceAdd Z (constant S_ .f32 0x00000000#32) reducesTo_S128x8x1024_S128x8_d2 h_S_))
    (broadcastInDim S128x8x1 ![] bcast_S_S128x8x1 (constant S_ .f32 0x44800000#32))
/-- A token without its mean. -/
def rD (Z : FVec Ideal S128x8x1024 .f32) : FVec Ideal S128x8x1024 .f32 :=
  subf Z (broadcastInDim S128x8x1024 ![0, 1, 2] bcast_S128x8x1_S128x8x1024_0_1_2 (rV Z))
/-- The layer norm. -/
def rY (Z : FVec Ideal S128x8x1024 .f32) (G B : FVec Ideal S1024 .f32) : FVec Ideal S128x8x1024 .f32 :=
  addf (mulf (mulf (rD Z) (broadcastInDim S128x8x1024 ![0, 1, 2] bcast_S128x8x1_S128x8x1024_0_1_2
      (Host.rsqrt (addf (rV (mulf (rD Z) (rD Z))) (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2] bcast_S1024_S1x1x1024_2 G)))
    (broadcastInDim S128x8x1024 ![0, 1, 2] bcast_S1x1x1024_S128x8x1024_0_1_2 (broadcastInDim S1x1x1024 ![2] bcast_S1024_S1x1x1024_2 B))

/-- The reference's result is these steps one after another. -/
theorem res_eq (m : (ℓ : Loc nD τ sig) → Buf (Elt Ideal) ℓ) (c : Dev nD) :
    Value.res_out0 (F := Ideal) m c = rY (rZ (m ((c.tc : Thread nD τ).loc main_arg0)) (m ((c.tc : Thread nD τ).loc main_arg1)) (m ((c.tc : Thread nD τ).loc main_arg9))
      (rA (rN (rT (m ((c.tc : Thread nD τ).loc main_arg2)) (m ((c.tc : Thread nD τ).loc main_arg3)))) (m ((c.tc : Thread nD τ).loc main_arg8)) (m ((c.tc : Thread nD τ).loc main_arg4)))
      (rB (rO (m ((c.tc : Thread nD τ).loc main_arg5)) (m ((c.tc : Thread nD τ).loc main_arg7))) (m ((c.tc : Thread nD τ).loc main_arg6))))
      (m ((c.tc : Thread nD τ).loc main_arg10)) (m ((c.tc : Thread nD τ).loc main_arg11)) := by
  unfold Value.res_out0 Value.res_main_v80 rY rD rV rZ rA rB rO rN rC rU rT rG
  rfl

/-- Token `s` of sequence `b` among all tokens. -/
def tok (b : Fin 128) (s : Fin 8) : Fin 1024 := ⟨b.val * 8 + s.val, by omega⟩

/-- The logistic at an element. -/
theorem rG_at (M : FVec Ideal S1024x512 .bf16) (n : Fin 1024) (j : Fin 512) : rG M (ix2 n j) = sg (M (ix2 n j)) := by
  pointwise [rG, sg]

/-- The gated heads. -/
theorem rT_at (H M : FVec Ideal S1024x512 .bf16) (b : Fin 128) (s : Fin 8) (h : Fin 4) (d : Fin 128) :
    rT H M (ix4 b s h d) = head (gated (fun j => H (ix2 (tok b s) j)) fun j => M (ix2 (tok b s) j)) h d := by
  pointwise [rT]
  rw [rG_at]
  rfl

/-- A head's mean. -/
theorem rU_at (T : FVec Ideal S128x8x4x128 .f32) (b : Fin 128) (s : Fin 8) (h : Fin 4) (d : Fin 1) :
    rU T (ix4 b s h d) = mean c128 fun d => T (ix4 b s h d) := by
  pointwise [rU, mean, c128]

/-- A head without its mean. -/
theorem rC_at (T : FVec Ideal S128x8x4x128 .f32) (b : Fin 128) (s : Fin 8) (h : Fin 4) (d : Fin 128) :
    rC T (ix4 b s h d) = T (ix4 b s h d) - mean c128 fun d => T (ix4 b s h d) := by
  pointwise [rC]
  rw [rU_at]

/-- A normalised head. -/
theorem rN_at (T : FVec Ideal S128x8x4x128 .f32) (b : Fin 128) (s : Fin 8) (h : Fin 4) (d : Fin 128) :
    rN T (ix4 b s h d) = nrm c128 (fun d => T (ix4 b s h d)) d := by
  unfold nrm
  pointwise [rN]
  simp only [rU_at, rC_at]
  simp only [mulf_apply, rC_at]
  rfl

/-- The mLSTM's half from the normalised heads. -/
theorem rA_at (N : FVec Ideal S128x8x4x128 .f32) (G : FVec Ideal S512 .f32) (Z : FVec Ideal S1024x512 .bf16) (b : Fin 128) (s : Fin 8) (j : Fin 512) :
    rA N G Z (ix3 b s j) = N (ix4 b s ⟨j.val / 128, by omega⟩ ⟨j.val % 128, Nat.mod_lt _ (by norm_num)⟩) * G (ix1 j)
      * (Z (ix2 (tok b s) j) * sg (Z (ix2 (tok b s) j))) := by
  pointwise [rA]
  simp only [rG_at]
  rfl

/-- The value projection at an element. -/
theorem rO_at (O : FVec Ideal S1024x2048 .f32) (V : FVec Ideal S256x512 .f32) (n : Fin 1024) (j : Fin 512) :
    rO O V (ix2 n j) = vproj (fun k => O (ix2 n k)) (fun k j => V (ix2 k j)) j := by
  unfold vproj
  pointwise [rO]
  exact Finset.sum_congr rfl fun k _ => mul_comm _ _

/-- The attention's half. -/
theorem rB_at (O : FVec Ideal S1024x512 .f32) (Z : FVec Ideal S1024x512 .bf16) (b : Fin 128) (s : Fin 8) (j : Fin 512) :
    rB O Z (ix3 b s j) = yat (fun j => O (ix2 (tok b s) j)) (fun j => Z (ix2 (tok b s) j)) j := by
  pointwise [rB]
  simp only [rG_at]
  rfl

/-- The residual plus the gated projection. -/
theorem rZ_at (X : FVec Ideal S128x8x1024 .f32) (M : FVec Ideal S128x1x3072 .f32) (W : FVec Ideal S1024x1024 .f32) (A B : FVec Ideal S128x8x512 .f32)
    (b : Fin 128) (s : Fin 8) (n : Fin 1024) :
    rZ X M W A B (ix3 b s n) = resid (fun n => X (ix3 b s n)) (fun n => M (ix3 b 0 ⟨2048 + n.val, by omega⟩)) (fun k n => W (ix2 k n))
      (fun j => A (ix3 b s j)) (fun j => B (ix3 b s j)) n := by
  unfold resid alpha
  pointwise [rZ]

/-- A token's mean. -/
theorem rV_at (Z : FVec Ideal S128x8x1024 .f32) (b : Fin 128) (s : Fin 8) (d : Fin 1) : rV Z (ix3 b s d) = mean c1024 fun n => Z (ix3 b s n) := by
  pointwise [rV, mean, c1024]

/-- A token without its mean. -/
theorem rD_at (Z : FVec Ideal S128x8x1024 .f32) (b : Fin 128) (s : Fin 8) (n : Fin 1024) :
    rD Z (ix3 b s n) = Z (ix3 b s n) - mean c1024 fun n => Z (ix3 b s n) := by
  pointwise [rD]
  rw [rV_at]

/-- The layer norm. -/
theorem rY_at (Z : FVec Ideal S128x8x1024 .f32) (G B : FVec Ideal S1024 .f32) (b : Fin 128) (s : Fin 8) (n : Fin 1024) :
    rY Z G B (ix3 b s n) = lnorm (fun n => Z (ix3 b s n)) (fun n => G (ix1 n)) (fun n => B (ix1 n)) n := by
  unfold lnorm nrm
  pointwise [rY]
  simp only [rV_at, rD_at]
  simp only [mulf_apply, rD_at]
  rfl

/-- The mLSTM's half at an element. -/
theorem rA_all (H M : FVec Ideal S1024x512 .bf16) (G : FVec Ideal S512 .f32) (Z : FVec Ideal S1024x512 .bf16) (b : Fin 128) (s : Fin 8) (j : Fin 512) :
    rA (rN (rT H M)) G Z (ix3 b s j) = ymlAt (gated (fun j => H (ix2 (tok b s) j)) fun j => M (ix2 (tok b s) j)) (fun j => G (ix1 j))
      (fun j => Z (ix2 (tok b s) j)) j := by
  rw [rA_at, rN_at]
  simp only [rT_at]
  unfold ymlAt yml head
  have hj : (⟨j.val / 128 * 128 + j.val % 128, by omega⟩ : Fin 512) = j := Fin.ext (Nat.div_add_mod' _ _)
  rw [hj]

/-- The reference's result at an element. -/
theorem res_at (m : (ℓ : Loc nD τ sig) → Buf (Elt Ideal) ℓ) (c : Dev nD) (X : FVec Ideal S128x8x1024 .f32) (M : FVec Ideal S128x1x3072 .f32)
    (H O Z Y : FVec Ideal S1024x512 .bf16) (A : FVec Ideal S1024x2048 .f32) (V : FVec Ideal S256x512 .f32) (G : FVec Ideal S512 .f32) (W : FVec Ideal S1024x1024 .f32) (LG LB : FVec Ideal S1024 .f32)
    (h0 : m ((c.tc : Thread nD τ).loc main_arg0) = X) (h1 : m ((c.tc : Thread nD τ).loc main_arg1) = M) (h2 : m ((c.tc : Thread nD τ).loc main_arg2) = H)
    (h3 : m ((c.tc : Thread nD τ).loc main_arg3) = O) (h4 : m ((c.tc : Thread nD τ).loc main_arg4) = Z) (h5 : m ((c.tc : Thread nD τ).loc main_arg5) = A)
    (h6 : m ((c.tc : Thread nD τ).loc main_arg6) = Y) (h7 : m ((c.tc : Thread nD τ).loc main_arg7) = V) (h8 : m ((c.tc : Thread nD τ).loc main_arg8) = G) (h9 : m ((c.tc : Thread nD τ).loc main_arg9) = W)
    (h10 : m ((c.tc : Thread nD τ).loc main_arg10) = LG) (h11 : m ((c.tc : Thread nD τ).loc main_arg11) = LB) (b : Fin 128) (s : Fin 8) (n : Fin 1024) :
    Value.res_out0 (F := Ideal) m c (ix3 b s n) =
      lnorm (resid (fun n => X (ix3 b s n)) (fun n => M (ix3 b 0 ⟨2048 + n.val, by omega⟩)) (fun k n => W (ix2 k n))
        (ymlAt (gated (fun j => H (ix2 (tok b s) j)) fun j => O (ix2 (tok b s) j)) (fun j => G (ix1 j)) (fun j => Z (ix2 (tok b s) j)))
        (yat (vproj (fun k => A (ix2 (tok b s) k)) fun k j => V (ix2 k j)) (fun j => Y (ix2 (tok b s) j)))) (fun n => LG (ix1 n)) (fun n => LB (ix1 n)) n := by
  refine (congrFun (res_eq m c) (ix3 b s n)).trans ?_
  rw [h0, h1, h2, h3, h4, h5, h6, h7, h8, h9, h10, h11]
  refine (rY_at _ LG LB b s n).trans ?_
  simp only [rZ_at, rA_all, rB_at, rO_at]

end Cert.Reference3Ideal.Out

end
-- ==== Proof.SmpFinal.lean ====
module

public import proofs.«01_k».proof.Proof.SmpKer
public import proofs.«01_k».proof.Proof.SmpRef
public import proofs.«01_k».proof.Proof.Final
public import proofs.«01_k».proof.Proof.Gen.Kernel3Ideal.Value
public import Idealize.ShloMosaic.Lib.Pipeline.ValueKit
public import Idealize.ShloMosaic.Lib.Pointwise
public meta import Idealize.ShloMosaic.Lib.Tactic
public import Idealize.ShloMosaic.Lib.Tactic

/-! The kernel of the sample's output block gives the reference's result, where both SiLU branches are finite. -/

@[expose] public section

set_option maxRecDepth 16384
set_option Elab.async false

noncomputable section

namespace Cert.Kernel3Ideal.Out

open Cert.Kernel3Ideal Cert.Kernel3Ideal.Gen
open Idealize.ShloMosaic Idealize.ShloMosaic.TcCoe Idealize.SL.Sem
open Idealize.ShloMosaic.Pipeline (Dat)
open Cert.Gate

variable (m : (ℓ : Loc nD τ sig) → Buf (Elt Ideal) ℓ)

/-- The side conditions of the finiteness predicate. -/
instance factsF3 : Cert.Pre_finite3.Facts where
  bitsLt_bf16_f32 := by decide
  bcast_S_S1024x512 := by decide

/-- The residual. -/
abbrev aX (c : Dev nD) : FVec Ideal S128x8x1024 .f32 := m ((c.tc : Thread nD τ).loc main_arg0)
/-- The modulation. -/
abbrev aM (c : Dev nD) : FVec Ideal S128x1x3072 .f32 := m ((c.tc : Thread nD τ).loc main_arg1)
/-- The mLSTM's output. -/
abbrev aH (c : Dev nD) : FVec Ideal S1024x512 .bf16 := m ((c.tc : Thread nD τ).loc main_arg2)
/-- Its output gate. -/
abbrev aO (c : Dev nD) : FVec Ideal S1024x512 .bf16 := m ((c.tc : Thread nD τ).loc main_arg3)
/-- Its SiLU branch. -/
abbrev aZ (c : Dev nD) : FVec Ideal S1024x512 .bf16 := m ((c.tc : Thread nD τ).loc main_arg4)
/-- The attention's output in the latent space, a token's heads side by side. -/
abbrev aA (c : Dev nD) : FVec Ideal S1024x2048 .f32 := m ((c.tc : Thread nD τ).loc main_arg5)
/-- Its SiLU branch. -/
abbrev aY (c : Dev nD) : FVec Ideal S1024x512 .bf16 := m ((c.tc : Thread nD τ).loc main_arg6)
/-- The value projection. -/
abbrev aV (c : Dev nD) : FVec Ideal S256x512 .f32 := m ((c.tc : Thread nD τ).loc main_arg7)
/-- The heads' weight. -/
abbrev aG (c : Dev nD) : FVec Ideal S512 .f32 := m ((c.tc : Thread nD τ).loc main_arg8)
/-- The projection. -/
abbrev aW (c : Dev nD) : FVec Ideal S1024x1024 .f32 := m ((c.tc : Thread nD τ).loc main_arg9)
/-- The layer norm's weight. -/
abbrev aP (c : Dev nD) : FVec Ideal S1024 .f32 := m ((c.tc : Thread nD τ).loc main_arg10)
/-- The layer norm's bias. -/
abbrev aQ (c : Dev nD) : FVec Ideal S1024 .f32 := m ((c.tc : Thread nD τ).loc main_arg11)

/-- Both SiLU branches are real under the finiteness predicate. -/
theorem fin_of_pre (hp : Cert.Pre_Kernel3Ideal_finite3 m) (c : Dev nD) (n : Fin 1024) (j : Fin 512) :
    ((aZ m c (ix2 n j) : EReal) ≠ ⊥ ∧ (aZ m c (ix2 n j) : EReal) ≠ ⊤) ∧ ((aY m c (ix2 n j) : EReal) ≠ ⊥ ∧ (aY m c (ix2 n j) : EReal) ≠ ⊤) := by
  obtain ⟨h1, h2⟩ := hp c
  replace h1 := congrFun h1 (ix2 n j)
  replace h2 := congrFun h2 (ix2 n j)
  unfold Cert.Pre_finite3.fn at h1 h2
  pointwise at h1
  pointwise at h2
  exact ⟨Cert.KernelIdeal.Att.real_of_lt _ h1, Cert.KernelIdeal.Att.real_of_lt _ h2⟩

/-- Every window's block at every grid point. -/
theorem idx_val : ∀ t : Fin cfg0.N, win0_0.index t = ![t.val, 0, 0]
    ∧ win0_1.index t = ![t.val, 0, 2]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![t.val, 0, 0]
    ∧ t.val < 2 :=
  (by decide +kernel : ∀ t : Fin grid0.N, _)

/-- The sequence of a tile's row. -/
def seq (t : Fin cfg0.N) (b : Fin 64) : Fin 128 := ⟨t.val * 64 + b.val, by have := (idx_val t).2.2.2.2.2.2.2.2.2.2.2.2.2; omega⟩

/-- A tile's row among its 512. -/
def row (b : Fin 64) (s : Fin 8) : Fin 512 := ⟨b.val * 8 + s.val, by omega⟩

/-- The row of a tile among all tokens. -/
theorem tok_eq (t : Fin cfg0.N) (b : Fin 64) (s : Fin 8) : (Cert.Reference3Ideal.Out.tok (seq t b) s).val = t.val * 512 + (row b s).val := by
  show (t.val * 64 + b.val) * 8 + s.val = t.val * 512 + (b.val * 8 + s.val)
  omega

variable (c : Dev nD) (t : Fin cfg0.N)

/-- Where a tile's element lies in the result. -/
theorem emb_eq (b : Fin 64) (s : Fin 8) (n : Fin 1024) : ((cfg0.win 12).blk t).view.emb (ix3 b s n : S64x8x1024.Idx) = (ix3 (seq t b) s n : S128x8x1024.Idx) := by
  unfold seq
  blk_ext [idx_val t]

/-- The residual's block. -/
theorem x_at (b : Fin 64) (s : Fin 8) (n : Fin 1024) : (iblk m c 0 t : FVec Ideal S64x8x1024 .f32) (ix3 b s n) = aX m c (ix3 (seq t b) s n) := by
  unfold seq
  blk_ext! [iblk, V, idx_val t]

/-- The gate's block. -/
theorem gate_at (b : Fin 64) (n : Fin 1024) : (iblk m c 1 t : FVec Ideal S64x1x1024 .f32) (ix3 b 0 n) = aM m c (ix3 (seq t b) 0 ⟨2048 + n.val, by omega⟩) := by
  unfold seq
  blk_ext! [iblk, V, idx_val t]

/-- The mLSTM's block. -/
theorem hl_at (b : Fin 64) (s : Fin 8) (j : Fin 512) : (iblk m c 2 t : FVec Ideal S512x512 .bf16) (ix2 (row b s) j) = aH m c (ix2 (Cert.Reference3Ideal.Out.tok (seq t b) s) j) := by
  have e := tok_eq t b s
  blk_ext! [iblk, V, idx_val t]

/-- Its output gate's block. -/
theorem mo_at (b : Fin 64) (s : Fin 8) (j : Fin 512) : (iblk m c 3 t : FVec Ideal S512x512 .bf16) (ix2 (row b s) j) = aO m c (ix2 (Cert.Reference3Ideal.Out.tok (seq t b) s) j) := by
  have e := tok_eq t b s
  blk_ext! [iblk, V, idx_val t]

/-- Its SiLU branch's block. -/
theorem mz_at (b : Fin 64) (s : Fin 8) (j : Fin 512) : (iblk m c 4 t : FVec Ideal S512x512 .bf16) (ix2 (row b s) j) = aZ m c (ix2 (Cert.Reference3Ideal.Out.tok (seq t b) s) j) := by
  have e := tok_eq t b s
  blk_ext! [iblk, V, idx_val t]

/-- The attention's block. -/
theorem o_at (b : Fin 64) (s : Fin 8) (j : Fin 2048) : (iblk m c 5 t : FVec Ideal S512x2048 .f32) (ix2 (row b s) j) = aA m c (ix2 (Cert.Reference3Ideal.Out.tok (seq t b) s) j) := by
  have e := tok_eq t b s
  blk_ext! [iblk, V, idx_val t]

/-- Its SiLU branch's block. -/
theorem az_at (b : Fin 64) (s : Fin 8) (j : Fin 512) : (iblk m c 6 t : FVec Ideal S512x512 .bf16) (ix2 (row b s) j) = aY m c (ix2 (Cert.Reference3Ideal.Out.tok (seq t b) s) j) := by
  have e := tok_eq t b s
  blk_ext! [iblk, V, idx_val t]

/-- The heads' weight. -/
theorem gn_at (j : Fin 512) : (iblk m c 7 t : FVec Ideal S1x512 .f32) (ix2 0 j) = aG m c (ix1 j) := by
  blk_simp [iblk, idx_val t]
  entry_read
  pointwise
  blk_ext [idx_val t]

/-- The two heads side by side, read at an index. -/
theorem pairw_of (V' : FVec Ideal S256x512 .f32) (q : S4x512x128.Idx) (p : Fin 4) (k : Fin 512) (l : Fin 128) (e : q = ix3 p k l) :
    (if h : (q 1).val < 256 then
      if h1 : (q 2).val < 64 then
        V' (ix2 ⟨(q 1).val, h⟩ ⟨(q 0).val * 128 + (q 2).val, by have h0 : (q 0).val < 4 := (q 0).isLt; omega⟩)
      else 0
    else
      if h1 : (q 2).val < 64 then 0
      else
        V' (ix2 ⟨(q 1).val - 256, by have h0 : (q 1).val < 512 := (q 1).isLt; omega⟩
          ⟨(q 0).val * 128 + 64 + ((q 2).val - 64), by have h0 : (q 0).val < 4 := (q 0).isLt; have h2 : (q 2).val < 128 := (q 2).isLt; omega⟩)) =
    pairw (fun k j => V' (ix2 k j)) p k l := by
  subst e
  unfold pairw
  by_cases hk : k.val < 256
  · refine (dif_pos hk).trans (Eq.trans ?_ (dif_pos hk).symm)
    by_cases hl : l.val < 64
    · exact (dif_pos hl).trans (if_pos hl).symm
    · exact (dif_neg hl).trans (if_neg hl).symm
  · refine (dif_neg hk).trans (Eq.trans ?_ (dif_neg hk).symm)
    by_cases hl : l.val < 64
    · exact (dif_pos hl).trans (if_pos hl).symm
    · refine (dif_neg hl).trans (Eq.trans ?_ (if_neg hl).symm)
      refine congrArg (V') (congrArg (ix2 _) (Fin.ext ?_))
      show p.val * 128 + 64 + (l.val - 64) = p.val * 128 + l.val
      omega

set_option maxHeartbeats 2000000 in
/-- The value projection's weights, two heads side by side. -/
theorem wuv_at (p : Fin 4) (k : Fin 512) (l : Fin 128) : (iblk m c 8 t : FVec Ideal S4x512x128 .bf16) (ix3 p k l) = pairw (fun k j => aV m c (ix2 k j)) p k l := by
  blk_simp [iblk, idx_val t]
  entry_read
  pointwise
  have e : ((View.whole main_v10).slice (win0_8.rect t)).emb (ix3 p k l) = (ix3 p k l : S4x512x128.Idx) := by
    blk_ext [idx_val t]
  exact pairw_of (aV m c) _ p k l e

/-- Pair 0. -/
theorem wuv0_at (x : Vec Ideal S4x512x128 .bf16) (k : Fin 512) (l : Fin 128) : View.ld x r0_3 (ix3 0 k l : S1x512x128.Idx) = x (ix3 0 k l) := by
  refine congrArg x (funext fun a => Fin.ext ?_)
  obtain ⟨a, ha⟩ := a
  rcases (by have : a < 3 := ha; omega : a = 0 ∨ a = 1 ∨ a = 2) with rfl | rfl | rfl
  · rfl
  · show 0 + 1 * k.val = _
    simp
  · show 0 + 1 * l.val = _
    simp

/-- Pair 1. -/
theorem wuv1_at (x : Vec Ideal S4x512x128 .bf16) (k : Fin 512) (l : Fin 128) : View.ld x r0_4 (ix3 0 k l : S1x512x128.Idx) = x (ix3 1 k l) := by
  refine congrArg x (funext fun a => Fin.ext ?_)
  obtain ⟨a, ha⟩ := a
  rcases (by have : a < 3 := ha; omega : a = 0 ∨ a = 1 ∨ a = 2) with rfl | rfl | rfl
  · rfl
  · show 0 + 1 * k.val = _
    simp
  · show 0 + 1 * l.val = _
    simp

/-- Pair 2. -/
theorem wuv2_at (x : Vec Ideal S4x512x128 .bf16) (k : Fin 512) (l : Fin 128) : View.ld x r0_5 (ix3 0 k l : S1x512x128.Idx) = x (ix3 2 k l) := by
  refine congrArg x (funext fun a => Fin.ext ?_)
  obtain ⟨a, ha⟩ := a
  rcases (by have : a < 3 := ha; omega : a = 0 ∨ a = 1 ∨ a = 2) with rfl | rfl | rfl
  · rfl
  · show 0 + 1 * k.val = _
    simp
  · show 0 + 1 * l.val = _
    simp

/-- Pair 3. -/
theorem wuv3_at (x : Vec Ideal S4x512x128 .bf16) (k : Fin 512) (l : Fin 128) : View.ld x r0_6 (ix3 0 k l : S1x512x128.Idx) = x (ix3 3 k l) := by
  refine congrArg x (funext fun a => Fin.ext ?_)
  obtain ⟨a, ha⟩ := a
  rcases (by have : a < 3 := ha; omega : a = 0 ∨ a = 1 ∨ a = 2) with rfl | rfl | rfl
  · rfl
  · show 0 + 1 * k.val = _
    simp
  · show 0 + 1 * l.val = _
    simp

/-- The projection. -/
theorem w_at (k n : Fin 1024) : (iblk m c 9 t : FVec Ideal S1024x1024 .bf16) (ix2 k n) = aW m c (ix2 k n) := by
  blk_simp [iblk, idx_val t]
  entry_read
  pointwise
  blk_ext [idx_val t]

/-- Its upper half. -/
theorem w0_at (x : Vec Ideal S1024x1024 .bf16) (j : Fin 512) (n : Fin 1024) : View.ld x r0_7 (ix2 j n : S512x1024.Idx) = x (ix2 ⟨j.val, by omega⟩ n) := by
  refine congrArg x (funext fun a => Fin.ext ?_)
  obtain ⟨a, ha⟩ := a
  rcases (by have : a < 2 := ha; omega : a = 0 ∨ a = 1) with rfl | rfl
  · show 0 + 1 * j.val = _
    simp
  · show 0 + 1 * n.val = _
    simp

/-- Its lower half. -/
theorem w1_at (x : Vec Ideal S1024x1024 .bf16) (j : Fin 512) (n : Fin 1024) : View.ld x r0_8 (ix2 j n : S512x1024.Idx) = x (ix2 ⟨512 + j.val, by omega⟩ n) := by
  refine congrArg x (funext fun a => Fin.ext ?_)
  obtain ⟨a, ha⟩ := a
  rcases (by have : a < 2 := ha; omega : a = 0 ∨ a = 1) with rfl | rfl
  · show 512 + 1 * j.val = _
    simp
  · show 0 + 1 * n.val = _
    simp

/-- The layer norm's weight. -/
theorem p_at (n : Fin 1024) : (iblk m c 10 t : FVec Ideal S1x1024 .f32) (ix2 0 n) = aP m c (ix1 n) := by
  blk_simp [iblk, idx_val t]
  entry_read
  pointwise
  blk_ext [idx_val t]

/-- The layer norm's bias. -/
theorem q_at (n : Fin 1024) : (iblk m c 11 t : FVec Ideal S1x1024 .f32) (ix2 0 n) = aQ m c (ix1 n) := by
  blk_simp [iblk, idx_val t]
  entry_read
  pointwise
  blk_ext [idx_val t]

/-- What a tile's body leaves at an element is the reference's result there. -/
theorem point (hp : Cert.Pre_Kernel3Ideal_finite3 m) (b : Fin 64) (s : Fin 8) (n : Fin 1024) :
    k0_pay11 (F := Ideal) (k0_pay8 (iblk m c 5 t) (View.ld (iblk m c 8 t) r0_3) (View.ld (iblk m c 8 t) r0_4) (View.ld (iblk m c 8 t) r0_5) (View.ld (iblk m c 8 t) r0_6) (iblk m c 6 t))
      (k0_pay9 (k0_pay6 (iblk m c 4 t)) (k0_pay7 (k0_pay1 (iblk m c 2 t) (iblk m c 3 t)) (k0_pay2 (iblk m c 2 t) (iblk m c 3 t))
        (k0_pay3 (iblk m c 2 t) (iblk m c 3 t)) (k0_pay4 (iblk m c 2 t) (iblk m c 3 t)) k0_pay5 (iblk m c 7 t)) (Scalar.ofBits .f32 0x3F000000#32))
      (k0_pay10 (View.ld (iblk m c 9 t) r0_7)) (constant S512x1024 .f32 0x00000000#32) (View.ld (iblk m c 9 t) r0_8) (iblk m c 0 t) (iblk m c 1 t)
      (iblk m c 10 t) (iblk m c 11 t) (ix3 b s n) =
    lnorm (resid (fun n => aX m c (ix3 (seq t b) s n)) (fun n => aM m c (ix3 (seq t b) 0 ⟨2048 + n.val, by omega⟩)) (fun k n => aW m c (ix2 k n))
      (ymlAt (gated (fun j => aH m c (ix2 (Cert.Reference3Ideal.Out.tok (seq t b) s) j)) fun j => aO m c (ix2 (Cert.Reference3Ideal.Out.tok (seq t b) s) j)) (fun j => aG m c (ix1 j)) (fun j => aZ m c (ix2 (Cert.Reference3Ideal.Out.tok (seq t b) s) j)))
      (yat (vproj (fun k => aA m c (ix2 (Cert.Reference3Ideal.Out.tok (seq t b) s) k)) fun k j => aV m c (ix2 k j)) (fun j => aY m c (ix2 (Cert.Reference3Ideal.Out.tok (seq t b) s) j)))) (fun n => aP m c (ix1 n)) (fun n => aQ m c (ix1 n)) n := by
  have h81 : ∀ (b : Fin 64) (s : Fin 8) (j : Fin 512), k0_pay6 (F := Ideal) (iblk m c 4 t) (ix2 (row b s) j) = aZ m c (ix2 (Cert.Reference3Ideal.Out.tok (seq t b) s) j) := fun b s j => mz_at m c t b s j
  have hr : ∀ r : Fin 512, row ⟨r.val / 8, by omega⟩ ⟨r.val % 8, Nat.mod_lt _ (by norm_num)⟩ = r := fun r => Fin.ext (Nat.div_add_mod' _ _)
  have h86 : ∀ j : Fin 512, k0_pay7 (F := Ideal) (k0_pay1 (iblk m c 2 t) (iblk m c 3 t)) (k0_pay2 (iblk m c 2 t) (iblk m c 3 t))
        (k0_pay3 (iblk m c 2 t) (iblk m c 3 t)) (k0_pay4 (iblk m c 2 t) (iblk m c 3 t)) k0_pay5 (iblk m c 7 t) (ix2 (row b s) j) =
      nrm c128 (head (gated (fun j => aH m c (ix2 (Cert.Reference3Ideal.Out.tok (seq t b) s) j)) fun j => aO m c (ix2 (Cert.Reference3Ideal.Out.tok (seq t b) s) j)) ⟨j.val / 128, by omega⟩)
        ⟨j.val % 128, Nat.mod_lt _ (by norm_num)⟩ * aG m c (ix1 j) := fun j => by
    have hj : (⟨j.val / 128 * 128 + j.val % 128, by omega⟩ : Fin 512) = j := Fin.ext (Nat.div_add_mod' _ _)
    have e := heads_at (iblk m c 2 t) (iblk m c 3 t) (iblk m c 7 t) (row b s) ⟨j.val / 128, by omega⟩ ⟨j.val % 128, Nat.mod_lt _ (by norm_num)⟩
    rw [hj] at e
    refine e.trans ?_
    rw [gn_at, funext (hl_at m c t b s), funext (mo_at m c t b s)]
  have h119 : ∀ j : Fin 512, k0_pay8 (F := Ideal) (iblk m c 5 t) (View.ld (iblk m c 8 t) r0_3) (View.ld (iblk m c 8 t) r0_4) (View.ld (iblk m c 8 t) r0_5)
        (View.ld (iblk m c 8 t) r0_6) (iblk m c 6 t) (ix2 (row b s) j) =
      yat (vproj (fun k => aA m c (ix2 (Cert.Reference3Ideal.Out.tok (seq t b) s) k)) fun k j => aV m c (ix2 k j)) (fun j => aY m c (ix2 (Cert.Reference3Ideal.Out.tok (seq t b) s) j)) j := fun j => by
    have hj : (⟨j.val / 128 * 128 + j.val % 128, by omega⟩ : Fin 512) = j := Fin.ext (Nat.div_add_mod' _ _)
    have e := att_at (iblk m c 5 t) (View.ld (iblk m c 8 t) r0_3) (View.ld (iblk m c 8 t) r0_4) (View.ld (iblk m c 8 t) r0_5)
      (View.ld (iblk m c 8 t) r0_6) (iblk m c 6 t) (row b s) ⟨j.val / 128, by omega⟩ ⟨j.val % 128, Nat.mod_lt _ (by norm_num)⟩ (fun k j => aV m c (ix2 k j))
      (fun k l => (wuv0_at _ k l).trans (wuv_at m c t 0 k l)) (fun k l => (wuv1_at _ k l).trans (wuv_at m c t 1 k l))
      (fun k l => (wuv2_at _ k l).trans (wuv_at m c t 2 k l)) (fun k l => (wuv3_at _ k l).trans (wuv_at m c t 3 k l))
      (fun j => by
        rw [az_at]
        exact (fin_of_pre m hp c _ j).2)
    rw [hj] at e
    refine e.trans ?_
    rw [funext (o_at m c t b s), funext (az_at m c t b s)]
  refine (tile_at _ _ _ _ _ _ _ _ _ b s n (fun k n => aW m c (ix2 k n)) (fun j n => (w0_at _ j n).trans (w_at m c t _ n)) (fun j n => (w1_at _ j n).trans (w_at m c t _ n))
    (fun r j => ?_)).trans ?_
  · rw [← hr r, h81]
    exact (fin_of_pre m hp c _ j).1
  change lnorm (resid _ _ _ (fun j => k0_pay7 (F := Ideal) _ _ _ _ _ _ (ix2 (row b s) j) * (k0_pay6 (F := Ideal) _ (ix2 (row b s) j) * sg (k0_pay6 (F := Ideal) _ (ix2 (row b s) j))))
    (fun j => k0_pay8 (F := Ideal) _ _ _ _ _ _ (ix2 (row b s) j))) _ _ n = _
  simp only [h81, h86, h119]
  rw [funext (x_at m c t b s), funext (gate_at m c t b), funext (p_at m c t), funext (q_at m c t)]
  refine congrArg (fun a => lnorm (resid _ _ _ a _) _ _ n) (funext fun j => ?_)
  unfold ymlAt yml head
  have hj : (⟨j.val / 128 * 128 + j.val % 128, by omega⟩ : Fin 512) = j := Fin.ext (Nat.div_add_mod' _ _)
  rw [hj]

/-- The tile's body leaves the reference's result, at every index of its block. -/
theorem all (hp : Cert.Pre_Kernel3Ideal_finite3 m) (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = aX m c)
    (h1 : m' ((c.tc : Thread Cert.Reference3Ideal.nD Cert.Reference3Ideal.τ).loc Cert.Reference3Ideal.main_arg1) = aM m c)
    (h2 : m' ((c.tc : Thread Cert.Reference3Ideal.nD Cert.Reference3Ideal.τ).loc Cert.Reference3Ideal.main_arg2) = aH m c)
    (h3 : m' ((c.tc : Thread Cert.Reference3Ideal.nD Cert.Reference3Ideal.τ).loc Cert.Reference3Ideal.main_arg3) = aO m c)
    (h4 : m' ((c.tc : Thread Cert.Reference3Ideal.nD Cert.Reference3Ideal.τ).loc Cert.Reference3Ideal.main_arg4) = aZ m c)
    (h5 : m' ((c.tc : Thread Cert.Reference3Ideal.nD Cert.Reference3Ideal.τ).loc Cert.Reference3Ideal.main_arg5) = aA m c)
    (h6 : m' ((c.tc : Thread Cert.Reference3Ideal.nD Cert.Reference3Ideal.τ).loc Cert.Reference3Ideal.main_arg6) = aY m c)
    (h7 : m' ((c.tc : Thread Cert.Reference3Ideal.nD Cert.Reference3Ideal.τ).loc Cert.Reference3Ideal.main_arg7) = aV m c)
    (h8 : m' ((c.tc : Thread Cert.Reference3Ideal.nD Cert.Reference3Ideal.τ).loc Cert.Reference3Ideal.main_arg8) = aG m c)
    (h9 : m' ((c.tc : Thread Cert.Reference3Ideal.nD Cert.Reference3Ideal.τ).loc Cert.Reference3Ideal.main_arg9) = aW m c)
    (h10 : m' ((c.tc : Thread Cert.Reference3Ideal.nD Cert.Reference3Ideal.τ).loc Cert.Reference3Ideal.main_arg10) = aP m c)
    (h11 : m' ((c.tc : Thread Cert.Reference3Ideal.nD Cert.Reference3Ideal.τ).loc Cert.Reference3Ideal.main_arg11) = aQ m c) (t : Fin cfg0.N) (y : S64x8x1024.Idx) :
    k0_pay11 (F := Ideal) (k0_pay8 (iblk m c 5 t) (View.ld (iblk m c 8 t) r0_3) (View.ld (iblk m c 8 t) r0_4) (View.ld (iblk m c 8 t) r0_5) (View.ld (iblk m c 8 t) r0_6) (iblk m c 6 t))
      (k0_pay9 (k0_pay6 (iblk m c 4 t)) (k0_pay7 (k0_pay1 (iblk m c 2 t) (iblk m c 3 t)) (k0_pay2 (iblk m c 2 t) (iblk m c 3 t))
        (k0_pay3 (iblk m c 2 t) (iblk m c 3 t)) (k0_pay4 (iblk m c 2 t) (iblk m c 3 t)) k0_pay5 (iblk m c 7 t)) (Scalar.ofBits .f32 0x3F000000#32))
      (k0_pay10 (View.ld (iblk m c 9 t) r0_7)) (constant S512x1024 .f32 0x00000000#32) (View.ld (iblk m c 9 t) r0_8) (iblk m c 0 t) (iblk m c 1 t)
      (iblk m c 10 t) (iblk m c 11 t) y =
      Cert.Reference3Ideal.Value.res_out0 (F := Ideal) m' c (((cfg0.win 12).blk t).view.emb y) := by
  obtain ⟨b, s, n, rfl⟩ : ∃ (b : Fin 64) (s : Fin 8) (n : Fin 1024), y = (ix3 b s n : S64x8x1024.Idx) := ⟨y 0, y 1, y 2, eq_ix3 (n0 := 64) (n1 := 8) (n2 := 1024) y⟩
  exact ((point m c t hp b s n).trans (Cert.Reference3Ideal.Out.res_at m' c (aX m c) (aM m c) (aH m c) (aO m c) (aZ m c) (aY m c) (aA m c) (aV m c) (aG m c)
    (aW m c) (aP m c) (aQ m c) h0 h1 h2 h3 h4 h5 h6 h7 h8 h9 h10 h11 (seq t b) s n).symm).trans (congrArg (Cert.Reference3Ideal.Value.res_out0 (F := Ideal) m' c) (emb_eq t b s n).symm)

/-- The array the kernel writes is the reference's result. -/
theorem final (hp : Cert.Pre_Kernel3Ideal_finite3 m) (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = aX m c)
    (h1 : m' ((c.tc : Thread Cert.Reference3Ideal.nD Cert.Reference3Ideal.τ).loc Cert.Reference3Ideal.main_arg1) = aM m c)
    (h2 : m' ((c.tc : Thread Cert.Reference3Ideal.nD Cert.Reference3Ideal.τ).loc Cert.Reference3Ideal.main_arg2) = aH m c)
    (h3 : m' ((c.tc : Thread Cert.Reference3Ideal.nD Cert.Reference3Ideal.τ).loc Cert.Reference3Ideal.main_arg3) = aO m c)
    (h4 : m' ((c.tc : Thread Cert.Reference3Ideal.nD Cert.Reference3Ideal.τ).loc Cert.Reference3Ideal.main_arg4) = aZ m c)
    (h5 : m' ((c.tc : Thread Cert.Reference3Ideal.nD Cert.Reference3Ideal.τ).loc Cert.Reference3Ideal.main_arg5) = aA m c)
    (h6 : m' ((c.tc : Thread Cert.Reference3Ideal.nD Cert.Reference3Ideal.τ).loc Cert.Reference3Ideal.main_arg6) = aY m c)
    (h7 : m' ((c.tc : Thread Cert.Reference3Ideal.nD Cert.Reference3Ideal.τ).loc Cert.Reference3Ideal.main_arg7) = aV m c)
    (h8 : m' ((c.tc : Thread Cert.Reference3Ideal.nD Cert.Reference3Ideal.τ).loc Cert.Reference3Ideal.main_arg8) = aG m c)
    (h9 : m' ((c.tc : Thread Cert.Reference3Ideal.nD Cert.Reference3Ideal.τ).loc Cert.Reference3Ideal.main_arg9) = aW m c)
    (h10 : m' ((c.tc : Thread Cert.Reference3Ideal.nD Cert.Reference3Ideal.τ).loc Cert.Reference3Ideal.main_arg10) = aP m c)
    (h11 : m' ((c.tc : Thread Cert.Reference3Ideal.nD Cert.Reference3Ideal.τ).loc Cert.Reference3Ideal.main_arg11) = aQ m c) :
    (dats m 0 c).arrAt 12 cfg0.N = Cert.Reference3Ideal.Value.res_out0 (F := Ideal) m' c := by
  refine (dats m 0 c).arrAt_eq_of_covers 12 _ (by decide +kernel) fun t hf y => ?_
  have hy := all m hp m' c h0 h1 h2 h3 h4 h5 h6 h7 h8 h9 h10 h11 t y
  blk_simp
  rw [after0_12]
  unfold out0_12
  frame_out
  exact hy

end Cert.Kernel3Ideal.Out

end
-- ==== Proof.InSpec.lean ====
module

public import proofs.«01_k».proof.Proof.OutSpec

/-! The input block of one token over the extended reals: the modulated token's projections, the normalised latent and the
rotary key. -/

@[expose] public section

noncomputable section

namespace Cert.Gate

open Idealize.ShloMosaic

/-- The number one. -/
def oneC : EReal := Ideal.ofBits FTy.f32 0x3F800000#32
/-- The length of the latent. -/
def c256 : EReal := Ideal.ofBits FTy.f32 0x43800000#32
/-- The mLSTM's keys' factor. -/
def kfac : EReal := Ideal.ofBits FTy.f32 0x3DB504F3#32

/-- A token modulated. -/
def modl (x sc sh : Fin 1024 → EReal) (k : Fin 1024) : EReal := x k * (oneC + sc k) + sh k

/-- A projection of a modulated token. -/
def proj (h : Fin 1024 → EReal) (w : Fin 1024 → EReal) : EReal := ∑ k : Fin 1024, h k * w k

/-- The latent over the root of its mean square, under its weight. -/
def latn (z g : Fin 256 → EReal) (j : Fin 256) : EReal := z j * Ideal.rsqrt (mean c256 (fun y => z y * z y) + eps) * g j

/-- The rotary key: the two halves turned by the angles. -/
def turn (z : Fin 32 → EReal) (co si : Fin 16 → EReal) (r : Fin 32) : EReal :=
  if h : r.val < 16 then z r * co ⟨r.val, h⟩ - z ⟨r.val + 16, by omega⟩ * si ⟨r.val, h⟩
  else z r * co ⟨r.val - 16, by omega⟩ + z ⟨r.val - 16, by omega⟩ * si ⟨r.val - 16, by omega⟩

/-- The same from the number, the one 16 places on and the one 16 places back, each under its own factor, of which one is zero. -/
theorem turn_eq (z : Fin 32 → EReal) (co si : Fin 16 → EReal) (r : Fin 32) (zn zp cm lo hi : EReal)
    (hn : ∀ h : r.val < 16, zn = z ⟨r.val + 16, by omega⟩) (hp : ∀ h : ¬ r.val < 16, zp = z ⟨r.val - 16, by omega⟩)
    (hcm : cm = if h : r.val < 16 then co ⟨r.val, h⟩ else co ⟨r.val - 16, by omega⟩)
    (hlo : lo = if h : r.val < 16 then -si ⟨r.val, h⟩ else 0)
    (hhi : hi = if h : r.val < 16 then 0 else si ⟨r.val - 16, by omega⟩) :
    z r * cm + zn * lo + zp * hi = turn z co si r := by
  unfold turn
  by_cases h : r.val < 16
  · rw [dif_pos h] at hcm hlo hhi ⊢
    rw [hcm, hlo, hhi, hn h, mul_zero, add_zero, mul_neg, ← sub_eq_add_neg]
  · rw [dif_neg h] at hcm hlo hhi ⊢
    rw [hcm, hlo, hhi, hp h, mul_zero, add_zero]

end Cert.Gate

end
-- ==== Proof.InKer.lean ====
module

public import proofs.«01_k».proof.Proof.Gen.Kernel4Ideal.Frame
public import proofs.«01_k».proof.Proof.InSpec
public import Idealize.ShloMosaic.Init
public import Idealize.ShloMosaic.Lib.Pointwise
public import Idealize.ShloMosaic.Lib.KernelVsHost
public meta import Idealize.ShloMosaic.Lib.Tactic
public import Idealize.ShloMosaic.Lib.Tactic

/-! What the kernel of the prompt's input block computes of one tile of 512 tokens, over the extended reals, read at an element. -/

@[expose] public section

set_option maxRecDepth 16384
set_option Elab.async false

noncomputable section

namespace Cert.Kernel4Ideal.Out

open Cert.Kernel4Ideal Cert.Kernel4Ideal.Gen
open Idealize.ShloMosaic Idealize.ShloMosaic.TcCoe Idealize.SL.Sem
open Cert.Gate

/-- A modulated token's number. -/
theorem pay3_at (x : FVec Ideal S1x512x1024 .f32) (sc sh : FVec Ideal S1x1x1024 .f32) (r : Fin 512) (k : Fin 1024) :
    k0_pay3 (F := Ideal) x sc sh (ix2 r k) = modl (fun k => x (ix3 0 r k)) (fun k => sc (ix3 0 0 k)) (fun k => sh (ix3 0 0 k)) k := by
  unfold modl oneC
  pointwise [k0_pay3]

/-- A query. -/
theorem pay4_at (x : FVec Ideal S1x512x1024 .f32) (sc sh : FVec Ideal S1x1x1024 .f32) (w : FVec Ideal S1024x512 .bf16) (r j : Fin 512) :
    k0_pay4 (F := Ideal) x sc sh w (ix2 r j) = proj (fun k => k0_pay3 (F := Ideal) x sc sh (ix2 r k)) fun k => w (ix2 k j) := by
  unfold proj
  pointwise [k0_pay4]

/-- A key. -/
theorem pay5_at (x : FVec Ideal S1x512x1024 .f32) (sc sh : FVec Ideal S1x1x1024 .f32) (w : FVec Ideal S1024x512 .bf16) (r j : Fin 512) :
    k0_pay5 (F := Ideal) x sc sh w (ix2 r j) = (proj (fun k => k0_pay3 (F := Ideal) x sc sh (ix2 r k)) fun k => w (ix2 k j)) * kfac := by
  unfold proj kfac
  pointwise [k0_pay5]

/-- A value. -/
theorem pay6_at (x : FVec Ideal S1x512x1024 .f32) (sc sh : FVec Ideal S1x1x1024 .f32) (w : FVec Ideal S1024x512 .bf16) (r j : Fin 512) :
    k0_pay6 (F := Ideal) x sc sh w (ix2 r j) = proj (fun k => k0_pay3 (F := Ideal) x sc sh (ix2 r k)) fun k => w (ix2 k j) := by
  unfold proj
  pointwise [k0_pay6]

/-- The gates' and the rotary key's columns. -/
theorem pay7_at (x : FVec Ideal S1x512x1024 .f32) (sc sh : FVec Ideal S1x1x1024 .f32) (w : FVec Ideal S1024x256 .bf16) (r : Fin 512) (j : Fin 256) :
    k0_pay7 (F := Ideal) x sc sh w (ix2 r j) = proj (fun k => k0_pay3 (F := Ideal) x sc sh (ix2 r k)) fun k => w (ix2 k j) := by
  unfold proj
  pointwise [k0_pay7]

/-- The output gate. -/
theorem pay9_at (h : FVec Ideal S512x1024 .bf16) (w : FVec Ideal S1024x512 .bf16) (r j : Fin 512) :
    k0_pay9 (F := Ideal) h w (ix2 r j) = proj (fun k => h (ix2 r k)) fun k => w (ix2 k j) := by
  unfold proj
  pointwise [k0_pay9]

/-- The mLSTM's SiLU branch. -/
theorem pay10_at (h : FVec Ideal S512x1024 .bf16) (w : FVec Ideal S1024x512 .bf16) (r j : Fin 512) :
    k0_pay10 (F := Ideal) h w (ix2 r j) = proj (fun k => h (ix2 r k)) fun k => w (ix2 k j) := by
  unfold proj
  pointwise [k0_pay10]

/-- The attention's SiLU branch. -/
theorem pay11_at (h : FVec Ideal S512x1024 .bf16) (w : FVec Ideal S1024x512 .bf16) (r j : Fin 512) :
    k0_pay11 (F := Ideal) h w (ix2 r j) = proj (fun k => h (ix2 r k)) fun k => w (ix2 k j) := by
  unfold proj
  pointwise [k0_pay11]

/-- The latent normalised. -/
theorem pay12_at (h : FVec Ideal S512x1024 .bf16) (w : FVec Ideal S1024x256 .bf16) (g : FVec Ideal S1x256 .f32) (r : Fin 512) (j : Fin 256) :
    k0_pay12 (F := Ideal) h w g (ix2 r j) = latn (fun j => proj (fun k => h (ix2 r k)) fun k => w (ix2 k j)) (fun j => g (ix2 0 j)) j := by
  unfold latn mean proj c256 eps
  pointwise [k0_pay12]

/-- A row turned by 112 places, read at one of the key's 32. -/
theorem rot_fwd (x : FVec Ideal S512x128 .f32) (r : Fin 512) (q : Fin 32) :
    dynamicRotate 1 112#32 none x rotates_S512x128_d1 (ix2 r ⟨64 + q.val, by omega⟩ : S512x128.Idx) = x (ix2 r ⟨80 + q.val, by omega⟩) := by
  refine dynamicRotate_apply 1 112#32 x rotates_S512x128_d1 _ _ fun b => ?_
  obtain ⟨b, hb⟩ := b
  rcases (by have : b < 2 := hb; omega : b = 0 ∨ b = 1) with rfl | rfl
  · rfl
  · show 80 + q.val = (64 + q.val + 128 - 112 % 128) % 128
    omega

/-- A row turned by 16 places, read at one of the key's 32. -/
theorem rot_back (x : FVec Ideal S512x128 .f32) (r : Fin 512) (q : Fin 32) :
    dynamicRotate 1 16#32 none x rotates_S512x128_d1 (ix2 r ⟨64 + q.val, by omega⟩ : S512x128.Idx) = x (ix2 r ⟨48 + q.val, by omega⟩) := by
  refine dynamicRotate_apply 1 16#32 x rotates_S512x128_d1 _ _ fun b => ?_
  obtain ⟨b, hb⟩ := b
  rcases (by have : b < 2 := hb; omega : b = 0 ∨ b = 1) with rfl | rfl
  · rfl
  · show 48 + q.val = (64 + q.val + 128 - 16 % 128) % 128
    omega

/-- The key's 128 columns. -/
def kcols (z : FVec Ideal S512x256 .f32) : FVec Ideal S512x128 .f32 := extractStridedSlice S512x128 ![0, 128] z slices_S512x256_o0_128_S512x128

/-- One of them. -/
theorem kcols_at (z : FVec Ideal S512x256 .f32) (r : Fin 512) (j : Fin 128) : kcols z (ix2 r j) = z (ix2 r ⟨128 + j.val, by omega⟩) := by
  pointwise [kcols]

/-- Twice a cast to the same shape. -/
theorem pay14_eq (z : FVec Ideal S512x256 .f32) (cm lo hi : FVec Ideal S512x128 .f32) :
    k0_pay14 (F := Ideal) z cm lo hi = addf (addf (mulf (kcols z) (shapeCast S512x128 cm shapeCasts_S512x128_S512x128))
        (mulf (dynamicRotate 1 112#32 none (kcols z) rotates_S512x128_d1) (shapeCast S512x128 lo shapeCasts_S512x128_S512x128)))
      (mulf (dynamicRotate 1 16#32 none (kcols z) rotates_S512x128_d1) (shapeCast S512x128 hi shapeCasts_S512x128_S512x128)) := rfl

/-- The sum of three products at an element, of any three arrays. -/
theorem sum3_at (a b d cm lo hi : FVec Ideal S512x128 .f32) (r : Fin 512) (j : Fin 128) :
    (addf (addf (mulf a (shapeCast S512x128 cm shapeCasts_S512x128_S512x128)) (mulf b (shapeCast S512x128 lo shapeCasts_S512x128_S512x128)))
      (mulf d (shapeCast S512x128 hi shapeCasts_S512x128_S512x128)) (ix2 r j) : EReal) =
    a (ix2 r j) * cm (ix2 r j) + b (ix2 r j) * lo (ix2 r j) + d (ix2 r j) * hi (ix2 r j) := by
  pointwise

/-- The key's 32 columns of a tile, transposed. -/
theorem pay16_of (v : FVec Ideal S512x128 .f32) (q : Fin 32) (r : Fin 512) :
    k0_pay16 (F := Ideal) (extractStridedSlice S32x512 ![64, 0] (transpose S128x512 [1, 0] v transposes_S512x128_p1_0_S128x512) slices_S128x512_o64_0_S32x512) (ix3 0 q r) =
      v (ix2 r ⟨64 + q.val, by omega⟩) := by
  pointwise [k0_pay16]

/-- The rotary key. -/
theorem pay16_at (z : FVec Ideal S512x256 .f32) (cm lo hi : FVec Ideal S512x128 .f32) (q : Fin 32) (r : Fin 512) :
    (k0_pay16 (F := Ideal) (k0_pay15 z cm lo hi) (ix3 0 q r) : EReal) =
      z (ix2 r ⟨192 + q.val, by omega⟩) * cm (ix2 r ⟨64 + q.val, by omega⟩) + z (ix2 r ⟨208 + q.val, by omega⟩) * lo (ix2 r ⟨64 + q.val, by omega⟩)
        + z (ix2 r ⟨176 + q.val, by omega⟩) * hi (ix2 r ⟨64 + q.val, by omega⟩) := by
  refine (pay16_of (k0_pay14 z cm lo hi) q r).trans ?_
  rw [pay14_eq, sum3_at, rot_fwd, rot_back, kcols_at, kcols_at, kcols_at]
  have e1 : (⟨128 + (64 + q.val), by omega⟩ : Fin 256) = ⟨192 + q.val, by omega⟩ := Fin.ext (by show 128 + (64 + q.val) = 192 + q.val; omega)
  have e2 : (⟨128 + (80 + q.val), by omega⟩ : Fin 256) = ⟨208 + q.val, by omega⟩ := Fin.ext (by show 128 + (80 + q.val) = 208 + q.val; omega)
  have e3 : (⟨128 + (48 + q.val), by omega⟩ : Fin 256) = ⟨176 + q.val, by omega⟩ := Fin.ext (by show 128 + (48 + q.val) = 176 + q.val; omega)
  rw [e1, e2, e3]

/-- The rotary key, of columns which are a projection's and a table's three parts. -/
theorem key_at (z : FVec Ideal S512x256 .f32) (cm lo hi : FVec Ideal S512x128 .f32) (q : Fin 32) (r : Fin 512) (f : Fin 32 → EReal) (co si : Fin 16 → EReal)
    (hz : ∀ q : Fin 32, z (ix2 r ⟨192 + q.val, by omega⟩) = f q)
    (hcm : (cm (ix2 r ⟨64 + q.val, by omega⟩) : EReal) = if h : q.val < 16 then co ⟨q.val, h⟩ else co ⟨q.val - 16, by omega⟩)
    (hlo : (lo (ix2 r ⟨64 + q.val, by omega⟩) : EReal) = if h : q.val < 16 then -si ⟨q.val, h⟩ else 0)
    (hhi : (hi (ix2 r ⟨64 + q.val, by omega⟩) : EReal) = if h : q.val < 16 then 0 else si ⟨q.val - 16, by omega⟩) :
    (k0_pay16 (F := Ideal) (k0_pay15 z cm lo hi) (ix3 0 q r) : EReal) = turn f co si q := by
  rw [pay16_at, hz]
  refine turn_eq f co si q _ _ _ _ _ (fun h => ?_) (fun h => ?_) hcm hlo hhi
  · rw [← hz]
    exact congrArg (fun a => z (ix2 r a)) (Fin.ext (by show 208 + q.val = 192 + (q.val + 16); omega))
  · rw [← hz]
    exact congrArg (fun a => z (ix2 r a)) (Fin.ext (by show 176 + q.val = 192 + (q.val - 16); omega))

end Cert.Kernel4Ideal.Out

end
-- ==== Proof.InRef.lean ====
module

public import proofs.«01_k».proof.Proof.Gen.Reference4Ideal.Run
public import proofs.«01_k».proof.Proof.InSpec
public import Idealize.ShloMosaic.Init
public import Idealize.ShloMosaic.Lib.Pointwise
public meta import Idealize.ShloMosaic.Lib.Tactic
public import Idealize.ShloMosaic.Lib.Tactic

/-! The reference of the prompt's input block over the extended reals, read at an element. -/

@[expose] public section

set_option maxRecDepth 16384
set_option Elab.async false

noncomputable section

namespace Cert.Reference4Ideal.Out

open Cert.Reference4Ideal Cert.Reference4Ideal.Gen
open Idealize.ShloMosaic Idealize.ShloMosaic.TcCoe Idealize.SL.Sem
open Cert.Gate

/-- The tokens modulated. -/
def rH (X : FVec Ideal S2x8192x1024 .f32) (M : FVec Ideal S2x1x3072 .f32) : FVec Ideal S2x8192x1024 .f32 :=
  addf (mulf X (broadcastInDim S2x8192x1024 ![0, 1, 2] bcast_S2x1x1024_S2x8192x1024_0_1_2
      (addf (broadcastInDim S2x1x1024 ![] bcast_S_S2x1x1024 (constant S_ .f32 0x3F800000#32)) (extractStridedSlice S2x1x1024 ![0, 0, 1024] M slices_S2x1x3072_S2x1x1024_0_0_1024))))
    (broadcastInDim S2x8192x1024 ![0, 1, 2] bcast_S2x1x1024_S2x8192x1024_0_1_2 (extractStridedSlice S2x1x1024 ![0, 0, 0] M slices_S2x1x3072_S2x1x1024_0_0_0))
/-- Every projection of every token. -/
def rP (H : FVec Ideal S2x8192x1024 .f32) (W : FVec Ideal S1024x3968 .bf16) : FVec Ideal S2x8192x3968 .f32 :=
  Host.dotGeneral dot_S2x8192x1024_S1024x3968_S2x8192x3968_2_0_01_1_n_n none H W
/-- The mLSTM's queries. -/
def q0 (P : FVec Ideal S2x8192x3968 .f32) : FVec Ideal S16384x512 .bf16 :=
  truncf .bf16 (shapeCast _ (extractStridedSlice S2x8192x512 ![0, 0, 0] P slices_S2x8192x3968_S2x8192x512_0_0_0) shapeCasts_S2x8192x512_S16384x512) bitsLt_bf16_f32
/-- The mLSTM's keys. -/
def q1 (P : FVec Ideal S2x8192x3968 .f32) : FVec Ideal S16384x512 .bf16 :=
  truncf .bf16 (shapeCast _ (mulf (extractStridedSlice S2x8192x512 ![0, 0, 512] P slices_S2x8192x3968_S2x8192x512_0_0_512)
    (broadcastInDim S2x8192x512 ![] bcast_S_S2x8192x512 (constant S_ .f32 0x3DB504F3#32))) shapeCasts_S2x8192x512_S16384x512) bitsLt_bf16_f32
/-- The mLSTM's values. -/
def q2 (P : FVec Ideal S2x8192x3968 .f32) : FVec Ideal S16384x512 .bf16 :=
  truncf .bf16 (shapeCast _ (extractStridedSlice S2x8192x512 ![0, 0, 1024] P slices_S2x8192x3968_S2x8192x512_0_0_1024) shapeCasts_S2x8192x512_S16384x512) bitsLt_bf16_f32
/-- The mLSTM's output gate. -/
def q3 (P : FVec Ideal S2x8192x3968 .f32) : FVec Ideal S16384x512 .bf16 :=
  truncf .bf16 (shapeCast _ (extractStridedSlice S2x8192x512 ![0, 0, 1792] P slices_S2x8192x3968_S2x8192x512_0_0_1792) shapeCasts_S2x8192x512_S16384x512) bitsLt_bf16_f32
/-- The mLSTM's SiLU branch. -/
def q4 (P : FVec Ideal S2x8192x3968 .f32) : FVec Ideal S16384x512 .bf16 :=
  truncf .bf16 (shapeCast _ (extractStridedSlice S2x8192x512 ![0, 0, 2304] P slices_S2x8192x3968_S2x8192x512_0_0_2304) shapeCasts_S2x8192x512_S16384x512) bitsLt_bf16_f32
/-- The attention's SiLU branch. -/
def q5 (P : FVec Ideal S2x8192x3968 .f32) : FVec Ideal S16384x512 .bf16 :=
  truncf .bf16 (shapeCast _ (extractStridedSlice S2x8192x512 ![0, 0, 3456] P slices_S2x8192x3968_S2x8192x512_0_0_3456) shapeCasts_S2x8192x512_S16384x512) bitsLt_bf16_f32
/-- The latent. -/
def rC (P : FVec Ideal S2x8192x3968 .f32) : FVec Ideal S2x8192x256 .f32 :=
  extractStridedSlice S2x8192x256 ![0, 0, 3200] P slices_S2x8192x3968_S2x8192x256_0_0_3200
/-- The latent normalised. -/
def q6 (P : FVec Ideal S2x8192x3968 .f32) (G : FVec Ideal S256 .f32) : FVec Ideal S16384x256 .f32 :=
  shapeCast _ (mulf (mulf (rC P) (broadcastInDim S2x8192x256 ![0, 1, 2] bcast_S2x8192x1_S2x8192x256_0_1_2
    (Host.rsqrt (addf (Host.divf (broadcastInDim S2x8192x1 ![0, 1] bcast_S2x8192_S2x8192x1_0_1
        (Host.reduceAdd (mulf (rC P) (rC P)) (constant S_ .f32 0x00000000#32) reducesTo_S2x8192x256_S2x8192_d2 h_S_))
      (broadcastInDim S2x8192x1 ![] bcast_S_S2x8192x1 (constant S_ .f32 0x43800000#32))) (broadcastInDim S2x8192x1 ![] bcast_S_S2x8192x1 (constant S_ .f32 0x358637BD#32))))))
    (broadcastInDim S2x8192x256 ![0, 1, 2] bcast_S1x1x256_S2x8192x256_0_1_2 (broadcastInDim S1x1x256 ![2] bcast_S256_S1x1x256_2 G))) shapeCasts_S2x8192x256_S16384x256
/-- The key before it is turned. -/
def rK (P : FVec Ideal S2x8192x3968 .f32) : FVec Ideal S2x8192x32 .f32 :=
  extractStridedSlice S2x8192x32 ![0, 0, 1728] P slices_S2x8192x3968_S2x8192x32_0_0_1728
/-- A table for both sequences. -/
def rT (T : FVec Ideal S8192x16 .f32) : FVec Ideal S2x8192x16 .f32 :=
  broadcastInDim S2x8192x16 ![0, 1, 2] bcast_S1x8192x16_S2x8192x16_0_1_2 (broadcastInDim S1x8192x16 ![1, 2] bcast_S8192x16_S1x8192x16_1_2 T)
/-- The rotary key. -/
def q7 (P : FVec Ideal S2x8192x3968 .f32) (C S : FVec Ideal S8192x16 .f32) : FVec Ideal S2x32x8192 .f32 :=
  transpose S2x32x8192 [0, 2, 1] (concatenate S2x8192x32 2
    [⟨S2x8192x16, (subf (mulf (extractStridedSlice S2x8192x16 ![0, 0, 0] (rK P) slices_S2x8192x32_S2x8192x16_0_0_0) (rT C))
        (mulf (extractStridedSlice S2x8192x16 ![0, 0, 16] (rK P) slices_S2x8192x32_S2x8192x16_0_0_16) (rT S)))⟩,
      ⟨S2x8192x16, (addf (mulf (extractStridedSlice S2x8192x16 ![0, 0, 16] (rK P) slices_S2x8192x32_S2x8192x16_0_0_16) (rT C))
        (mulf (extractStridedSlice S2x8192x16 ![0, 0, 0] (rK P) slices_S2x8192x32_S2x8192x16_0_0_0) (rT S)))⟩]
    concatenates_S2x8192x16_S2x8192x16_S2x8192x32_d2) transposes_S2x8192x32_S2x32x8192_0_2_1

/-- A modulated token's number. -/
theorem rH_at (X : FVec Ideal S2x8192x1024 .f32) (M : FVec Ideal S2x1x3072 .f32) (b : Fin 2) (s : Fin 8192) (k : Fin 1024) :
    rH X M (ix3 b s k) = modl (fun k => X (ix3 b s k)) (fun k => M (ix3 b 0 ⟨1024 + k.val, by omega⟩)) (fun k => M (ix3 b 0 ⟨k.val, by omega⟩)) k := by
  unfold modl oneC
  pointwise [rH]

/-- A projection. -/
theorem rP_at (H : FVec Ideal S2x8192x1024 .f32) (W : FVec Ideal S1024x3968 .bf16) (b : Fin 2) (s : Fin 8192) (n : Fin 3968) :
    rP H W (ix3 b s n) = proj (fun k => H (ix3 b s k)) fun k => W (ix2 k n) := by
  unfold proj
  pointwise [rP]

/-- A token's sequence. -/
def tb (n : Fin 16384) : Fin 2 := ⟨n.val / 8192, by omega⟩
/-- A token's place in its sequence. -/
def ts (n : Fin 16384) : Fin 8192 := ⟨n.val % 8192, by omega⟩

section Tok

variable (P : FVec Ideal S2x8192x3968 .f32) (n : Fin 16384) (b : Fin 2) (s : Fin 8192) (hb : n.val / 8192 = b.val) (hs : n.val % 8192 = s.val)
include hb hs

/-- A query. -/
theorem q0_at (j : Fin 512) : q0 P (ix2 n j) = P (ix3 b s ⟨j.val, by omega⟩) := by
  rw [show b = tb n from Fin.ext hb.symm, show s = ts n from Fin.ext hs.symm]
  unfold tb ts
  pointwise [q0]

/-- A key. -/
theorem q1_at (j : Fin 512) : q1 P (ix2 n j) = (P (ix3 b s ⟨512 + j.val, by omega⟩) * kfac : EReal) := by
  rw [show b = tb n from Fin.ext hb.symm, show s = ts n from Fin.ext hs.symm]
  unfold tb ts
  unfold kfac
  pointwise [q1]

/-- A value. -/
theorem q2_at (j : Fin 512) : q2 P (ix2 n j) = P (ix3 b s ⟨1024 + j.val, by omega⟩) := by
  rw [show b = tb n from Fin.ext hb.symm, show s = ts n from Fin.ext hs.symm]
  unfold tb ts
  pointwise [q2]

/-- The output gate. -/
theorem q3_at (j : Fin 512) : q3 P (ix2 n j) = P (ix3 b s ⟨1792 + j.val, by omega⟩) := by
  rw [show b = tb n from Fin.ext hb.symm, show s = ts n from Fin.ext hs.symm]
  unfold tb ts
  pointwise [q3]

/-- The mLSTM's SiLU branch. -/
theorem q4_at (j : Fin 512) : q4 P (ix2 n j) = P (ix3 b s ⟨2304 + j.val, by omega⟩) := by
  rw [show b = tb n from Fin.ext hb.symm, show s = ts n from Fin.ext hs.symm]
  unfold tb ts
  pointwise [q4]

/-- The attention's SiLU branch. -/
theorem q5_at (j : Fin 512) : q5 P (ix2 n j) = P (ix3 b s ⟨3456 + j.val, by omega⟩) := by
  rw [show b = tb n from Fin.ext hb.symm, show s = ts n from Fin.ext hs.symm]
  unfold tb ts
  pointwise [q5]

/-- The latent normalised. -/
theorem q6_at (G : FVec Ideal S256 .f32) (j : Fin 256) :
    q6 P G (ix2 n j) = latn (fun j => P (ix3 b s ⟨3200 + j.val, by omega⟩)) (fun j => G (ix1 j)) j := by
  rw [show b = tb n from Fin.ext hb.symm, show s = ts n from Fin.ext hs.symm]
  unfold tb ts
  unfold latn mean c256 eps
  pointwise [q6, rC]

end Tok

/-- The rotary key. -/
theorem q7_at (P : FVec Ideal S2x8192x3968 .f32) (b : Fin 2) (s : Fin 8192) (C S : FVec Ideal S8192x16 .f32) (r : Fin 32) :
    q7 P C S (ix3 b r s) = turn (fun j => P (ix3 b s ⟨1728 + j.val, by omega⟩)) (fun j => C (ix2 s j)) (fun j => S (ix2 s j)) r := by
  unfold turn
  pointwise [q7, rK, rT]
  by_cases h : r.val < 16
  · refine (dif_pos h).trans (Eq.trans ?_ (dif_pos h).symm)
    have e : (⟨1728 + (16 + r.val), by omega⟩ : Fin 3968) = ⟨1728 + (r.val + 16), by omega⟩ := Fin.ext (by show 1728 + (16 + r.val) = 1728 + (r.val + 16); omega)
    rw [e]
  · refine (dif_neg h).trans (Eq.trans ?_ (dif_neg h).symm)
    have e : (⟨1728 + (16 + (r.val - 16)), by omega⟩ : Fin 3968) = ⟨1728 + r.val, by omega⟩ := Fin.ext (by show 1728 + (16 + (r.val - 16)) = 1728 + r.val; omega)
    rw [e]

end Cert.Reference4Ideal.Out

end
-- ==== Proof.InTab.lean ====
module

public import proofs.«01_k».proof.Proof.Gen.Kernel4Ideal.Frame
public import proofs.«01_k».proof.Proof.InSpec
public import Idealize.ShloMosaic.Init
public import Idealize.ShloMosaic.Lib.Pointwise
public import Idealize.ShloMosaic.Lib.StableHlo.RunRead
public meta import Idealize.ShloMosaic.Lib.StableHlo.RunRead
public meta import Idealize.ShloMosaic.Lib.Tactic
public import Idealize.ShloMosaic.Lib.Tactic

/-! The table the input block's kernel is given, made from the cosines and the sines. -/

@[expose] public section

set_option maxRecDepth 16384
set_option Elab.async false

noncomputable section

namespace Cert.Kernel4Ideal.Out

open Cert.Kernel4Ideal Cert.Kernel4Ideal.Gen
open Idealize.ShloMosaic Idealize.ShloMosaic.TcCoe Idealize.SL.Sem
open Cert.Gate

/-- The factors of the number itself. -/
def tabC (C : FVec Ideal S8192x16 .f32) : FVec Ideal S8192x128 .f32 :=
  concatenate S8192x128 1 [⟨S8192x64, broadcastInDim S8192x64 ![] bcast_S_S8192x64 (constant (F := Ideal) S_ .f32 0x3F800000#32)⟩, ⟨S8192x16, C⟩, ⟨S8192x16, C⟩,
    ⟨S8192x32, broadcastInDim S8192x32 ![] bcast_S_S8192x32 (constant (F := Ideal) S_ .f32 0x00000000#32)⟩] concatenates_S8192x64_S8192x16_S8192x16_S8192x32_S8192x128_d1
/-- The factors of the number 16 places on. -/
def tabL (S : FVec Ideal S8192x16 .f32) : FVec Ideal S8192x128 .f32 :=
  concatenate S8192x128 1 [⟨S8192x64, broadcastInDim S8192x64 ![] bcast_S_S8192x64 (constant (F := Ideal) S_ .f32 0x00000000#32)⟩, ⟨S8192x16, Host.negf S⟩,
    ⟨S8192x16, broadcastInDim S8192x16 ![] bcast_S_S8192x16 (constant (F := Ideal) S_ .f32 0x00000000#32)⟩,
    ⟨S8192x32, broadcastInDim S8192x32 ![] bcast_S_S8192x32 (constant (F := Ideal) S_ .f32 0x00000000#32)⟩] concatenates_S8192x64_S8192x16_S8192x16_S8192x32_S8192x128_d1
/-- The factors of the number 16 places back. -/
def tabH (S : FVec Ideal S8192x16 .f32) : FVec Ideal S8192x128 .f32 :=
  concatenate S8192x128 1 [⟨S8192x64, broadcastInDim S8192x64 ![] bcast_S_S8192x64 (constant (F := Ideal) S_ .f32 0x00000000#32)⟩,
    ⟨S8192x16, broadcastInDim S8192x16 ![] bcast_S_S8192x16 (constant (F := Ideal) S_ .f32 0x00000000#32)⟩, ⟨S8192x16, S⟩,
    ⟨S8192x32, broadcastInDim S8192x32 ![] bcast_S_S8192x32 (constant (F := Ideal) S_ .f32 0x00000000#32)⟩] concatenates_S8192x64_S8192x16_S8192x16_S8192x32_S8192x128_d1
/-- Three parts side by side. -/
def tab3 (a b c : FVec Ideal S8192x128 .f32) : FVec Ideal S8192x384 .f32 :=
  concatenate S8192x384 1 [⟨S8192x128, a⟩, ⟨S8192x128, b⟩, ⟨S8192x128, c⟩] concatenates_S8192x128_S8192x128_S8192x128_S8192x384_d1

section Line

variable (U : Valuation τ sig (Elt Ideal))

/-- The first part, when the table is put together. -/
theorem line_c : StableHlo.upto hostOps0 U 20 (Proc.devRef .tc main_v2) = tabC (U (Proc.devRef .tc main_arg2)) := by
  after_reads_simp
  rfl

/-- The second part. -/
theorem line_l : StableHlo.upto hostOps0 U 20 (Proc.devRef .tc main_v7) = tabL (U (Proc.devRef .tc main_arg3)) := by
  after_reads_simp
  rfl

/-- The third part. -/
theorem line_h : StableHlo.upto hostOps0 U 20 (Proc.devRef .tc main_v11) = tabH (U (Proc.devRef .tc main_arg3)) := by
  after_reads_simp
  rfl

/-- The table. -/
theorem line_t : StableHlo.after hostOps0 U (Proc.devRef .tc main_v12) =
    tab3 (tabC (U (Proc.devRef .tc main_arg2))) (tabL (U (Proc.devRef .tc main_arg3))) (tabH (U (Proc.devRef .tc main_arg3))) := by
  have e : ∀ a b c : FVec Ideal S8192x128 .f32, StableHlo.upto hostOps0 U 20 (Proc.devRef .tc main_v2) = a → StableHlo.upto hostOps0 U 20 (Proc.devRef .tc main_v7) = b →
      StableHlo.upto hostOps0 U 20 (Proc.devRef .tc main_v11) = c → StableHlo.after hostOps0 U (Proc.devRef .tc main_v12) = tab3 a b c := fun a b c ha hb hc => by
    after_reads_simp
    subst ha hb hc
    rfl
  exact e _ _ _ (line_c U) (line_l U) (line_h U)

end Line

/-- The first part at the key's 32 columns. -/
theorem tabC_at (C : FVec Ideal S8192x16 .f32) (s : Fin 8192) (q : Fin 32) :
    (tabC C (ix2 s ⟨64 + q.val, by omega⟩) : EReal) = if h : q.val < 16 then C (ix2 s ⟨q.val, h⟩) else C (ix2 s ⟨q.val - 16, by omega⟩) := by
  pointwise [tabC]
  by_cases h : q.val < 16
  · refine (dif_pos h).trans (Eq.trans ?_ (dif_pos h).symm)
    rfl
  · refine (dif_neg h).trans (Eq.trans ?_ (dif_neg h).symm)
    exact dif_pos (by omega)

/-- The second part there. -/
theorem tabL_at (S : FVec Ideal S8192x16 .f32) (s : Fin 8192) (q : Fin 32) :
    (tabL S (ix2 s ⟨64 + q.val, by omega⟩) : EReal) = if h : q.val < 16 then -(S (ix2 s ⟨q.val, h⟩) : EReal) else 0 := by
  pointwise [tabL]
  by_cases h : q.val < 16
  · refine (dif_pos h).trans (Eq.trans ?_ (dif_pos h).symm)
    rfl
  · refine (dif_neg h).trans (Eq.trans ?_ (dif_neg h).symm)
    exact dif_pos (by omega)

/-- The third part there. -/
theorem tabH_at (S : FVec Ideal S8192x16 .f32) (s : Fin 8192) (q : Fin 32) :
    (tabH S (ix2 s ⟨64 + q.val, by omega⟩) : EReal) = if h : q.val < 16 then 0 else (S (ix2 s ⟨q.val - 16, by omega⟩) : EReal) := by
  pointwise [tabH]
  by_cases h : q.val < 16
  · refine (dif_pos h).trans (Eq.trans ?_ (dif_pos h).symm)
    rfl
  · refine (dif_neg h).trans (Eq.trans ?_ (dif_neg h).symm)
    exact dif_pos (by omega)

/-- Three parts side by side, read in each. -/
theorem tab3_at (a b c : FVec Ideal S8192x128 .f32) (s : Fin 8192) (j : Fin 128) :
    tab3 a b c (ix2 s ⟨j.val, by omega⟩) = a (ix2 s j) ∧ tab3 a b c (ix2 s ⟨128 + j.val, by omega⟩) = b (ix2 s j)
      ∧ tab3 a b c (ix2 s ⟨256 + j.val, by omega⟩) = c (ix2 s j) := by
  refine ⟨?_, ?_, ?_⟩ <;> pointwise [tab3]
  refine (dif_neg (by omega)).trans ((dif_neg (by omega)).trans (congrArg (fun j => c (ix2 s j)) (Fin.ext ?_)))
  show 256 + j.val - 128 - 128 = j.val
  omega

end Cert.Kernel4Ideal.Out

end
-- ==== Proof.InFinal.lean ====
module

public import proofs.«01_k».proof.Proof.InKer
public import proofs.«01_k».proof.Proof.InRef
public import proofs.«01_k».proof.Proof.InTab
public import proofs.«01_k».proof.Proof.Gen.Kernel4Ideal.Value
public import Idealize.ShloMosaic.Lib.Pipeline.ValueKit
public import Idealize.ShloMosaic.Lib.Pointwise
public meta import Idealize.ShloMosaic.Lib.Tactic
public import Idealize.ShloMosaic.Lib.Tactic

/-! The kernel of the prompt's input block gives the reference's eight results. -/

@[expose] public section

set_option maxRecDepth 16384
set_option Elab.async false

noncomputable section

namespace Cert.Kernel4Ideal.Out

open Cert.Kernel4Ideal Cert.Kernel4Ideal.Gen
open Idealize.ShloMosaic Idealize.ShloMosaic.TcCoe Idealize.SL.Sem
open Idealize.ShloMosaic.Pipeline (Dat)
open Cert.Gate

variable (m : (ℓ : Loc nD τ sig) → Buf (Elt Ideal) ℓ)

/-- The residual. -/
abbrev aX (c : Dev nD) : FVec Ideal S2x8192x1024 .f32 := m ((c.tc : Thread nD τ).loc main_arg0)
/-- The modulation. -/
abbrev aM (c : Dev nD) : FVec Ideal S2x1x3072 .f32 := m ((c.tc : Thread nD τ).loc main_arg1)
/-- The cosines. -/
abbrev aC (c : Dev nD) : FVec Ideal S8192x16 .f32 := m ((c.tc : Thread nD τ).loc main_arg2)
/-- The sines. -/
abbrev aS (c : Dev nD) : FVec Ideal S8192x16 .f32 := m ((c.tc : Thread nD τ).loc main_arg3)
/-- The projection. -/
abbrev aW (c : Dev nD) : FVec Ideal S1024x3968 .bf16 := m ((c.tc : Thread nD τ).loc main_arg4)
/-- The latent's weight. -/
abbrev aG (c : Dev nD) : FVec Ideal S256 .f32 := m ((c.tc : Thread nD τ).loc main_arg8)

/-- Every window's block at every grid point. -/
theorem idx_val : ∀ t : Fin cfg0.N, win0_0.index t = ![t.val / 16, t.val % 16, 0]
    ∧ win0_1.index t = ![t.val / 16, 0, 0]
    ∧ win0_2.index t = ![t.val / 16, 0, 1]
    ∧ win0_3.index t = ![t.val % 16, 0]
    ∧ win0_4.index t = ![0, 0]
    ∧ win0_7.index t = ![0, 0]
    ∧ win0_11.index t = ![t.val, 0]
    ∧ win0_12.index t = ![t.val, 0]
    ∧ win0_13.index t = ![t.val, 0]
    ∧ win0_15.index t = ![t.val, 0]
    ∧ win0_16.index t = ![t.val, 0]
    ∧ win0_17.index t = ![t.val, 0]
    ∧ win0_18.index t = ![t.val, 0]
    ∧ win0_19.index t = ![t.val / 16, 0, t.val % 16]
    ∧ t.val < 32 :=
  (by decide +kernel : ∀ t : Fin grid0.N, _)

/-- There are 32 tiles. -/
theorem lt32 (t : Fin cfg0.N) : t.val < 32 := (idx_val t).2.2.2.2.2.2.2.2.2.2.2.2.2.2

/-- A tile's sequence. -/
def sq (t : Fin cfg0.N) : Fin 2 := ⟨t.val / 16, by have := lt32 t; omega⟩

/-- A tile's row in its sequence. -/
def ps (t : Fin cfg0.N) (r : Fin 512) : Fin 8192 := ⟨t.val % 16 * 512 + r.val, by omega⟩

/-- A tile's row among all tokens. -/
def tok (t : Fin cfg0.N) (r : Fin 512) : Fin 16384 := ⟨t.val * 512 + r.val, by have := lt32 t; omega⟩

/-- Its sequence. -/
theorem tok_sq (t : Fin cfg0.N) (r : Fin 512) : (tok t r).val / 8192 = (sq t).val := by
  show (t.val * 512 + r.val) / 8192 = t.val / 16
  omega

/-- Its place there. -/
theorem tok_ps (t : Fin cfg0.N) (r : Fin 512) : (tok t r).val % 8192 = (ps t r).val := by
  show (t.val * 512 + r.val) % 8192 = t.val % 16 * 512 + r.val
  omega

variable (c : Dev nD) (t : Fin cfg0.N)

/-- The residual's block. -/
theorem x_at (r : Fin 512) (k : Fin 1024) : (iblk m c 0 t : FVec Ideal S1x512x1024 .f32) (ix3 0 r k) = aX m c (ix3 (sq t) (ps t r) k) := by
  unfold sq ps
  blk_ext! [iblk, V, idx_val t]

/-- The shift's block. -/
theorem sh_at (k : Fin 1024) : (iblk m c 1 t : FVec Ideal S1x1x1024 .f32) (ix3 0 0 k) = aM m c (ix3 (sq t) 0 ⟨k.val, by omega⟩) := by
  unfold sq
  blk_ext! [iblk, V, idx_val t]

/-- The scale's block. -/
theorem sc_at (k : Fin 1024) : (iblk m c 2 t : FVec Ideal S1x1x1024 .f32) (ix3 0 0 k) = aM m c (ix3 (sq t) 0 ⟨1024 + k.val, by omega⟩) := by
  unfold sq
  blk_ext! [iblk, V, idx_val t]

/-- The projection's block. -/
theorem w_at (k : Fin 1024) (n : Fin 3968) : (iblk m c 4 t : FVec Ideal S1024x3968 .bf16) (ix2 k n) = aW m c (ix2 k n) := by
  blk_ext! [iblk, V, idx_val t]

/-- The latent's weight. -/
theorem g_at (j : Fin 256) : (iblk m c 7 t : FVec Ideal S1x256 .f32) (ix2 0 j) = aG m c (ix1 j) := by
  blk_simp [iblk, idx_val t]
  entry_read
  pointwise
  blk_ext [idx_val t]

/-- The table's block. -/
theorem tab_at (r : Fin 512) (j : Fin 384) : (iblk m c 3 t : FVec Ideal S512x384 .f32) (ix2 r j) = tab3 (tabC (aC m c)) (tabL (aS m c)) (tabH (aS m c)) (ix2 (ps t r) j) := by
  refine Eq.trans ?_ (congrFun (line_t fun b => m (c, b)) (ix2 (ps t r) j))
  unfold ps
  blk_ext! [iblk, V, idx_val t]

/-- An index of two coordinates, from its coordinates. -/
theorem ix2_of {n0 n1 : Nat} (q : Shape.Idx ⟨2, ![n0, n1]⟩) (i : Fin n0) (j : Fin n1) (h0 : (q 0).val = i.val) (h1 : (q 1).val = j.val) : q = ix2 i j := by
  refine funext fun a => Fin.ext ?_
  obtain ⟨a, ha⟩ := a
  rcases (by have : a < 2 := ha; omega : a = 0 ∨ a = 1) with rfl | rfl
  · exact h0
  · exact h1

/-- The queries' columns. -/
theorem ld2_at (x : Vec Ideal S1024x3968 .bf16) (k : Fin 1024) (j : Fin 512) : View.ld x r0_2 (ix2 k j : S1024x512.Idx) = x (ix2 k ⟨j.val, by omega⟩) := by
  refine congrArg x (ix2_of _ _ _ ?_ ?_)
  · show 0 + 1 * k.val = _
    simp
  · show 0 + 1 * j.val = _
    simp

/-- The keys' columns. -/
theorem ld4_at (x : Vec Ideal S1024x3968 .bf16) (k : Fin 1024) (j : Fin 512) : View.ld x r0_4 (ix2 k j : S1024x512.Idx) = x (ix2 k ⟨512 + j.val, by omega⟩) := by
  refine congrArg x (ix2_of _ _ _ ?_ ?_)
  · show 0 + 1 * k.val = _
    simp
  · show 512 + 1 * j.val = _
    simp

/-- The values' columns. -/
theorem ld5_at (x : Vec Ideal S1024x3968 .bf16) (k : Fin 1024) (j : Fin 512) : View.ld x r0_5 (ix2 k j : S1024x512.Idx) = x (ix2 k ⟨1024 + j.val, by omega⟩) := by
  refine congrArg x (ix2_of _ _ _ ?_ ?_)
  · show 0 + 1 * k.val = _
    simp
  · show 1024 + 1 * j.val = _
    simp

/-- The gates' and the rotary key's columns. -/
theorem ld6_at (x : Vec Ideal S1024x3968 .bf16) (k : Fin 1024) (j : Fin 256) : View.ld x r0_6 (ix2 k j : S1024x256.Idx) = x (ix2 k ⟨1536 + j.val, by omega⟩) := by
  refine congrArg x (ix2_of _ _ _ ?_ ?_)
  · show 0 + 1 * k.val = _
    simp
  · show 1536 + 1 * j.val = _
    simp

/-- The output gate's columns. -/
theorem ld9_at (x : Vec Ideal S1024x3968 .bf16) (k : Fin 1024) (j : Fin 512) : View.ld x r0_9 (ix2 k j : S1024x512.Idx) = x (ix2 k ⟨1792 + j.val, by omega⟩) := by
  refine congrArg x (ix2_of _ _ _ ?_ ?_)
  · show 0 + 1 * k.val = _
    simp
  · show 1792 + 1 * j.val = _
    simp

/-- The SiLU branch's columns. -/
theorem ld10_at (x : Vec Ideal S1024x3968 .bf16) (k : Fin 1024) (j : Fin 512) : View.ld x r0_10 (ix2 k j : S1024x512.Idx) = x (ix2 k ⟨2304 + j.val, by omega⟩) := by
  refine congrArg x (ix2_of _ _ _ ?_ ?_)
  · show 0 + 1 * k.val = _
    simp
  · show 2304 + 1 * j.val = _
    simp

/-- The attention's SiLU branch's columns. -/
theorem ld11_at (x : Vec Ideal S1024x3968 .bf16) (k : Fin 1024) (j : Fin 512) : View.ld x r0_11 (ix2 k j : S1024x512.Idx) = x (ix2 k ⟨3456 + j.val, by omega⟩) := by
  refine congrArg x (ix2_of _ _ _ ?_ ?_)
  · show 0 + 1 * k.val = _
    simp
  · show 3456 + 1 * j.val = _
    simp

/-- The latent's columns. -/
theorem ld12_at (x : Vec Ideal S1024x3968 .bf16) (k : Fin 1024) (j : Fin 256) : View.ld x r0_12 (ix2 k j : S1024x256.Idx) = x (ix2 k ⟨3200 + j.val, by omega⟩) := by
  refine congrArg x (ix2_of _ _ _ ?_ ?_)
  · show 0 + 1 * k.val = _
    simp
  · show 3200 + 1 * j.val = _
    simp

/-- The table's first part. -/
theorem ld15_at (x : Vec Ideal S512x384 .f32) (r : Fin 512) (j : Fin 128) : View.ld x r0_15 (ix2 r j : S512x128.Idx) = x (ix2 r ⟨j.val, by omega⟩) := by
  refine congrArg x (ix2_of _ _ _ ?_ ?_)
  · show 0 + 1 * r.val = _
    simp
  · show 0 + 1 * j.val = _
    simp

/-- The table's second part. -/
theorem ld16_at (x : Vec Ideal S512x384 .f32) (r : Fin 512) (j : Fin 128) : View.ld x r0_16 (ix2 r j : S512x128.Idx) = x (ix2 r ⟨128 + j.val, by omega⟩) := by
  refine congrArg x (ix2_of _ _ _ ?_ ?_)
  · show 0 + 1 * r.val = _
    simp
  · show 128 + 1 * j.val = _
    simp

/-- The table's third part. -/
theorem ld17_at (x : Vec Ideal S512x384 .f32) (r : Fin 512) (j : Fin 128) : View.ld x r0_17 (ix2 r j : S512x128.Idx) = x (ix2 r ⟨256 + j.val, by omega⟩) := by
  refine congrArg x (ix2_of _ _ _ ?_ ?_)
  · show 0 + 1 * r.val = _
    simp
  · show 256 + 1 * j.val = _
    simp

open Cert.Reference4Ideal.Out (rH rP q0 q1 q2 q3 q4 q5 q6 q7)

/-- The reference's projections of the kernel's arguments. -/
def rR : FVec Ideal Cert.Reference4Ideal.S2x8192x3968 .f32 := rP (rH (aX m c) (aM m c)) (aW m c)

/-- A tile's modulated tokens. -/
abbrev tH : FVec Ideal S512x1024 .bf16 := k0_pay3 (F := Ideal) (iblk m c 0 t) (iblk m c 2 t) (iblk m c 1 t)

/-- A projection of a tile's row is the reference's. -/
theorem tproj (r : Fin 512) (n : Fin 3968) (f : Fin 1024 → EReal) (hf : ∀ k, f k = aW m c (ix2 k n)) :
    proj (fun k => tH m c t (ix2 r k)) f = rR m c (ix3 (sq t) (ps t r) n) := by
  refine Eq.trans ?_ (Cert.Reference4Ideal.Out.rP_at (rH (aX m c) (aM m c)) (aW m c) (sq t) (ps t r) n).symm
  rw [funext hf]
  refine congrArg (fun h => proj h fun k => aW m c (ix2 k n)) (funext fun k => ?_)
  refine (pay3_at (iblk m c 0 t) (iblk m c 2 t) (iblk m c 1 t) r k).trans (Eq.trans ?_ (Cert.Reference4Ideal.Out.rH_at (aX m c) (aM m c) (sq t) (ps t r) k).symm)
  rw [funext (x_at m c t r), funext (sc_at m c t), funext (sh_at m c t)]

/-- The queries the kernel writes are the reference's. -/
theorem final11 : (dats m 0 c).arrAt 11 cfg0.N = q0 (rR m c) := by
  refine (dats m 0 c).arrAt_eq_of_covers 11 _ (by decide +kernel) fun t hf y => ?_
  have hy : k0_pay4 (F := Ideal) (iblk m c 0 t) (iblk m c 2 t) (iblk m c 1 t) (View.ld (iblk m c 4 t) r0_2) y = q0 (rR m c) (((cfg0.win 11).blk t).view.emb y) := by
    obtain ⟨r, j, rfl⟩ : ∃ (r : Fin 512) (j : Fin 512), y = (ix2 r j : S512x512.Idx) := ⟨y 0, y 1, eq_ix2 (n0 := 512) (n1 := 512) y⟩
    have e : ((cfg0.win 11).blk t).view.emb (ix2 r j : S512x512.Idx) = (ix2 (tok t r) j : S16384x512.Idx) := by
      unfold tok
      blk_ext [idx_val t]
    refine (pay4_at _ _ _ _ r j).trans (Eq.trans ?_ ((Cert.Reference4Ideal.Out.q0_at (rR m c) _ _ _ (tok_sq t r) (tok_ps t r) j).symm.trans (congrArg (q0 (rR m c)) e.symm)))
    exact tproj m c t r _ _ fun k => (ld2_at _ k j).trans (w_at m c t k _)
  blk_simp
  rw [after0_11]
  unfold_out out0_11
  frame_out
  exact hy

/-- The keys the kernel writes are the reference's. -/
theorem final12 : (dats m 0 c).arrAt 12 cfg0.N = q1 (rR m c) := by
  refine (dats m 0 c).arrAt_eq_of_covers 12 _ (by decide +kernel) fun t hf y => ?_
  have hy : k0_pay5 (F := Ideal) (iblk m c 0 t) (iblk m c 2 t) (iblk m c 1 t) (View.ld (iblk m c 4 t) r0_4) y = q1 (rR m c) (((cfg0.win 12).blk t).view.emb y) := by
    obtain ⟨r, j, rfl⟩ : ∃ (r : Fin 512) (j : Fin 512), y = (ix2 r j : S512x512.Idx) := ⟨y 0, y 1, eq_ix2 (n0 := 512) (n1 := 512) y⟩
    have e : ((cfg0.win 12).blk t).view.emb (ix2 r j : S512x512.Idx) = (ix2 (tok t r) j : S16384x512.Idx) := by
      unfold tok
      blk_ext [idx_val t]
    refine (pay5_at _ _ _ _ r j).trans (Eq.trans ?_ ((Cert.Reference4Ideal.Out.q1_at (rR m c) _ _ _ (tok_sq t r) (tok_ps t r) j).symm.trans (congrArg (q1 (rR m c)) e.symm)))
    exact congrArg (fun a : EReal => a * kfac) (tproj m c t r _ _ fun k => (ld4_at _ k j).trans (w_at m c t k _))
  blk_simp
  rw [after0_12]
  unfold_out out0_12
  frame_out
  exact hy

/-- The values the kernel writes are the reference's. -/
theorem final13 : (dats m 0 c).arrAt 13 cfg0.N = q2 (rR m c) := by
  refine (dats m 0 c).arrAt_eq_of_covers 13 _ (by decide +kernel) fun t hf y => ?_
  have hy : k0_pay6 (F := Ideal) (iblk m c 0 t) (iblk m c 2 t) (iblk m c 1 t) (View.ld (iblk m c 4 t) r0_5) y = q2 (rR m c) (((cfg0.win 13).blk t).view.emb y) := by
    obtain ⟨r, j, rfl⟩ : ∃ (r : Fin 512) (j : Fin 512), y = (ix2 r j : S512x512.Idx) := ⟨y 0, y 1, eq_ix2 (n0 := 512) (n1 := 512) y⟩
    have e : ((cfg0.win 13).blk t).view.emb (ix2 r j : S512x512.Idx) = (ix2 (tok t r) j : S16384x512.Idx) := by
      unfold tok
      blk_ext [idx_val t]
    refine (pay6_at _ _ _ _ r j).trans (Eq.trans ?_ ((Cert.Reference4Ideal.Out.q2_at (rR m c) _ _ _ (tok_sq t r) (tok_ps t r) j).symm.trans (congrArg (q2 (rR m c)) e.symm)))
    exact tproj m c t r _ _ fun k => (ld5_at _ k j).trans (w_at m c t k _)
  blk_simp
  rw [after0_13]
  unfold_out out0_13
  frame_out
  exact hy

/-- The output gate the kernel writes are the reference's. -/
theorem final15 : (dats m 0 c).arrAt 15 cfg0.N = q3 (rR m c) := by
  refine (dats m 0 c).arrAt_eq_of_covers 15 _ (by decide +kernel) fun t hf y => ?_
  have hy : k0_pay9 (F := Ideal) (tH m c t) (View.ld (iblk m c 4 t) r0_9) y = q3 (rR m c) (((cfg0.win 15).blk t).view.emb y) := by
    obtain ⟨r, j, rfl⟩ : ∃ (r : Fin 512) (j : Fin 512), y = (ix2 r j : S512x512.Idx) := ⟨y 0, y 1, eq_ix2 (n0 := 512) (n1 := 512) y⟩
    have e : ((cfg0.win 15).blk t).view.emb (ix2 r j : S512x512.Idx) = (ix2 (tok t r) j : S16384x512.Idx) := by
      unfold tok
      blk_ext [idx_val t]
    refine (pay9_at _ _ r j).trans (Eq.trans ?_ ((Cert.Reference4Ideal.Out.q3_at (rR m c) _ _ _ (tok_sq t r) (tok_ps t r) j).symm.trans (congrArg (q3 (rR m c)) e.symm)))
    exact tproj m c t r _ _ fun k => (ld9_at _ k j).trans (w_at m c t k _)
  blk_simp
  rw [after0_15]
  unfold_out out0_15
  frame_out
  exact hy

/-- The mLSTM's SiLU branch the kernel writes are the reference's. -/
theorem final16 : (dats m 0 c).arrAt 16 cfg0.N = q4 (rR m c) := by
  refine (dats m 0 c).arrAt_eq_of_covers 16 _ (by decide +kernel) fun t hf y => ?_
  have hy : k0_pay10 (F := Ideal) (tH m c t) (View.ld (iblk m c 4 t) r0_10) y = q4 (rR m c) (((cfg0.win 16).blk t).view.emb y) := by
    obtain ⟨r, j, rfl⟩ : ∃ (r : Fin 512) (j : Fin 512), y = (ix2 r j : S512x512.Idx) := ⟨y 0, y 1, eq_ix2 (n0 := 512) (n1 := 512) y⟩
    have e : ((cfg0.win 16).blk t).view.emb (ix2 r j : S512x512.Idx) = (ix2 (tok t r) j : S16384x512.Idx) := by
      unfold tok
      blk_ext [idx_val t]
    refine (pay10_at _ _ r j).trans (Eq.trans ?_ ((Cert.Reference4Ideal.Out.q4_at (rR m c) _ _ _ (tok_sq t r) (tok_ps t r) j).symm.trans (congrArg (q4 (rR m c)) e.symm)))
    exact tproj m c t r _ _ fun k => (ld10_at _ k j).trans (w_at m c t k _)
  blk_simp
  rw [after0_16]
  unfold_out out0_16
  frame_out
  exact hy

/-- The attention's SiLU branch the kernel writes are the reference's. -/
theorem final17 : (dats m 0 c).arrAt 17 cfg0.N = q5 (rR m c) := by
  refine (dats m 0 c).arrAt_eq_of_covers 17 _ (by decide +kernel) fun t hf y => ?_
  have hy : k0_pay11 (F := Ideal) (tH m c t) (View.ld (iblk m c 4 t) r0_11) y = q5 (rR m c) (((cfg0.win 17).blk t).view.emb y) := by
    obtain ⟨r, j, rfl⟩ : ∃ (r : Fin 512) (j : Fin 512), y = (ix2 r j : S512x512.Idx) := ⟨y 0, y 1, eq_ix2 (n0 := 512) (n1 := 512) y⟩
    have e : ((cfg0.win 17).blk t).view.emb (ix2 r j : S512x512.Idx) = (ix2 (tok t r) j : S16384x512.Idx) := by
      unfold tok
      blk_ext [idx_val t]
    refine (pay11_at _ _ r j).trans (Eq.trans ?_ ((Cert.Reference4Ideal.Out.q5_at (rR m c) _ _ _ (tok_sq t r) (tok_ps t r) j).symm.trans (congrArg (q5 (rR m c)) e.symm)))
    exact tproj m c t r _ _ fun k => (ld11_at _ k j).trans (w_at m c t k _)
  blk_simp
  rw [after0_17]
  unfold_out out0_17
  frame_out
  exact hy

/-- The latent the kernel writes is the reference's. -/
theorem final18 : (dats m 0 c).arrAt 18 cfg0.N = q6 (rR m c) (aG m c) := by
  refine (dats m 0 c).arrAt_eq_of_covers 18 _ (by decide +kernel) fun t hf y => ?_
  have hy : k0_pay12 (F := Ideal) (tH m c t) (View.ld (iblk m c 4 t) r0_12) (iblk m c 7 t) y = q6 (rR m c) (aG m c) (((cfg0.win 18).blk t).view.emb y) := by
    obtain ⟨r, j, rfl⟩ : ∃ (r : Fin 512) (j : Fin 256), y = (ix2 r j : S512x256.Idx) := ⟨y 0, y 1, eq_ix2 (n0 := 512) (n1 := 256) y⟩
    have e : ((cfg0.win 18).blk t).view.emb (ix2 r j : S512x256.Idx) = (ix2 (tok t r) j : S16384x256.Idx) := by
      unfold tok
      blk_ext [idx_val t]
    refine (pay12_at _ _ _ r j).trans (Eq.trans ?_ ((Cert.Reference4Ideal.Out.q6_at (rR m c) _ _ _ (tok_sq t r) (tok_ps t r) (aG m c) j).symm.trans (congrArg (q6 (rR m c) (aG m c)) e.symm)))
    rw [funext fun j => tproj m c t r _ _ fun k => (ld12_at (iblk m c 4 t) k j).trans (w_at m c t k _), funext (g_at m c t)]
  blk_simp
  rw [after0_18]
  unfold_out out0_18
  frame_out
  exact hy

/-- The rotary key the kernel writes is the reference's. -/
theorem final19 : (dats m 0 c).arrAt 19 cfg0.N = q7 (rR m c) (aC m c) (aS m c) := by
  refine (dats m 0 c).arrAt_eq_of_covers 19 _ (by decide +kernel) fun t hf y => ?_
  have hy : k0_pay16 (F := Ideal) (k0_pay15 (k0_pay7 (iblk m c 0 t) (iblk m c 2 t) (iblk m c 1 t) (View.ld (iblk m c 4 t) r0_6))
      (View.ld (iblk m c 3 t) r0_15) (View.ld (iblk m c 3 t) r0_16) (View.ld (iblk m c 3 t) r0_17)) y = q7 (rR m c) (aC m c) (aS m c) (((cfg0.win 19).blk t).view.emb y) := by
    obtain ⟨z, q, r, rfl⟩ : ∃ (z : Fin 1) (q : Fin 32) (r : Fin 512), y = (ix3 z q r : S1x32x512.Idx) := ⟨y 0, y 1, y 2, eq_ix3 (n0 := 1) (n1 := 32) (n2 := 512) y⟩
    obtain rfl : z = 0 := Subsingleton.elim _ _
    have e : ((cfg0.win 19).blk t).view.emb (ix3 0 q r : S1x32x512.Idx) = (ix3 (sq t) q (ps t r) : S2x32x8192.Idx) := by
      unfold sq ps
      blk_ext [idx_val t]
    refine Eq.trans ?_ ((Cert.Reference4Ideal.Out.q7_at (rR m c) (sq t) (ps t r) (aC m c) (aS m c) q).symm.trans (congrArg (q7 (rR m c) (aC m c) (aS m c)) e.symm))
    refine key_at _ _ _ _ q r _ _ _ (fun q => ?_) ?_ ?_ ?_
    · refine (pay7_at _ _ _ _ r _).trans (tproj m c t r _ _ fun k => (ld6_at _ k _).trans ((w_at m c t k _).trans (congrArg (fun n => aW m c (ix2 k n)) (Fin.ext ?_))))
      show 1536 + (192 + q.val) = 1728 + q.val
      omega
    · exact (ld15_at _ r _).trans ((tab_at m c t r _).trans ((tab3_at _ _ _ (ps t r) ⟨64 + q.val, by omega⟩).1.trans (tabC_at (aC m c) (ps t r) q)))
    · exact (ld16_at _ r _).trans ((tab_at m c t r _).trans ((tab3_at _ _ _ (ps t r) ⟨64 + q.val, by omega⟩).2.1.trans (tabL_at (aS m c) (ps t r) q)))
    · exact (ld17_at _ r _).trans ((tab_at m c t r _).trans ((tab3_at _ _ _ (ps t r) ⟨64 + q.val, by omega⟩).2.2.trans (tabH_at (aS m c) (ps t r) q)))
  blk_simp
  rw [after0_19]
  unfold_out out0_19
  frame_out
  exact hy

end Cert.Kernel4Ideal.Out

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Run
public import proofs.«01_k».proof.Proof.Same
public import proofs.«01_k».proof.Proof.Final
public import proofs.«01_k».proof.Proof.OutFinal
public import proofs.«01_k».proof.Proof.SmpFinal
public import proofs.«01_k».proof.Proof.InFinal
public import Idealize.ShloMosaic.Adequacy
public import Idealize.ShloMosaic.Init

@[expose] public section

set_option maxRecDepth 16384

noncomputable section

namespace Cert.Proof

open Idealize.ShloMosaic Idealize.SL.Sem

/-- The idealized kernel runs, its arguments end unchanged and every counter ends at zero. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Att.run_outA (F := Ideal) m ρ)

/-- The kernel runs, its arguments end unchanged and every counter ends at zero: the same run at machine floats. -/
theorem frame_kernel : Cert.quiescent_Kernel (hKernel := Cert.Kernel.Gen.facts) := by
  intro m ρ _
  rw [defs_eq, main_eq]
  exact (θ_run Cert.KernelIdeal.defs _ _).mono (fun _ h => ⟨fun c => (h.1 c).2, h.2⟩) (Cert.KernelIdeal.Att.run_outA (F := Bits) m ρ)

/-- The reference runs, its arguments end unchanged; it declares no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The attention over the extended reals is the softmax-weighted sum of the values, from finite queries and keys. -/
theorem value : Cert.algebraic_KernelIdeal_ReferenceIdeal_pre_finite (hKernelIdeal := Cert.KernelIdeal.Gen.facts)
    (hReferenceIdeal := Cert.ReferenceIdeal.Gen.facts) (hPre_finite := Cert.KernelIdeal.Att.factsF) := fun m g m' g' hp ha =>
  ⟨Cert.KernelIdeal.Att.outA m,
    (θ_run Cert.KernelIdeal.defs _ _).mono (fun _ h => h.1) (Cert.KernelIdeal.Att.run_outA (F := Ideal) m g),
    (θ_run Cert.ReferenceIdeal.defs _ _).mono
      (fun _ h c => ⟨(h c).1.trans (Cert.KernelIdeal.Att.final m m' hp c (ha c).1 (ha c).2.1 (ha c).2.2).symm, (h c).2⟩)
      (Cert.ReferenceIdeal.Value.run (F := Ideal) m' g')⟩

/-- The output block's kernel runs, its arguments end unchanged and every counter ends at zero. -/
theorem frame_kernel2 : Cert.quiescent_Kernel2 (hKernel2 := Cert.Kernel2.Gen.facts) := fun m ρ _ => Cert.Kernel2.Gen.frame m ρ

/-- So does its idealized form. -/
theorem frame_kernel2Ideal : Cert.quiescent_Kernel2Ideal (hKernel2Ideal := Cert.Kernel2Ideal.Gen.facts) := fun m ρ _ => Cert.Kernel2Ideal.Gen.frame m ρ

/-- The output block's reference runs, its arguments end unchanged; it declares no counter. -/
theorem frame_reference2 : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The output block over the extended reals is its mathematics, where both SiLU branches are finite. -/
theorem value2 : Cert.algebraic_Kernel2Ideal_Reference2Ideal_pre_finite2 (hKernel2Ideal := Cert.Kernel2Ideal.Gen.facts)
    (hReference2Ideal := Cert.Reference2Ideal.Gen.facts) (hPre_finite2 := Cert.Kernel2Ideal.Out.factsF2) := by
  intro m g m' g' hp ha
  refine ⟨fun c => Cert.Reference2Ideal.Value.res_out0 (F := Ideal) m' c, ?_, Cert.Reference2Ideal.Value.run (F := Ideal) m' g'⟩
  have hF : ∀ c, (Cert.Kernel2Ideal.Gen.dats m 0 c).arrAt 12 Cert.Kernel2Ideal.cfg0.N = Cert.Reference2Ideal.Value.res_out0 (F := Ideal) m' c := fun c => by
    obtain ⟨h0, h1, h2, h3, h4, h5, h6, h7, h8, h9, h10, h11⟩ := ha c
    exact Cert.Kernel2Ideal.Out.final m hp m' c h0 h1 h2 h3 h4 h5 h6 h8 h9 h10 h11
  exact (θ_run Cert.Kernel2Ideal.defs _ _).mono (fun _ h c => ⟨(h c).1.trans (hF c), (h c).2⟩) (Cert.Kernel2Ideal.Value.run_blocks (F := Ideal) m g)

/-- The sample's output block's kernel runs, its arguments end unchanged and every counter ends at zero. -/
theorem frame_kernel3 : Cert.quiescent_Kernel3 (hKernel3 := Cert.Kernel3.Gen.facts) := fun m ρ _ => Cert.Kernel3.Gen.frame m ρ

/-- So does its idealized form. -/
theorem frame_kernel3Ideal : Cert.quiescent_Kernel3Ideal (hKernel3Ideal := Cert.Kernel3Ideal.Gen.facts) := fun m ρ _ => Cert.Kernel3Ideal.Gen.frame m ρ

/-- The sample's output block's reference runs, its arguments end unchanged; it declares no counter. -/
theorem frame_reference3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The sample's output block over the extended reals is its mathematics, where both SiLU branches are finite. -/
theorem value3 : Cert.algebraic_Kernel3Ideal_Reference3Ideal_pre_finite3 (hKernel3Ideal := Cert.Kernel3Ideal.Gen.facts)
    (hReference3Ideal := Cert.Reference3Ideal.Gen.facts) (hPre_finite3 := Cert.Kernel3Ideal.Out.factsF3) := by
  intro m g m' g' hp ha
  refine ⟨fun c => Cert.Reference3Ideal.Value.res_out0 (F := Ideal) m' c, ?_, Cert.Reference3Ideal.Value.run (F := Ideal) m' g'⟩
  have hF : ∀ c, (Cert.Kernel3Ideal.Gen.dats m 0 c).arrAt 12 Cert.Kernel3Ideal.cfg0.N = Cert.Reference3Ideal.Value.res_out0 (F := Ideal) m' c := fun c => by
    obtain ⟨h0, h1, h2, h3, h4, h5, h6, h7, h8, h9, h10, h11⟩ := ha c
    exact Cert.Kernel3Ideal.Out.final m hp m' c h0 h1 h2 h3 h4 h5 h6 h7 h8 h9 h10 h11
  exact (θ_run Cert.Kernel3Ideal.defs _ _).mono (fun _ h c => ⟨(h c).1.trans (hF c), (h c).2⟩) (Cert.Kernel3Ideal.Value.run_blocks (F := Ideal) m g)

/-- The input block's kernel runs, its arguments end unchanged and every counter ends at zero. -/
theorem frame_kernel4 : Cert.quiescent_Kernel4 (hKernel4 := Cert.Kernel4.Gen.facts) := fun m ρ _ => Cert.Kernel4.Gen.frame m ρ

/-- So does its idealized form. -/
theorem frame_kernel4Ideal : Cert.quiescent_Kernel4Ideal (hKernel4Ideal := Cert.Kernel4Ideal.Gen.facts) := fun m ρ _ => Cert.Kernel4Ideal.Gen.frame m ρ

/-- The input block's reference runs, its arguments end unchanged; it declares no counter. -/
theorem frame_reference4 : Cert.quiescent_Reference4Ideal (hReference4Ideal := Cert.Reference4Ideal.Gen.facts) := fun m ρ _ =>
  (θ_run Cert.Reference4Ideal.defs _ _).mono
    (fun r h => ⟨fun c => (h c).2.2.2.2.2.2.2.2, Idealize.ShloMosaic.sem_eq_zero_of_no_sems (by decide) r.2⟩)
    (Cert.Reference4Ideal.Value.run (F := Ideal) m ρ)

open Cert.Reference4Ideal.Out in
/-- The input block over the extended reals is its mathematics, of any arguments. -/
theorem value4 : Cert.algebraic_Kernel4Ideal_Reference4Ideal (hKernel4Ideal := Cert.Kernel4Ideal.Gen.facts)
    (hReference4Ideal := Cert.Reference4Ideal.Gen.facts) := by
  intro m g m' g' hp ha
  refine ⟨fun c => q0 (Cert.Kernel4Ideal.Out.rR m c), fun c => q1 (Cert.Kernel4Ideal.Out.rR m c), fun c => q2 (Cert.Kernel4Ideal.Out.rR m c),
    fun c => q3 (Cert.Kernel4Ideal.Out.rR m c), fun c => q4 (Cert.Kernel4Ideal.Out.rR m c), fun c => q5 (Cert.Kernel4Ideal.Out.rR m c),
    fun c => q6 (Cert.Kernel4Ideal.Out.rR m c) (Cert.Kernel4Ideal.Out.aG m c),
    fun c => q7 (Cert.Kernel4Ideal.Out.rR m c) (Cert.Kernel4Ideal.Out.aC m c) (Cert.Kernel4Ideal.Out.aS m c), ?_, ?_⟩
  · refine (θ_run Cert.Kernel4Ideal.defs _ _).mono (fun _ h c => ?_) (Cert.Kernel4Ideal.Value.run_blocks (F := Ideal) m g)
    obtain ⟨w0, w1, w2, _, w4, w5, w6, w7, w8, _, _, _, hA⟩ := h c
    exact ⟨w0.trans (Cert.Kernel4Ideal.Out.final11 m c), w1.trans (Cert.Kernel4Ideal.Out.final12 m c), w2.trans (Cert.Kernel4Ideal.Out.final13 m c),
      w4.trans (Cert.Kernel4Ideal.Out.final15 m c), w5.trans (Cert.Kernel4Ideal.Out.final16 m c), w6.trans (Cert.Kernel4Ideal.Out.final17 m c),
      w7.trans (Cert.Kernel4Ideal.Out.final18 m c), w8.trans (Cert.Kernel4Ideal.Out.final19 m c), hA⟩
  · refine (θ_run Cert.Reference4Ideal.defs _ _).mono (fun _ h c => ?_) (Cert.Reference4Ideal.Value.run (F := Ideal) m' g')
    obtain ⟨h0, h1, h2, h3, h4, h5, h6, h7, h8, h9, h10, h11⟩ := ha c
    have hR : rP (rH (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1)))
        (m' ((c.tc : Thread Cert.Reference4Ideal.nD Cert.Reference4Ideal.τ).loc Cert.Reference4Ideal.main_arg4)) = Cert.Kernel4Ideal.Out.rR m c := by
      rw [h0, h1, h4]
      rfl
    obtain ⟨w0, w1, w2, w3, w4, w5, w6, w7, hA⟩ := h c
    refine ⟨w0.trans (congrArg q0 hR), w1.trans (congrArg q1 hR), w2.trans (congrArg q2 hR), w3.trans (congrArg q3 hR), w4.trans (congrArg q4 hR),
      w5.trans (congrArg q5 hR), w6.trans ?_, w7.trans ?_, hA⟩
    · exact (congrArg (fun P => q6 P _) hR).trans (congrArg (q6 _) h8)
    · refine (congrArg (fun P => q7 P _ _) hR).trans ?_
      exact congrArg₂ (q7 _) h2 h3

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.KernelIdeal.Att.factsF, Cert.Kernel2Ideal.Out.factsF2, Cert.Kernel3Ideal.Out.factsF3,
  frame_kernel, frame_kernelIdeal, fun m ρ _ => frame_kernelIdeal m ρ trivial, frame_reference, fun m ρ _ => frame_reference m ρ trivial,
  frame_kernel2, frame_kernel2Ideal, fun m ρ _ => frame_kernel2Ideal m ρ trivial, frame_reference2, fun m ρ _ => frame_reference2 m ρ trivial,
  frame_kernel3, frame_kernel3Ideal, fun m ρ _ => frame_kernel3Ideal m ρ trivial, frame_reference3, fun m ρ _ => frame_reference3 m ρ trivial,
  frame_kernel4, frame_kernel4Ideal, frame_reference4,
  trivial, value, trivial, value2, trivial, value3, trivial, value4⟩

end Cert.Proof

end
